-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_routable [hPre_routable : Cert.Pre_routable.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_routable.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_routable [hPre_routable : Cert.Pre_routable.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_routable.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_routable [hKernel6Ideal : Cert.Kernel6Ideal.Facts] [hPre_routable : Cert.Pre_routable.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_routable m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_routable [hReference6Ideal : Cert.Reference6Ideal.Facts] [hPre_routable : Cert.Pre_routable.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_routable m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.bf16_pair.BufferStatement Cert.Kernel4Ideal.S262144x2x128 Cert.Kernel4Ideal.S262144x1x128
  ∧ IdealRules.bf16_pair.BufferStatement Cert.Kernel4Ideal.S4096x2x128 Cert.Kernel4Ideal.S4096x1x128
  ∧ IdealRules.bf16_pair.PackStatement Cert.Kernel4Ideal.S256x1024
  ∧ IdealRules.bf16_pair.Statement Cert.Kernel4Ideal.S256x2x128 Cert.Kernel4Ideal.S256x1x128

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v9_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_v15_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v294) = v0 c
          ∧ r.2.mem ((c.tc : Thread Cert.Reference5Ideal.nD Cert.Reference5Ideal.τ).loc Cert.Reference5Ideal.main_v295) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_routable [hKernel6Ideal : Cert.Kernel6Ideal.Facts] [hReference6Ideal : Cert.Reference6Ideal.Facts] [hPre_routable : Cert.Pre_routable.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_routable m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)) (v3 : (c : Dev Cert.Kernel6Ideal.nD) → Buf (Elt Ideal) ((c.tc : Thread Cert.Kernel6Ideal.nD Cert.Kernel6Ideal.τ).loc Cert.Kernel6Ideal.main_v6_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_v6_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v49) = v0 c
          ∧ r.2.mem ((c.tc : Thread Cert.Reference6Ideal.nD Cert.Reference6Ideal.τ).loc Cert.Reference6Ideal.main_v50) = v1 c
          ∧ r.2.mem ((c.tc : Thread Cert.Reference6Ideal.nD Cert.Reference6Ideal.τ).loc Cert.Reference6Ideal.main_v52) = v2 c
          ∧ r.2.mem ((c.tc : Thread Cert.Reference6Ideal.nD Cert.Reference6Ideal.τ).loc Cert.Reference6Ideal.main_v54) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_routable : Cert.Pre_routable.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_routable (hKernel6Ideal := hKernel6Ideal) (hPre_routable := hPre_routable)
    ∧ quiescent_Reference6Ideal (hReference6Ideal := hReference6Ideal)
    ∧ quiescent_Reference6Ideal_pre_routable (hReference6Ideal := hReference6Ideal) (hPre_routable := hPre_routable)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_routable (hKernel6Ideal := hKernel6Ideal) (hReference6Ideal := hReference6Ideal) (hPre_routable := hPre_routable)
-- ==== Pre_finite.lean ====
abbrev S16x2048x20480 : Shape := ⟨3, ![16, 2048, 20480]⟩
abbrev S16x2048x6144 : Shape := ⟨3, ![16, 2048, 6144]⟩
abbrev S_ : Shape := ⟨0, ![]⟩

class Facts : Prop where
  slices_S16x2048x20480_S16x2048x6144_0_0_2048 : S16x2048x20480.Slices ![0, 0, 2048] S16x2048x6144
  bitsLt_bf16_f32 : FTy.bits .bf16 < FTy.bits .f32
  bcast_S_S16x2048x6144 : S_.BroadcastsInDim S16x2048x6144 (![] : Fin 0 → Fin S16x2048x6144.rank)

variable [Facts]

def fn {F : FTy → Type} [FloatOps F] (main_arg0 : FVec F S16x2048x20480 .bf16) : IVec S16x2048x6144 1 :=
  let main_v0 : FVec F S16x2048x6144 .bf16 := (extractStridedSlice S16x2048x6144 ![0, 0, 2048] · slices_S16x2048x20480_S16x2048x6144_0_0_2048) main_arg0
  let main_v1 : FVec F S16x2048x6144 .f32 := (extf .f32 · bitsLt_bf16_f32) main_v0
  let main_cst : FVec F S_ .f32 := constant S_ .f32 0x7F800000#32
  let main_v2 : FVec F S16x2048x6144 .f32 := broadcastInDim S16x2048x6144 ![] bcast_S_S16x2048x6144 main_cst
  let main_v3 : IVec S16x2048x6144 1 := cmpf .olt main_v1 main_v2
  let main_cst_0 : FVec F S_ .f32 := constant S_ .f32 0xFF800000#32
  let main_v4 : FVec F S16x2048x6144 .f32 := broadcastInDim S16x2048x6144 ![] bcast_S_S16x2048x6144 main_cst_0
  let main_v5 : IVec S16x2048x6144 1 := cmpf .ogt main_v1 main_v4
  let main_v6 : IVec S16x2048x6144 1 := andi main_v3 main_v5
  main_v6
-- ==== Pre_routable.lean ====
abbrev S32768x2048 : Shape := ⟨2, ![32768, 2048]⟩
abbrev S4x2048x64 : Shape := ⟨3, ![4, 2048, 64]⟩
abbrev S4x64 : Shape := ⟨2, ![4, 64]⟩
abbrev S_ : Shape := ⟨0, ![]⟩
abbrev S1x2048x64 : Shape := ⟨3, ![1, 2048, 64]⟩
abbrev S2048x64 : Shape := ⟨2, ![2048, 64]⟩
abbrev S1x64 : Shape := ⟨2, ![1, 64]⟩
abbrev S64 : Shape := ⟨1, ![64]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  slices_S4x2048x64_S1x2048x64_0_0_0 : S4x2048x64.Slices ![0, 0, 0] S1x2048x64
  shapeCasts_S1x2048x64_S2048x64 : S1x2048x64.ShapeCasts S2048x64
  bcast_S_S2048x64 : S_.BroadcastsInDim S2048x64 (![] : Fin 0 → Fin S2048x64.rank)
  reducesTo_S2048x64_S_d0_1 : S2048x64.ReducesTo [0, 1] S_
  slices_S4x64_S1x64_0_0 : S4x64.Slices ![0, 0] S1x64
  shapeCasts_S1x64_S64 : S1x64.ShapeCasts S64
  bcast_S_S64 : S_.BroadcastsInDim S64 (![] : Fin 0 → Fin S64.rank)
  reducesTo_S64_S_d0 : S64.ReducesTo [0] S_

variable [Facts]

def fn_part1 {F : FTy → Type} [FloatOps F] (main_v14 : IVec S_ 1) (main_v16 : FVec F S64 .f32) (main_cst_4 : FVec F S_ .f32) : IVec S_ 1 :=
  let main_v17 : FVec F S64 .f32 := broadcastInDim S64 ![] bcast_S_S64 main_cst_4
  let main_v18 : IVec S64 1 := cmpf .ogt main_v16 main_v17
  let main_c_5 : IVec S_ 1 := constantI S_ 1 1#1
  let main_v19 : IVec S_ 1 := (fun x v => Host.reduce IntOp.andi x v reducesTo_S64_S_d0 h_S_) main_v18 main_c_5
  let main_v20 : IVec S_ 1 := andi main_v14 main_v19
  main_v20

def fn {F : FTy → Type} [FloatOps F] (main_arg0 : FVec F S32768x2048 .f32) (main_arg1 : FVec F S4x2048x64 .f32) (main_arg2 : FVec F S4x64 .f32) : IVec S_ 1 :=
  let main_cst : FVec F S_ .f32 := constant S_ .f32 0x7F800000#32
  let main_v0 : FVec F S32768x2048 .f32 := broadcastInDim S32768x2048 ![] bcast_S_S32768x2048 main_cst
  let main_v1 : IVec S32768x2048 1 := cmpf .olt main_arg0 main_v0
  let main_cst_0 : FVec F S_ .f32 := constant S_ .f32 0xFF800000#32
  let main_v2 : FVec F S32768x2048 .f32 := broadcastInDim S32768x2048 ![] bcast_S_S32768x2048 main_cst_0
  let main_v3 : IVec S32768x2048 1 := cmpf .ogt main_arg0 main_v2
  let main_v4 : IVec S32768x2048 1 := andi main_v1 main_v3
  let main_c : IVec S_ 1 := constantI S_ 1 1#1
  let main_v5 : IVec S_ 1 := (fun x v => Host.reduce IntOp.andi x v reducesTo_S32768x2048_S_d0_1 h_S_) main_v4 main_c
  let main_v6 : FVec F S1x2048x64 .f32 := (extractStridedSlice S1x2048x64 ![0, 0, 0] · slices_S4x2048x64_S1x2048x64_0_0_0) main_arg1
  let main_v7 : FVec F S2048x64 .f32 := shapeCast S2048x64 main_v6 shapeCasts_S1x2048x64_S2048x64
  let main_cst_1 : FVec F S_ .f32 := constant S_ .f32 0x7F800000#32
  let main_v8 : FVec F S2048x64 .f32 := broadcastInDim S2048x64 ![] bcast_S_S2048x64 main_cst_1
  let main_v9 : IVec S2048x64 1 := cmpf .olt main_v7 main_v8
  let main_cst_2 : FVec F S_ .f32 := constant S_ .f32 0xFF800000#32
  let main_v10 : FVec F S2048x64 .f32 := broadcastInDim S2048x64 ![] bcast_S_S2048x64 main_cst_2
  let main_v11 : IVec S2048x64 1 := cmpf .ogt main_v7 main_v10
  let main_v12 : IVec S2048x64 1 := andi main_v9 main_v11
  let main_c_3 : IVec S_ 1 := constantI S_ 1 1#1
  let main_v13 : IVec S_ 1 := (fun x v => Host.reduce IntOp.andi x v reducesTo_S2048x64_S_d0_1 h_S_) main_v12 main_c_3
  let main_v14 : IVec S_ 1 := andi main_v5 main_v13
  let main_v15 : FVec F S1x64 .f32 := (extractStridedSlice S1x64 ![0, 0] · slices_S4x64_S1x64_0_0) main_arg2
  let main_v16 : FVec F S64 .f32 := shapeCast S64 main_v15 shapeCasts_S1x64_S64
  let main_cst_4 : FVec F S_ .f32 := constant S_ .f32 0xFF800000#32
  fn_part1 (F := F) main_v14 main_v16 main_cst_4
-- ==== Kernel.lean ====
abbrev S16x2048x20480 : Shape := ⟨3, ![16, 2048, 20480]⟩
abbrev S16x2048x1024 : Shape := ⟨3, ![16, 2048, 1024]⟩
abbrev S1x2048x128 : Shape := ⟨3, ![1, 2048, 128]⟩
abbrev S2048x128 : Shape := ⟨2, ![2048, 128]⟩
abbrev S3x2048x128 : Shape := ⟨3, ![3, 2048, 128]⟩
abbrev S128x256 : Shape := ⟨2, ![128, 256]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S1x256x128 : Shape := ⟨3, ![1, 256, 128]⟩
abbrev S256x128 : Shape := ⟨2, ![256, 128]⟩

abbrev nBuf : Space → Nat
  | .hbm => 2
  | .vmem => 26
  | .smem => 0
  | _ => 0

abbrev bufTy : (tb : Table) → Fin (tcTables nBuf tb) → BufTy
  | .hbm, ⟨0, _⟩ => ⟨S16x2048x20480, .bf16⟩
  | .hbm, ⟨1, _⟩ => ⟨S16x2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S3x2048x128, .f32⟩
  | .local _ .vmem, ⟨24, _⟩ => ⟨S3x2048x128, .f32⟩
  | .local _ .vmem, ⟨25, _⟩ => ⟨S3x2048x128, .f32⟩
  | _, _ => ⟨S16x2048x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2048x20480 : Shape := ⟨3, ![16, 2048, 20480]⟩
abbrev S16x2048x2048 : Shape := ⟨3, ![16, 2048, 2048]⟩
abbrev S16x2048x3072 : Shape := ⟨3, ![16, 2048, 3072]⟩
abbrev S16x2048x6144 : Shape := ⟨3, ![16, 2048, 6144]⟩
abbrev S16x2048x3x8x128 : Shape := ⟨5, ![16, 2048, 3, 8, 128]⟩
abbrev S3x2048x2048 : Shape := ⟨3, ![3, 2048, 2048]⟩
abbrev S_ : Shape := ⟨0, ![]⟩
abbrev S16x3x8x2048x2048 : Shape := ⟨5, ![16, 3, 8, 2048, 2048]⟩
abbrev S1x3x1x2048x2048 : Shape := ⟨5, ![1, 3, 1, 2048, 2048]⟩
abbrev S16x3x8x2048 : Shape := ⟨4, ![16, 3, 8, 2048]⟩
abbrev S16x3x8x2048x1 : Shape := ⟨5, ![16, 3, 8, 2048, 1]⟩
abbrev S16x3x8x2048x128 : Shape := ⟨5, ![16, 3, 8, 2048, 128]⟩
abbrev S16x8x2048 : Shape := ⟨3, ![16, 8, 2048]⟩
abbrev S16x1x8x2048 : Shape := ⟨4, ![16, 1, 8, 2048]⟩
abbrev S16x2048x8x128 : Shape := ⟨4, ![16, 2048, 8, 128]⟩
abbrev S16x2048x1024 : Shape := ⟨3, ![16, 2048, 1024]⟩

abbrev nBuf : Space → Nat
  | .hbm => 96
  | .vmem => 0
  | .smem => 0
  | _ => 0

abbrev bufTy : (tb : Table) → Fin (tcTables nBuf tb) → BufTy
  | .hbm, ⟨0, _⟩ => ⟨S16x2048x20480, .bf16⟩
  | .hbm, ⟨1, _⟩ => ⟨S16x2048x20480, .f32⟩
  | .hbm, ⟨2, _⟩ => ⟨S16x2048x2048, .f32⟩
  | .hbm, ⟨3, _⟩ => ⟨S16x2048x3072, .f32⟩
  | .hbm, ⟨4, _⟩ => ⟨S16x2048x3072, .f32⟩
  | .hbm, ⟨5, _⟩ => ⟨S16x2048x3072, .f32⟩
  | .hbm, ⟨6, _⟩ => ⟨S16x2048x3072, .f32⟩
  | .hbm, ⟨7, _⟩ => ⟨S16x2048x6144, .f32⟩
  | .hbm, ⟨8, _⟩ => ⟨S16x2048x3x8x128, .f32⟩
  | .hbm, ⟨9, _⟩ => ⟨S16x2048x3x8x128, .f32⟩
  | .hbm, ⟨10, _⟩ => ⟨S16x2048x3x8x128, .f32⟩
  | .hbm, ⟨11, _⟩ => ⟨S3x2048x2048, .i32⟩
  | .hbm, ⟨12, _⟩ => ⟨S3x2048x2048, .i32⟩
  | .hbm, ⟨13, _⟩ => ⟨S3x2048x2048, .i32⟩
  | .hbm, ⟨14, _⟩ => ⟨S_, .i32⟩
  | .hbm, ⟨15, _⟩ => ⟨S3x2048x2048, .i32⟩
  | .hbm, ⟨16, _⟩ => ⟨S3x2048x2048, .i1⟩
  | .hbm, ⟨17, _⟩ => ⟨S_, .i32⟩
  | .hbm, ⟨18, _⟩ => ⟨S3x2048x2048, .i32⟩
  | .hbm, ⟨19, _⟩ => ⟨S3x2048x2048, .i1⟩
  | .hbm, ⟨20, _⟩ => ⟨S_, .i32⟩
  | .hbm, ⟨21, _⟩ => ⟨S_, .i32⟩
  | .hbm, ⟨22, _⟩ => ⟨S3x2048x2048, .i32⟩
  | .hbm, ⟨23, _⟩ => ⟨S3x2048x2048, .i32⟩
  | .hbm, ⟨24, _⟩ => ⟨S3x2048x2048, .i32⟩
  | .hbm, ⟨25, _⟩ => ⟨S_, .i32⟩
  | .hbm, ⟨26, _⟩ => ⟨S3x2048x2048, .i32⟩
  | .hbm, ⟨27, _⟩ => ⟨S3x2048x2048, .i32⟩
  | .hbm, ⟨28, _⟩ => ⟨S_, .i32⟩
  | .hbm, ⟨29, _⟩ => ⟨S3x2048x2048, .i32⟩
  | .hbm, ⟨30, _⟩ => ⟨S3x2048x2048, .i1⟩
  | .hbm, ⟨31, _⟩ => ⟨S_, .i32⟩
  | .hbm, ⟨32, _⟩ => ⟨S3x2048x2048, .i32⟩
  | .hbm, ⟨33, _⟩ => ⟨S3x2048x2048, .i1⟩
  | .hbm, ⟨34, _⟩ => ⟨S_, .i32⟩
  | .hbm, ⟨35, _⟩ => ⟨S_, .i32⟩
  | .hbm, ⟨36, _⟩ => ⟨S3x2048x2048, .i32⟩
  | .hbm, ⟨37, _⟩ => ⟨S3x2048x2048, .i32⟩
  | .hbm, ⟨38, _⟩ => ⟨S3x2048x2048, .i32⟩
  | .hbm, ⟨39, _⟩ => ⟨S_, .i32⟩
  | .hbm, ⟨40, _⟩ => ⟨S3x2048x2048, .i32⟩
  | .hbm, ⟨41, _⟩ => ⟨S3x2048x2048, .i32⟩
  | .hbm, ⟨42, _⟩ => ⟨S3x2048x2048, .i32⟩
  | .hbm, ⟨43, _⟩ => ⟨S_, .i32⟩
  | .hbm, ⟨44, _⟩ => ⟨S3x2048x2048, .i32⟩
  | .hbm, ⟨45, _⟩ => ⟨S3x2048x2048, .i1⟩
  | .hbm, ⟨46, _⟩ => ⟨S3x2048x2048, .i32⟩
  | .hbm, ⟨47, _⟩ => ⟨S3x2048x2048, .i1⟩
  | .hbm, ⟨48, _⟩ => ⟨S3x2048x2048, .i1⟩
  | .hbm, ⟨49, _⟩ => ⟨S3x2048x2048, .i32⟩
  | .hbm, ⟨50, _⟩ => ⟨S3x2048x2048, .i32⟩
  | .hbm, ⟨51, _⟩ => ⟨S3x2048x2048, .i1⟩
  | .hbm, ⟨52, _⟩ => ⟨S3x2048x2048, .i1⟩
  | .hbm, ⟨53, _⟩ => ⟨S16x3x8x2048x2048, .f32⟩
  | .hbm, ⟨54, _⟩ => ⟨S_, .f32⟩
  | .hbm, ⟨55, _⟩ => ⟨S16x3x8x2048x2048, .f32⟩
  | .hbm, ⟨56, _⟩ => ⟨S16x3x8x2048x2048, .f32⟩
  | .hbm, ⟨57, _⟩ => ⟨S1x3x1x2048x2048, .i1⟩
  | .hbm, ⟨58, _⟩ => ⟨S_, .f32⟩
  | .hbm, ⟨59, _⟩ => ⟨S_, .f32⟩
  | .hbm, ⟨60, _⟩ => ⟨S16x3x8x2048x2048, .i1⟩
  | .hbm, ⟨61, _⟩ => ⟨S16x3x8x2048x2048, .f32⟩
  | .hbm, ⟨62, _⟩ => ⟨S16x3x8x2048x2048, .f32⟩
  | .hbm, ⟨63, _⟩ => ⟨S_, .f32⟩
  | .hbm, ⟨64, _⟩ => ⟨S16x3x8x2048, .f32⟩
  | .hbm, ⟨65, _⟩ => ⟨S16x3x8x2048x1, .f32⟩
  | .hbm, ⟨66, _⟩ => ⟨S16x3x8x2048x2048, .f32⟩
  | .hbm, ⟨67, _⟩ => ⟨S16x3x8x2048x2048, .f32⟩
  | .hbm, ⟨68, _⟩ => ⟨S16x3x8x2048x2048, .f32⟩
  | .hbm, ⟨69, _⟩ => ⟨S_, .f32⟩
  | .hbm, ⟨70, _⟩ => ⟨S16x3x8x2048, .f32⟩
  | .hbm, ⟨71, _⟩ => ⟨S16x3x8x2048, .f32⟩
  | .hbm, ⟨72, _⟩ => ⟨S16x3x8x2048, .f32⟩
  | .hbm, ⟨73, _⟩ => ⟨S16x3x8x2048, .f32⟩
  | .hbm, ⟨74, _⟩ => ⟨S16x3x8x2048x1, .f32⟩
  | .hbm, ⟨75, _⟩ => ⟨S16x3x8x2048x2048, .f32⟩
  | .hbm, ⟨76, _⟩ => ⟨S16x3x8x2048x2048, .f32⟩
  | .hbm, ⟨77, _⟩ => ⟨S16x3x8x2048x2048, .f32⟩
  | .hbm, ⟨78, _⟩ => ⟨S16x3x8x2048x128, .f32⟩
  | .hbm, ⟨79, _⟩ => ⟨S_, .f32⟩
  | .hbm, ⟨80, _⟩ => ⟨S16x8x2048, .f32⟩
  | .hbm, ⟨81, _⟩ => ⟨S_, .f32⟩
  | .hbm, ⟨82, _⟩ => ⟨S16x8x2048, .f32⟩
  | .hbm, ⟨83, _⟩ => ⟨S16x8x2048, .f32⟩
  | .hbm, ⟨84, _⟩ => ⟨S16x1x8x2048, .f32⟩
  | .hbm, ⟨85, _⟩ => ⟨S16x3x8x2048, .f32⟩
  | .hbm, ⟨86, _⟩ => ⟨S16x3x8x2048, .f32⟩
  | .hbm, ⟨87, _⟩ => ⟨S16x3x8x2048, .f32⟩
  | .hbm, ⟨88, _⟩ => ⟨S_, .f32⟩
  | .hbm, ⟨89, _⟩ => ⟨S16x8x2048, .f32⟩
  | .hbm, ⟨90, _⟩ => ⟨S16x1x8x2048, .f32⟩
  | .hbm, ⟨91, _⟩ => ⟨S16x3x8x2048, .f32⟩
  | .hbm, ⟨92, _⟩ => ⟨S16x3x8x2048, .f32⟩
  | .hbm, ⟨93, _⟩ => ⟨S16x2048x8x128, .f32⟩
  | .hbm, ⟨94, _⟩ => ⟨S16x2048x1024, .f32⟩
  | .hbm, ⟨95, _⟩ => ⟨S16x2048x1024, .bf16⟩
  | _, _ => ⟨S16x2048x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_c : Ref sig .tc := ⟨.hbm, 14, rfl⟩
abbrev main_v13 : Ref sig .tc := ⟨.hbm, 15, rfl⟩
abbrev main_v14 : Ref sig .tc := ⟨.hbm, 16, rfl⟩
abbrev main_c_0 : Ref sig .tc := ⟨.hbm, 17, rfl⟩
abbrev main_v15 : Ref sig .tc := ⟨.hbm, 18, rfl⟩
abbrev main_v16 : Ref sig .tc := ⟨.hbm, 19, rfl⟩
abbrev main_c_1 : Ref sig .tc := ⟨.hbm, 20, rfl⟩
abbrev main_c_2 : Ref sig .tc := ⟨.hbm, 21, rfl⟩
abbrev main_call0_v0 : Ref sig .tc := ⟨.hbm, 22, rfl⟩
abbrev main_call0_v1 : Ref sig .tc := ⟨.hbm, 23, rfl⟩
abbrev main_v17 : Ref sig .tc := ⟨.hbm, 24, rfl⟩
abbrev main_c_3 : Ref sig .tc := ⟨.hbm, 25, rfl⟩
abbrev main_call1_v0 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_c_7 : Ref sig .tc := ⟨.hbm, 35, rfl⟩
abbrev main_call2_v0 : Ref sig .tc := ⟨.hbm, 36, rfl⟩
abbrev main_call2_v1 : Ref sig .tc := ⟨.hbm, 37, rfl⟩
abbrev main_v23 : Ref sig .tc := ⟨.hbm, 38, rfl⟩
abbrev main_c_8 : Ref sig .tc := ⟨.hbm, 39, rfl⟩
abbrev main_call3_v0 : Ref sig .tc := ⟨.hbm, 40, rfl⟩
abbrev main_v24 : Ref sig .tc := ⟨.hbm, 41, rfl⟩
abbrev main_v25 : Ref sig .tc := ⟨.hbm, 42, rfl⟩
abbrev main_c_9 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_v39 : Ref sig .tc := ⟨.hbm, 62, rfl⟩
abbrev main_cst_11 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_12 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_cst_14 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩

abbrev nD : Nat := 1
abbrev τ : Topo := Topo.v7x

variable {F : FTy → Type} [FloatOps F]
-- ==== Kernel2.lean ====
abbrev S16x2048x2048 : Shape := ⟨3, ![16, 2048, 2048]⟩
abbrev S4x2048x20480 : Shape := ⟨3, ![4, 2048, 20480]⟩
abbrev S32768x2048 : Shape := ⟨2, ![32768, 2048]⟩
abbrev S32768x20480 : Shape := ⟨2, ![32768, 20480]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048x2048, .f32⟩
  | .hbm, ⟨1, _⟩ => ⟨S4x2048x20480, .f32⟩
  | .hbm, ⟨2, _⟩ => ⟨S32768x2048, .f32⟩
  | .hbm, ⟨3, _⟩ => ⟨S32768x2048, .bf16⟩
  | .hbm, ⟨4, _⟩ => ⟨S32768x20480, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![20, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16x2048x2048 : Shape := ⟨3, ![16, 2048, 2048]⟩
abbrev S4x2048x20480 : Shape := ⟨3, ![4, 2048, 20480]⟩
abbrev S32768x2048 : Shape := ⟨2, ![32768, 2048]⟩
abbrev S1x2048x20480 : Shape := ⟨3, ![1, 2048, 20480]⟩
abbrev S2048x20480 : Shape := ⟨2, ![2048, 20480]⟩
abbrev S32768x20480 : Shape := ⟨2, ![32768, 20480]⟩

abbrev nBuf : Space → Nat
  | .hbm => 7
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S4x2048x20480, .f32⟩
  | .hbm, ⟨2, _⟩ => ⟨S32768x2048, .f32⟩
  | .hbm, ⟨3, _⟩ => ⟨S1x2048x20480, .f32⟩
  | .hbm, ⟨4, _⟩ => ⟨S2048x20480, .f32⟩
  | .hbm, ⟨5, _⟩ => ⟨S32768x20480, .f32⟩
  | .hbm, ⟨6, _⟩ => ⟨S32768x20480, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S32768x1024 : Shape := ⟨2, ![32768, 1024]⟩
abbrev S32768x20480 : Shape := ⟨2, ![32768, 20480]⟩
abbrev S4x3x1024x2048 : Shape := ⟨4, ![4, 3, 1024, 2048]⟩
abbrev S1x3x1024x2048 : Shape := ⟨4, ![1, 3, 1024, 2048]⟩
abbrev S3x1024x2048 : Shape := ⟨3, ![3, 1024, 2048]⟩
abbrev S32768x2048 : Shape := ⟨2, ![32768, 2048]⟩
abbrev S1024x1024 : Shape := ⟨2, ![1024, 1024]⟩
abbrev S3x1024x1024 : Shape := ⟨3, ![3, 1024, 1024]⟩
abbrev S1x1024x1024 : Shape := ⟨3, ![1, 1024, 1024]⟩

abbrev nBuf : Space → Nat
  | .hbm => 9
  | .vmem => 16
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x20480, .bf16⟩
  | .hbm, ⟨4, _⟩ => ⟨S4x3x1024x2048, .f32⟩
  | .hbm, ⟨5, _⟩ => ⟨S1x3x1024x2048, .f32⟩
  | .hbm, ⟨6, _⟩ => ⟨S3x1024x2048, .f32⟩
  | .hbm, ⟨7, _⟩ => ⟨S3x1024x2048, .bf16⟩
  | .hbm, ⟨8, _⟩ => ⟨S32768x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S3x1024x1024, .bf16⟩
  | .local _ .vmem, ⟨13, _⟩ => ⟨S3x1024x1024, .bf16⟩
  | .local _ .vmem, ⟨14, _⟩ => ⟨S1024x1024, .bf16⟩
  | .local _ .vmem, ⟨15, _⟩ => ⟨S1024x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S32768x1024 : Shape := ⟨2, ![32768, 1024]⟩
abbrev S32768x20480 : Shape := ⟨2, ![32768, 20480]⟩
abbrev S4x3x1024x2048 : Shape := ⟨4, ![4, 3, 1024, 2048]⟩
abbrev S1x32768x1024 : Shape := ⟨3, ![1, 32768, 1024]⟩
abbrev S3x32768x1024 : Shape := ⟨3, ![3, 32768, 1024]⟩
abbrev S1x3x1024x2048 : Shape := ⟨4, ![1, 3, 1024, 2048]⟩
abbrev S3x1024x2048 : Shape := ⟨3, ![3, 1024, 2048]⟩
abbrev S3x32768x2048 : Shape := ⟨3, ![3, 32768, 2048]⟩
abbrev S32768x6144 : Shape := ⟨2, ![32768, 6144]⟩
abbrev S_ : Shape := ⟨0, ![]⟩
abbrev S32768x3x2048 : Shape := ⟨3, ![32768, 3, 2048]⟩
abbrev S32768x2048 : Shape := ⟨2, ![32768, 2048]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x20480, .bf16⟩
  | .hbm, ⟨4, _⟩ => ⟨S4x3x1024x2048, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S32768x20480, .f32⟩
  | .hbm, ⟨9, _⟩ => ⟨S1x32768x1024, .f32⟩
  | .hbm, ⟨10, _⟩ => ⟨S1x32768x1024, .f32⟩
  | .hbm, ⟨11, _⟩ => ⟨S1x32768x1024, .f32⟩
  | .hbm, ⟨12, _⟩ => ⟨S3x32768x1024, .f32⟩
  | .hbm, ⟨13, _⟩ => ⟨S1x3x1024x2048, .f32⟩
  | .hbm, ⟨14, _⟩ => ⟨S3x1024x2048, .f32⟩
  | .hbm, ⟨15, _⟩ => ⟨S3x32768x2048, .f32⟩
  | .hbm, ⟨16, _⟩ => ⟨S32768x6144, .f32⟩
  | .hbm, ⟨17, _⟩ => ⟨S32768x6144, .f32⟩
  | .hbm, ⟨18, _⟩ => ⟨S32768x6144, .f32⟩
  | .hbm, ⟨19, _⟩ => ⟨S_, .f32⟩
  | .hbm, ⟨20, _⟩ => ⟨S32768x6144, .f32⟩
  | .hbm, ⟨21, _⟩ => ⟨S32768x6144, .f32⟩
  | .hbm, ⟨22, _⟩ => ⟨S_, .f32⟩
  | .hbm, ⟨23, _⟩ => ⟨S32768x6144, .f32⟩
  | .hbm, ⟨24, _⟩ => ⟨S32768x6144, .f32⟩
  | .hbm, ⟨25, _⟩ => ⟨S32768x3x2048, .f32⟩
  | .hbm, ⟨26, _⟩ => ⟨S32768x2048, .f32⟩
  | .hbm, ⟨27, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel4.lean ====
abbrev S32768x2048 : Shape := ⟨2, ![32768, 2048]⟩
abbrev S4x2048x2048 : Shape := ⟨3, ![4, 2048, 2048]⟩
abbrev S4x2048 : Shape := ⟨2, ![4, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S262144x128 : Shape := ⟨2, ![262144, 128]⟩
abbrev S512x2048 : Shape := ⟨2, ![512, 2048]⟩
abbrev S4096x128 : Shape := ⟨2, ![4096, 128]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x128 : Shape := ⟨2, ![256, 128]⟩
abbrev S2048x128 : Shape := ⟨2, ![2048, 128]⟩

abbrev nBuf : Space → Nat
  | .hbm => 16
  | .vmem => 11
  | .smem => 0
  | _ => 0

abbrev bufTy : (tb : Table) → Fin (tcTables nBuf tb) → BufTy
  | .hbm, ⟨0, _⟩ => ⟨S32768x2048, .bf16⟩
  | .hbm, ⟨1, _⟩ => ⟨S4x2048x2048, .f32⟩
  | .hbm, ⟨2, _⟩ => ⟨S32768x2048, .f32⟩
  | .hbm, ⟨3, _⟩ => ⟨S4x2048, .f32⟩
  | .hbm, ⟨4, _⟩ => ⟨S4x2048, .f32⟩
  | .hbm, ⟨5, _⟩ => ⟨S1x2048x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S32768x2048, .f32⟩
  | .hbm, ⟨15, _⟩ => ⟨S262144x128, .i32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S4096x128, .i32⟩
  | .local _ .vmem, ⟨10, _⟩ => ⟨S4096x128, .i32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel4Ideal.lean ====
abbrev S32768x2048 : Shape := ⟨2, ![32768, 2048]⟩
abbrev S4x2048x2048 : Shape := ⟨3, ![4, 2048, 2048]⟩
abbrev S4x2048 : Shape := ⟨2, ![4, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S262144x2x128 : Shape := ⟨3, ![262144, 2, 128]⟩
abbrev S262144x1x128 : Shape := ⟨3, ![262144, 1, 128]⟩
abbrev S262144x128 : Shape := ⟨2, ![262144, 128]⟩
abbrev S512x2048 : Shape := ⟨2, ![512, 2048]⟩
abbrev S4096x128 : Shape := ⟨2, ![4096, 128]⟩
abbrev S4096x2x128 : Shape := ⟨3, ![4096, 2, 128]⟩
abbrev S4096x1x128 : Shape := ⟨3, ![4096, 1, 128]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S256x128 : Shape := ⟨2, ![256, 128]⟩
abbrev S2048x2x128 : Shape := ⟨3, ![2048, 2, 128]⟩
abbrev S256x2x128 : Shape := ⟨3, ![256, 2, 128]⟩
abbrev S256x1x128 : Shape := ⟨3, ![256, 1, 128]⟩

abbrev nBuf : Space → Nat
  | .hbm => 16
  | .vmem => 11
  | .smem => 0
  | _ => 0

abbrev bufTy : (tb : Table) → Fin (tcTables nBuf tb) → BufTy
  | .hbm, ⟨0, _⟩ => ⟨S32768x2048, .bf16⟩
  | .hbm, ⟨1, _⟩ => ⟨S4x2048x2048, .f32⟩
  | .hbm, ⟨2, _⟩ => ⟨S32768x2048, .f32⟩
  | .hbm, ⟨3, _⟩ => ⟨S4x2048, .f32⟩
  | .hbm, ⟨4, _⟩ => ⟨S4x2048, .f32⟩
  | .hbm, ⟨5, _⟩ => ⟨S1x2048x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S32768x2048, .f32⟩
  | .hbm, ⟨15, _⟩ => ⟨S262144x2x128, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S4096x2x128, .bf16⟩
  | .local _ .vmem, ⟨10, _⟩ => ⟨S4096x2x128, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x2x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S32768x2048 : Shape := ⟨2, ![32768, 2048]⟩
abbrev S4x2048x2048 : Shape := ⟨3, ![4, 2048, 2048]⟩
abbrev S4x2048 : Shape := ⟨2, ![4, 2048]⟩
abbrev S1x2048x2048 : Shape := ⟨3, ![1, 2048, 2048]⟩
abbrev S2048x2048 : Shape := ⟨2, ![2048, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S2048 : Shape := ⟨1, ![2048]⟩

abbrev nBuf : Space → Nat
  | .hbm => 44
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S4x2048x2048, .f32⟩
  | .hbm, ⟨2, _⟩ => ⟨S32768x2048, .f32⟩
  | .hbm, ⟨3, _⟩ => ⟨S4x2048, .f32⟩
  | .hbm, ⟨4, _⟩ => ⟨S4x2048, .f32⟩
  | .hbm, ⟨5, _⟩ => ⟨S32768x2048, .f32⟩
  | .hbm, ⟨6, _⟩ => ⟨S1x2048x2048, .f32⟩
  | .hbm, ⟨7, _⟩ => ⟨S2048x2048, .f32⟩
  | .hbm, ⟨8, _⟩ => ⟨S32768x2048, .f32⟩
  | .hbm, ⟨9, _⟩ => ⟨S_, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x2048, .f32⟩
  | .hbm, ⟨33, _⟩ => ⟨S32768x2048, .f32⟩
  | .hbm, ⟨34, _⟩ => ⟨S1x2048, .f32⟩
  | .hbm, ⟨35, _⟩ => ⟨S2048, .f32⟩
  | .hbm, ⟨36, _⟩ => ⟨S1x2048, .f32⟩
  | .hbm, ⟨37, _⟩ => ⟨S32768x2048, .f32⟩
  | .hbm, ⟨38, _⟩ => ⟨S32768x2048, .f32⟩
  | .hbm, ⟨39, _⟩ => ⟨S1x2048, .f32⟩
  | .hbm, ⟨40, _⟩ => ⟨S2048, .f32⟩
  | .hbm, ⟨41, _⟩ => ⟨S1x2048, .f32⟩
  | .hbm, ⟨42, _⟩ => ⟨S32768x2048, .f32⟩
  | .hbm, ⟨43, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel5.lean ====
abbrev S16x2048x20480 : Shape := ⟨3, ![16, 2048, 20480]⟩
abbrev S4x31x1024 : Shape := ⟨3, ![4, 31, 1024]⟩
abbrev S4x1024 : Shape := ⟨2, ![4, 1024]⟩
abbrev S4x3x1024 : Shape := ⟨3, ![4, 3, 1024]⟩
abbrev S1x31x1024 : Shape := ⟨3, ![1, 31, 1024]⟩
abbrev S31x1024 : Shape := ⟨2, ![31, 1024]⟩
abbrev S1x1024 : Shape := ⟨2, ![1, 1024]⟩
abbrev S1024 : Shape := ⟨1, ![1024]⟩
abbrev S1x3x1024 : Shape := ⟨3, ![1, 3, 1024]⟩
abbrev S3x1024 : Shape := ⟨2, ![3, 1024]⟩
abbrev S31x8x1024 : Shape := ⟨3, ![31, 8, 1024]⟩
abbrev S248x1024 : Shape := ⟨2, ![248, 1024]⟩
abbrev S16x2048x1024 : Shape := ⟨3, ![16, 2048, 1024]⟩
abbrev S1x512x1024 : Shape := ⟨3, ![1, 512, 1024]⟩
abbrev S1x32x1024 : Shape := ⟨3, ![1, 32, 1024]⟩
abbrev S544x1024 : Shape := ⟨2, ![544, 1024]⟩
abbrev S7x544x1024 : Shape := ⟨3, ![7, 544, 1024]⟩
abbrev S32x1024 : Shape := ⟨2, ![32, 1024]⟩
abbrev S512x1024 : Shape := ⟨2, ![512, 1024]⟩
abbrev S536x1024 : Shape := ⟨2, ![536, 1024]⟩
abbrev S1x536x1024 : Shape := ⟨3, ![1, 536, 1024]⟩
abbrev S4x8x1024 : Shape := ⟨3, ![4, 8, 1024]⟩
abbrev S8x1024 : Shape := ⟨2, ![8, 1024]⟩
abbrev S1x8x1024 : Shape := ⟨3, ![1, 8, 1024]⟩
abbrev S32 : Shape := ⟨1, ![32]⟩
abbrev S32x1 : Shape := ⟨2, ![32, 1]⟩

abbrev nBuf : Space → Nat
  | .hbm => 23
  | .vmem => 30
  | .smem => 0
  | _ => 0

abbrev bufTy : (tb : Table) → Fin (tcTables nBuf tb) → BufTy
  | .hbm, ⟨0, _⟩ => ⟨S16x2048x20480, .bf16⟩
  | .hbm, ⟨1, _⟩ => ⟨S4x31x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x3x1024, .f32⟩
  | .hbm, ⟨6, _⟩ => ⟨S1x31x1024, .f32⟩
  | .hbm, ⟨7, _⟩ => ⟨S31x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x3x1024, .f32⟩
  | .hbm, ⟨15, _⟩ => ⟨S3x1024, .f32⟩
  | .hbm, ⟨16, _⟩ => ⟨S31x8x1024, .f32⟩
  | .hbm, ⟨17, _⟩ => ⟨S248x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S16x2048x1024, .bf16⟩
  | .hbm, ⟨22, _⟩ => ⟨S16x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x32x1024, .bf16⟩
  | .local _ .vmem, ⟨5, _⟩ => ⟨S1x32x1024, .bf16⟩
  | .local _ .vmem, ⟨6, _⟩ => ⟨S1x32x1024, .bf16⟩
  | .local _ .vmem, ⟨7, _⟩ => ⟨S1x32x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x32x1024, .bf16⟩
  | .local _ .vmem, ⟨15, _⟩ => ⟨S1x32x1024, .bf16⟩
  | .local _ .vmem, ⟨16, _⟩ => ⟨S1x32x1024, .bf16⟩
  | .local _ .vmem, ⟨17, _⟩ => ⟨S1x32x1024, .bf16⟩
  | .local _ .vmem, ⟨18, _⟩ => ⟨S248x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S3x1024, .f32⟩
  | .local _ .vmem, ⟨23, _⟩ => ⟨S1x512x1024, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S544x1024, .f32⟩
  | .local _ .vmem, ⟨28, _⟩ => ⟨S544x1024, .f32⟩
  | .local _ .vmem, ⟨29, _⟩ => ⟨S7x544x1024, .f32⟩
  | _, _ => ⟨S16x2048x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_5 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_6 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let c0_i32_0 : BitVec 32 := 0#32
  ![arg0.toNat, v2.toNat, c12_i32.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c13_i32 : BitVec 32 := 13#32
  let c0_i32_0 : BitVec 32 := 0#32
  ![arg0.toNat, v2.toNat, c13_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S248x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference5Ideal.lean ====
abbrev S16x2048x20480 : Shape := ⟨3, ![16, 2048, 20480]⟩
abbrev S4x31x1024 : Shape := ⟨3, ![4, 31, 1024]⟩
abbrev S4x1024 : Shape := ⟨2, ![4, 1024]⟩
abbrev S4x3x1024 : Shape := ⟨3, ![4, 3, 1024]⟩
abbrev S16x2048x1024 : Shape := ⟨3, ![16, 2048, 1024]⟩
abbrev S_ : Shape := ⟨0, ![]⟩
abbrev S1x31x1024 : Shape := ⟨3, ![1, 31, 1024]⟩
abbrev S31x1024 : Shape := ⟨2, ![31, 1024]⟩
abbrev S16x2078x1024 : Shape := ⟨3, ![16, 2078, 1024]⟩
abbrev S1x1024 : Shape := ⟨2, ![1, 1024]⟩
abbrev S1024 : Shape := ⟨1, ![1024]⟩
abbrev S1x1x1024 : Shape := ⟨3, ![1, 1, 1024]⟩
abbrev S16x2048 : Shape := ⟨2, ![16, 2048]⟩
abbrev S16x2048x1 : Shape := ⟨3, ![16, 2048, 1]⟩
abbrev S16x2048x3072 : Shape := ⟨3, ![16, 2048, 3072]⟩
abbrev S1x3x1024 : Shape := ⟨3, ![1, 3, 1024]⟩
abbrev S3x1024 : Shape := ⟨2, ![3, 1024]⟩
abbrev S16x2050x1024 : Shape := ⟨3, ![16, 2050, 1024]⟩

abbrev nBuf : Space → Nat
  | .hbm => 323
  | .vmem => 0
  | .smem => 0
  | _ => 0

abbrev hbmTy0_0 (i : Nat) : BufTy := match i % 128 with
  | 0 => ⟨S16x2048x20480, .bf16⟩
  | 1 => ⟨S4x31x1024, .f32⟩
  | 2 => ⟨S4x1024, .f32⟩
  | 3 => ⟨S4x1024, .f32⟩
  | 4 => ⟨S4x1024, .f32⟩
  | 5 => ⟨S4x3x1024, .f32⟩
  | 6 => ⟨S16x2048x20480, .f32⟩
  | 7 => ⟨S16x2048x1024, .f32⟩
  | 8 => ⟨S16x2048x1024, .f32⟩
  | 9 => ⟨S16x2048x1024, .f32⟩
  | 10 => ⟨S16x2048x1024, .f32⟩
  | 11 => ⟨S_, .f32⟩
  | 12 => ⟨S16x2048x1024, .f32⟩
  | 13 => ⟨S16x2048x1024, .f32⟩
  | 14 => ⟨S_, .f32⟩
  | 15 => ⟨S16x2048x1024, .f32⟩
  | 16 => ⟨S16x2048x1024, .f32⟩
  | 17 => ⟨S16x2048x1024, .f32⟩
  | 18 => ⟨S1x31x1024, .f32⟩
  | 19 => ⟨S31x1024, .f32⟩
  | 20 => ⟨S_, .i32⟩
  | 21 => ⟨S_, .f32⟩
  | 22 => ⟨S16x2078x1024, .f32⟩
  | 23 => ⟨S1x1024, .f32⟩
  | 24 => ⟨S1024, .f32⟩
  | 25 => ⟨S16x2048x1024, .f32⟩
  | 26 => ⟨S1x1x1024, .f32⟩
  | 27 => ⟨S16x2048x1024, .f32⟩
  | 28 => ⟨S16x2048x1024, .f32⟩
  | 29 => ⟨S_, .f32⟩
  | 30 => ⟨S16x2048x1024, .f32⟩
  | 31 => ⟨S16x2048x1024, .f32⟩
  | 32 => ⟨S1x1024, .f32⟩
  | 33 => ⟨S1024, .f32⟩
  | 34 => ⟨S16x2048x1024, .f32⟩
  | 35 => ⟨S1x1x1024, .f32⟩
  | 36 => ⟨S16x2048x1024, .f32⟩
  | 37 => ⟨S16x2048x1024, .f32⟩
  | 38 => ⟨S16x2048x1024, .f32⟩
  | 39 => ⟨S1x1024, .f32⟩
  | 40 => ⟨S1024, .f32⟩
  | 41 => ⟨S16x2048x1024, .f32⟩
  | 42 => ⟨S1x1x1024, .f32⟩
  | 43 => ⟨S16x2048x1024, .f32⟩
  | 44 => ⟨S16x2048x1024, .f32⟩
  | 45 => ⟨S16x2048x1024, .f32⟩
  | 46 => ⟨S1x1024, .f32⟩
  | 47 => ⟨S1024, .f32⟩
  | 48 => ⟨S16x2048x1024, .f32⟩
  | 49 => ⟨S1x1x1024, .f32⟩
  | 50 => ⟨S16x2048x1024, .f32⟩
  | 51 => ⟨S16x2048x1024, .f32⟩
  | 52 => ⟨S16x2048x1024, .f32⟩
  | 53 => ⟨S1x1024, .f32⟩
  | 54 => ⟨S1024, .f32⟩
  | 55 => ⟨S16x2048x1024, .f32⟩
  | 56 => ⟨S1x1x1024, .f32⟩
  | 57 => ⟨S16x2048x1024, .f32⟩
  | 58 => ⟨S16x2048x1024, .f32⟩
  | 59 => ⟨S16x2048x1024, .f32⟩
  | 60 => ⟨S1x1024, .f32⟩
  | 61 => ⟨S1024, .f32⟩
  | 62 => ⟨S16x2048x1024, .f32⟩
  | 63 => ⟨S1x1x1024, .f32⟩
  | 64 => ⟨S16x2048x1024, .f32⟩
  | 65 => ⟨S16x2048x1024, .f32⟩
  | 66 => ⟨S16x2048x1024, .f32⟩
  | 67 => ⟨S1x1024, .f32⟩
  | 68 => ⟨S1024, .f32⟩
  | 69 => ⟨S16x2048x1024, .f32⟩
  | 70 => ⟨S1x1x1024, .f32⟩
  | 71 => ⟨S16x2048x1024, .f32⟩
  | 72 => ⟨S16x2048x1024, .f32⟩
  | 73 => ⟨S16x2048x1024, .f32⟩
  | 74 => ⟨S1x1024, .f32⟩
  | 75 => ⟨S1024, .f32⟩
  | 76 => ⟨S16x2048x1024, .f32⟩
  | 77 => ⟨S1x1x1024, .f32⟩
  | 78 => ⟨S16x2048x1024, .f32⟩
  | 79 => ⟨S16x2048x1024, .f32⟩
  | 80 => ⟨S16x2048x1024, .f32⟩
  | 81 => ⟨S1x1024, .f32⟩
  | 82 => ⟨S1024, .f32⟩
  | 83 => ⟨S16x2048x1024, .f32⟩
  | 84 => ⟨S1x1x1024, .f32⟩
  | 85 => ⟨S16x2048x1024, .f32⟩
  | 86 => ⟨S16x2048x1024, .f32⟩
  | 87 => ⟨S16x2048x1024, .f32⟩
  | 88 => ⟨S1x1024, .f32⟩
  | 89 => ⟨S1024, .f32⟩
  | 90 => ⟨S16x2048x1024, .f32⟩
  | 91 => ⟨S1x1x1024, .f32⟩
  | 92 => ⟨S16x2048x1024, .f32⟩
  | 93 => ⟨S16x2048x1024, .f32⟩
  | 94 => ⟨S16x2048x1024, .f32⟩
  | 95 => ⟨S1x1024, .f32⟩
  | 96 => ⟨S1024, .f32⟩
  | 97 => ⟨S16x2048x1024, .f32⟩
  | 98 => ⟨S1x1x1024, .f32⟩
  | 99 => ⟨S16x2048x1024, .f32⟩
  | 100 => ⟨S16x2048x1024, .f32⟩
  | 101 => ⟨S16x2048x1024, .f32⟩
  | 102 => ⟨S1x1024, .f32⟩
  | 103 => ⟨S1024, .f32⟩
  | 104 => ⟨S16x2048x1024, .f32⟩
  | 105 => ⟨S1x1x1024, .f32⟩
  | 106 => ⟨S16x2048x1024, .f32⟩
  | 107 => ⟨S16x2048x1024, .f32⟩
  | 108 => ⟨S16x2048x1024, .f32⟩
  | 109 => ⟨S1x1024, .f32⟩
  | 110 => ⟨S1024, .f32⟩
  | 111 => ⟨S16x2048x1024, .f32⟩
  | 112 => ⟨S1x1x1024, .f32⟩
  | 113 => ⟨S16x2048x1024, .f32⟩
  | 114 => ⟨S16x2048x1024, .f32⟩
  | 115 => ⟨S16x2048x1024, .f32⟩
  | 116 => ⟨S1x1024, .f32⟩
  | 117 => ⟨S1024, .f32⟩
  | 118 => ⟨S16x2048x1024, .f32⟩
  | 119 => ⟨S1x1x1024, .f32⟩
  | 120 => ⟨S16x2048x1024, .f32⟩
  | 121 => ⟨S16x2048x1024, .f32⟩
  | 122 => ⟨S16x2048x1024, .f32⟩
  | 123 => ⟨S1x1024, .f32⟩
  | 124 => ⟨S1024, .f32⟩
  | 125 => ⟨S16x2048x1024, .f32⟩
  | 126 => ⟨S1x1x1024, .f32⟩
  | 127 => ⟨S16x2048x1024, .f32⟩
  | _ => ⟨S16x2048x20480, .bf16⟩

abbrev hbmTy0_1 (i : Nat) : BufTy := match i % 128 with
  | 0 => ⟨S16x2048x1024, .f32⟩
  | 1 => ⟨S16x2048x1024, .f32⟩
  | 2 => ⟨S1x1024, .f32⟩
  | 3 => ⟨S1024, .f32⟩
  | 4 => ⟨S16x2048x1024, .f32⟩
  | 5 => ⟨S1x1x1024, .f32⟩
  | 6 => ⟨S16x2048x1024, .f32⟩
  | 7 => ⟨S16x2048x1024, .f32⟩
  | 8 => ⟨S16x2048x1024, .f32⟩
  | 9 => ⟨S1x1024, .f32⟩
  | 10 => ⟨S1024, .f32⟩
  | 11 => ⟨S16x2048x1024, .f32⟩
  | 12 => ⟨S1x1x1024, .f32⟩
  | 13 => ⟨S16x2048x1024, .f32⟩
  | 14 => ⟨S16x2048x1024, .f32⟩
  | 15 => ⟨S16x2048x1024, .f32⟩
  | 16 => ⟨S1x1024, .f32⟩
  | 17 => ⟨S1024, .f32⟩
  | 18 => ⟨S16x2048x1024, .f32⟩
  | 19 => ⟨S1x1x1024, .f32⟩
  | 20 => ⟨S16x2048x1024, .f32⟩
  | 21 => ⟨S16x2048x1024, .f32⟩
  | 22 => ⟨S16x2048x1024, .f32⟩
  | 23 => ⟨S1x1024, .f32⟩
  | 24 => ⟨S1024, .f32⟩
  | 25 => ⟨S16x2048x1024, .f32⟩
  | 26 => ⟨S1x1x1024, .f32⟩
  | 27 => ⟨S16x2048x1024, .f32⟩
  | 28 => ⟨S16x2048x1024, .f32⟩
  | 29 => ⟨S16x2048x1024, .f32⟩
  | 30 => ⟨S1x1024, .f32⟩
  | 31 => ⟨S1024, .f32⟩
  | 32 => ⟨S16x2048x1024, .f32⟩
  | 33 => ⟨S1x1x1024, .f32⟩
  | 34 => ⟨S16x2048x1024, .f32⟩
  | 35 => ⟨S16x2048x1024, .f32⟩
  | 36 => ⟨S16x2048x1024, .f32⟩
  | 37 => ⟨S1x1024, .f32⟩
  | 38 => ⟨S1024, .f32⟩
  | 39 => ⟨S16x2048x1024, .f32⟩
  | 40 => ⟨S1x1x1024, .f32⟩
  | 41 => ⟨S16x2048x1024, .f32⟩
  | 42 => ⟨S16x2048x1024, .f32⟩
  | 43 => ⟨S16x2048x1024, .f32⟩
  | 44 => ⟨S1x1024, .f32⟩
  | 45 => ⟨S1024, .f32⟩
  | 46 => ⟨S16x2048x1024, .f32⟩
  | 47 => ⟨S1x1x1024, .f32⟩
  | 48 => ⟨S16x2048x1024, .f32⟩
  | 49 => ⟨S16x2048x1024, .f32⟩
  | 50 => ⟨S16x2048x1024, .f32⟩
  | 51 => ⟨S1x1024, .f32⟩
  | 52 => ⟨S1024, .f32⟩
  | 53 => ⟨S16x2048x1024, .f32⟩
  | 54 => ⟨S1x1x1024, .f32⟩
  | 55 => ⟨S16x2048x1024, .f32⟩
  | 56 => ⟨S16x2048x1024, .f32⟩
  | 57 => ⟨S16x2048x1024, .f32⟩
  | 58 => ⟨S1x1024, .f32⟩
  | 59 => ⟨S1024, .f32⟩
  | 60 => ⟨S16x2048x1024, .f32⟩
  | 61 => ⟨S1x1x1024, .f32⟩
  | 62 => ⟨S16x2048x1024, .f32⟩
  | 63 => ⟨S16x2048x1024, .f32⟩
  | 64 => ⟨S16x2048x1024, .f32⟩
  | 65 => ⟨S1x1024, .f32⟩
  | 66 => ⟨S1024, .f32⟩
  | 67 => ⟨S16x2048x1024, .f32⟩
  | 68 => ⟨S1x1x1024, .f32⟩
  | 69 => ⟨S16x2048x1024, .f32⟩
  | 70 => ⟨S16x2048x1024, .f32⟩
  | 71 => ⟨S16x2048x1024, .f32⟩
  | 72 => ⟨S1x1024, .f32⟩
  | 73 => ⟨S1024, .f32⟩
  | 74 => ⟨S16x2048x1024, .f32⟩
  | 75 => ⟨S1x1x1024, .f32⟩
  | 76 => ⟨S16x2048x1024, .f32⟩
  | 77 => ⟨S16x2048x1024, .f32⟩
  | 78 => ⟨S16x2048x1024, .f32⟩
  | 79 => ⟨S1x1024, .f32⟩
  | 80 => ⟨S1024, .f32⟩
  | 81 => ⟨S16x2048x1024, .f32⟩
  | 82 => ⟨S1x1x1024, .f32⟩
  | 83 => ⟨S16x2048x1024, .f32⟩
  | 84 => ⟨S16x2048x1024, .f32⟩
  | 85 => ⟨S16x2048x1024, .f32⟩
  | 86 => ⟨S1x1024, .f32⟩
  | 87 => ⟨S1024, .f32⟩
  | 88 => ⟨S16x2048x1024, .f32⟩
  | 89 => ⟨S1x1x1024, .f32⟩
  | 90 => ⟨S16x2048x1024, .f32⟩
  | 91 => ⟨S16x2048x1024, .f32⟩
  | 92 => ⟨S16x2048x1024, .f32⟩
  | 93 => ⟨S1x1024, .f32⟩
  | 94 => ⟨S1024, .f32⟩
  | 95 => ⟨S16x2048x1024, .f32⟩
  | 96 => ⟨S1x1x1024, .f32⟩
  | 97 => ⟨S16x2048x1024, .f32⟩
  | 98 => ⟨S16x2048x1024, .f32⟩
  | 99 => ⟨S16x2048x1024, .f32⟩
  | 100 => ⟨S1x1024, .f32⟩
  | 101 => ⟨S1024, .f32⟩
  | 102 => ⟨S16x2048x1024, .f32⟩
  | 103 => ⟨S1x1x1024, .f32⟩
  | 104 => ⟨S16x2048x1024, .f32⟩
  | 105 => ⟨S16x2048x1024, .f32⟩
  | 106 => ⟨S16x2048x1024, .f32⟩
  | 107 => ⟨S1x1024, .f32⟩
  | 108 => ⟨S1024, .f32⟩
  | 109 => ⟨S16x2048x1024, .f32⟩
  | 110 => ⟨S1x1x1024, .f32⟩
  | 111 => ⟨S16x2048x1024, .f32⟩
  | 112 => ⟨S16x2048x1024, .f32⟩
  | 113 => ⟨S16x2048x1024, .f32⟩
  | 114 => ⟨S1x1024, .f32⟩
  | 115 => ⟨S1024, .f32⟩
  | 116 => ⟨S1x1x1024, .f32⟩
  | 117 => ⟨S16x2048x1024, .f32⟩
  | 118 => ⟨S16x2048x1024, .f32⟩
  | 119 => ⟨S_, .f32⟩
  | 120 => ⟨S16x2048, .f32⟩
  | 121 => ⟨S16x2048x1, .f32⟩
  | 122 => ⟨S_, .f32⟩
  | 123 => ⟨S16x2048x1, .f32⟩
  | 124 => ⟨S16x2048x1, .f32⟩
  | 125 => ⟨S16x2048x1024, .f32⟩
  | 126 => ⟨S16x2048x1024, .f32⟩
  | 127 => ⟨S16x2048x1024, .f32⟩
  | _ => ⟨S16x2048x20480, .bf16⟩

abbrev hbmTy0_2 (i : Nat) : BufTy := match i % 128 with
  | 0 => ⟨S_, .f32⟩
  | 1 => ⟨S16x2048, .f32⟩
  | 2 => ⟨S16x2048x1, .f32⟩
  | 3 => ⟨S_, .f32⟩
  | 4 => ⟨S16x2048x1, .f32⟩
  | 5 => ⟨S16x2048x1, .f32⟩
  | 6 => ⟨S_, .f32⟩
  | 7 => ⟨S16x2048x1, .f32⟩
  | 8 => ⟨S16x2048x1, .f32⟩
  | 9 => ⟨S16x2048x1, .f32⟩
  | 10 => ⟨S16x2048x1024, .f32⟩
  | 11 => ⟨S16x2048x1024, .f32⟩
  | 12 => ⟨S1x1024, .f32⟩
  | 13 => ⟨S1024, .f32⟩
  | 14 => ⟨S1x1x1024, .f32⟩
  | 15 => ⟨S16x2048x1024, .f32⟩
  | 16 => ⟨S16x2048x1024, .f32⟩
  | 17 => ⟨S1x1024, .f32⟩
  | 18 => ⟨S1024, .f32⟩
  | 19 => ⟨S1x1x1024, .f32⟩
  | 20 => ⟨S16x2048x1024, .f32⟩
  | 21 => ⟨S16x2048x1024, .f32⟩
  | 22 => ⟨S16x2048x1024, .f32⟩
  | 23 => ⟨S16x2048x1024, .f32⟩
  | 24 => ⟨S_, .f32⟩
  | 25 => ⟨S16x2048x1024, .f32⟩
  | 26 => ⟨S16x2048x1024, .f32⟩
  | 27 => ⟨S_, .f32⟩
  | 28 => ⟨S16x2048x1024, .f32⟩
  | 29 => ⟨S16x2048x1024, .f32⟩
  | 30 => ⟨S16x2048x1024, .f32⟩
  | 31 => ⟨S16x2048x3072, .f32⟩
  | 32 => ⟨S16x2048x1024, .f32⟩
  | 33 => ⟨S16x2048x1024, .f32⟩
  | 34 => ⟨S16x2048x1024, .f32⟩
  | 35 => ⟨S16x2048x1024, .f32⟩
  | 36 => ⟨S1x3x1024, .f32⟩
  | 37 => ⟨S3x1024, .f32⟩
  | 38 => ⟨S_, .i32⟩
  | 39 => ⟨S_, .f32⟩
  | 40 => ⟨S16x2050x1024, .f32⟩
  | 41 => ⟨S1x1024, .f32⟩
  | 42 => ⟨S1024, .f32⟩
  | 43 => ⟨S16x2048x1024, .f32⟩
  | 44 => ⟨S1x1x1024, .f32⟩
  | 45 => ⟨S16x2048x1024, .f32⟩
  | 46 => ⟨S16x2048x1024, .f32⟩
  | 47 => ⟨S_, .f32⟩
  | 48 => ⟨S16x2048x1024, .f32⟩
  | 49 => ⟨S16x2048x1024, .f32⟩
  | 50 => ⟨S1x1024, .f32⟩
  | 51 => ⟨S1024, .f32⟩
  | 52 => ⟨S16x2048x1024, .f32⟩
  | 53 => ⟨S1x1x1024, .f32⟩
  | 54 => ⟨S16x2048x1024, .f32⟩
  | 55 => ⟨S16x2048x1024, .f32⟩
  | 56 => ⟨S16x2048x1024, .f32⟩
  | 57 => ⟨S1x1024, .f32⟩
  | 58 => ⟨S1024, .f32⟩
  | 59 => ⟨S16x2048x1024, .f32⟩
  | 60 => ⟨S1x1x1024, .f32⟩
  | 61 => ⟨S16x2048x1024, .f32⟩
  | 62 => ⟨S16x2048x1024, .f32⟩
  | 63 => ⟨S16x2048x1024, .f32⟩
  | 64 => ⟨S16x2048x1024, .f32⟩
  | 65 => ⟨S16x2048x1024, .bf16⟩
  | 66 => ⟨S16x2048x1024, .bf16⟩
  | _ => ⟨S16x2048x20480, .bf16⟩

abbrev hbmTy (i : Nat) : BufTy := match i / 128 with
  | 0 => hbmTy0_0 i
  | 1 => hbmTy0_1 i
  | 2 => hbmTy0_2 i
  | _ => ⟨S16x2048x20480, .bf16⟩

abbrev bufTy : (tb : Table) → Fin (tcTables nBuf tb) → BufTy
  | .hbm, ⟨i, _⟩ => hbmTy i
  | _, _ => ⟨S16x2048x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_cst_2 : Ref sig .tc := ⟨.hbm, 247, rfl⟩
abbrev main_v236 : Ref sig .tc := ⟨.hbm, 248, rfl⟩
abbrev main_v237 : Ref sig .tc := ⟨.hbm, 249, rfl⟩
abbrev main_cst_3 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_cst_4 : Ref sig .tc := ⟨.hbm, 256, rfl⟩
abbrev main_v243 : Ref sig .tc := ⟨.hbm, 257, rfl⟩
abbrev main_v244 : Ref sig .tc := ⟨.hbm, 258, rfl⟩
abbrev main_cst_5 : Ref sig .tc := ⟨.hbm, 259, rfl⟩
abbrev main_v245 : Ref sig .tc := ⟨.hbm, 260, rfl⟩
abbrev main_v246 : Ref sig .tc := ⟨.hbm, 261, rfl⟩
abbrev main_cst_6 : Ref sig .tc := ⟨.hbm, 262, rfl⟩
abbrev main_v247 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_call1_v0 : Ref sig .tc := ⟨.hbm, 278, rfl⟩
abbrev main_call1_v1 : Ref sig .tc := ⟨.hbm, 279, rfl⟩
abbrev main_call1_cst : Ref sig .tc := ⟨.hbm, 280, rfl⟩
abbrev main_call1_v2 : Ref sig .tc := ⟨.hbm, 281, rfl⟩
abbrev main_call1_v3 : Ref sig .tc := ⟨.hbm, 282, rfl⟩
abbrev main_call1_cst_0 : Ref sig .tc := ⟨.hbm, 283, rfl⟩
abbrev main_call1_v4 : Ref sig .tc := ⟨.hbm, 284, rfl⟩
abbrev main_call1_v5 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_c_7 : Ref sig .tc := ⟨.hbm, 294, rfl⟩
abbrev main_call2_v0 : Ref sig .tc := ⟨.hbm, 295, rfl⟩
abbrev main_v270 : Ref sig .tc := ⟨.hbm, 296, rfl⟩
abbrev main_v271 : Ref sig .tc := ⟨.hbm, 297, rfl⟩
abbrev main_v272 : Ref sig .tc := ⟨.hbm, 298, rfl⟩
abbrev main_v273 : Ref sig .tc := ⟨.hbm, 299, rfl⟩
abbrev main_v274 : Ref sig .tc := ⟨.hbm, 300, rfl⟩
abbrev main_v275 : Ref sig .tc := ⟨.hbm, 301, rfl⟩
abbrev main_v276 : Ref sig .tc := ⟨.hbm, 302, rfl⟩
abbrev main_cst_8 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_v280 : Ref sig .tc := ⟨.hbm, 307, rfl⟩
abbrev main_v281 : Ref sig .tc := ⟨.hbm, 308, rfl⟩
abbrev main_v282 : Ref sig .tc := ⟨.hbm, 309, rfl⟩
abbrev main_v283 : Ref sig .tc := ⟨.hbm, 310, rfl⟩
abbrev main_v284 : Ref sig .tc := ⟨.hbm, 311, rfl⟩
abbrev main_v285 : Ref sig .tc := ⟨.hbm, 312, rfl⟩
abbrev main_v286 : Ref sig .tc := ⟨.hbm, 313, rfl⟩
abbrev main_v287 : Ref sig .tc := ⟨.hbm, 314, rfl⟩
abbrev main_v288 : Ref sig .tc := ⟨.hbm, 315, rfl⟩
abbrev main_v289 : Ref sig .tc := ⟨.hbm, 316, rfl⟩
abbrev main_v290 : Ref sig .tc := ⟨.hbm, 317, rfl⟩
abbrev main_v291 : Ref sig .tc := ⟨.hbm, 318, rfl⟩
abbrev main_v292 : Ref sig .tc := ⟨.hbm, 319, rfl⟩
abbrev main_v293 : Ref sig .tc := ⟨.hbm, 320, rfl⟩
abbrev main_v294 : Ref sig .tc := ⟨.hbm, 321, rfl⟩
abbrev main_v295 : Ref sig .tc := ⟨.hbm, 322, rfl⟩

abbrev nD : Nat := 1
abbrev τ : Topo := Topo.v7x

variable {F : FTy → Type} [FloatOps F]
-- ==== Kernel6.lean ====
abbrev S32768x2048 : Shape := ⟨2, ![32768, 2048]⟩
abbrev S4x2048x64 : Shape := ⟨3, ![4, 2048, 64]⟩
abbrev S4x64 : Shape := ⟨2, ![4, 64]⟩
abbrev S1x2048x64 : Shape := ⟨3, ![1, 2048, 64]⟩
abbrev S2048x64 : Shape := ⟨2, ![2048, 64]⟩
abbrev S1x64 : Shape := ⟨2, ![1, 64]⟩
abbrev S64 : Shape := ⟨1, ![64]⟩
abbrev S64x2048 : Shape := ⟨2, ![64, 2048]⟩
abbrev S64x1 : Shape := ⟨2, ![64, 1]⟩
abbrev S8x32768 : Shape := ⟨2, ![8, 32768]⟩
abbrev S64x128 : Shape := ⟨2, ![64, 128]⟩
abbrev S512x2048 : Shape := ⟨2, ![512, 2048]⟩
abbrev S8x512 : Shape := ⟨2, ![8, 512]⟩
abbrev S64x512 : Shape := ⟨2, ![64, 512]⟩
abbrev S8x8x512 : Shape := ⟨3, ![8, 8, 512]⟩
abbrev S8x1x512 : Shape := ⟨3, ![8, 1, 512]⟩
abbrev S512 : Shape := ⟨1, ![512]⟩
abbrev S1x512 : Shape := ⟨2, ![1, 512]⟩
abbrev S512x512 : Shape := ⟨2, ![512, 512]⟩

abbrev nBuf : Space → Nat
  | .hbm => 13
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S4x2048x64, .f32⟩
  | .hbm, ⟨2, _⟩ => ⟨S4x64, .f32⟩
  | .hbm, ⟨3, _⟩ => ⟨S1x2048x64, .f32⟩
  | .hbm, ⟨4, _⟩ => ⟨S2048x64, .f32⟩
  | .hbm, ⟨5, _⟩ => ⟨S1x64, .f32⟩
  | .hbm, ⟨6, _⟩ => ⟨S64, .f32⟩
  | .hbm, ⟨7, _⟩ => ⟨S64x2048, .f32⟩
  | .hbm, ⟨8, _⟩ => ⟨S64x1, .f32⟩
  | .hbm, ⟨9, _⟩ => ⟨S8x32768, .i32⟩
  | .hbm, ⟨10, _⟩ => ⟨S8x32768, .f32⟩
  | .hbm, ⟨11, _⟩ => ⟨S8x32768, .i32⟩
  | .hbm, ⟨12, _⟩ => ⟨S64x128, .f32⟩
  | .local _ .vmem, ⟨0, _⟩ => ⟨S512x2048, .f32⟩
  | .local _ .vmem, ⟨1, _⟩ => ⟨S512x2048, .f32⟩
  | .local _ .vmem, ⟨2, _⟩ => ⟨S64x2048, .f32⟩
  | .local _ .vmem, ⟨3, _⟩ => ⟨S64x1, .f32⟩
  | .local _ .vmem, ⟨4, _⟩ => ⟨S8x512, .i32⟩
  | .local _ .vmem, ⟨5, _⟩ => ⟨S8x512, .i32⟩
  | .local _ .vmem, ⟨6, _⟩ => ⟨S8x512, .f32⟩
  | .local _ .vmem, ⟨7, _⟩ => ⟨S8x512, .f32⟩
  | .local _ .vmem, ⟨8, _⟩ => ⟨S8x512, .i32⟩
  | .local _ .vmem, ⟨9, _⟩ => ⟨S8x512, .i32⟩
  | .local _ .vmem, ⟨10, _⟩ => ⟨S64x128, .f32⟩
  | .local _ .vmem, ⟨11, _⟩ => ⟨S64x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev main_v6_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S32768x2048 : Shape := ⟨2, ![32768, 2048]⟩
abbrev S4x2048x64 : Shape := ⟨3, ![4, 2048, 64]⟩
abbrev S4x64 : Shape := ⟨2, ![4, 64]⟩
abbrev S1x2048x64 : Shape := ⟨3, ![1, 2048, 64]⟩
abbrev S2048x64 : Shape := ⟨2, ![2048, 64]⟩
abbrev S32768x64 : Shape := ⟨2, ![32768, 64]⟩
abbrev S_ : Shape := ⟨0, ![]⟩
abbrev S1x64 : Shape := ⟨2, ![1, 64]⟩
abbrev S64 : Shape := ⟨1, ![64]⟩
abbrev S32768x8x8 : Shape := ⟨3, ![32768, 8, 8]⟩
abbrev S32768x8x2 : Shape := ⟨3, ![32768, 8, 2]⟩
abbrev S32768x8 : Shape := ⟨2, ![32768, 8]⟩
abbrev S32768x4 : Shape := ⟨2, ![32768, 4]⟩
abbrev S32768x4x1 : Shape := ⟨3, ![32768, 4, 1]⟩
abbrev S8 : Shape := ⟨1, ![8]⟩
abbrev S1x1x8 : Shape := ⟨3, ![1, 1, 8]⟩
abbrev S32768x4x8 : Shape := ⟨3, ![32768, 4, 8]⟩
abbrev S32768x8x1 : Shape := ⟨3, ![32768, 8, 1]⟩
abbrev S1 : Shape := ⟨1, ![1]⟩
abbrev S1x1x1 : Shape := ⟨3, ![1, 1, 1]⟩
abbrev S32768 : Shape := ⟨1, ![32768]⟩
abbrev S32768x1 : Shape := ⟨2, ![32768, 1]⟩
abbrev S1x1x64 : Shape := ⟨3, ![1, 1, 64]⟩
abbrev S32768x8x64 : Shape := ⟨3, ![32768, 8, 64]⟩
abbrev S1x32768 : Shape := ⟨2, ![1, 32768]⟩
abbrev S32768x32768 : Shape := ⟨2, ![32768, 32768]⟩
abbrev S32768x1x64 : Shape := ⟨3, ![32768, 1, 64]⟩
abbrev S8x32768 : Shape := ⟨2, ![8, 32768]⟩
abbrev S64x1 : Shape := ⟨2, ![64, 1]⟩
abbrev S64x128 : Shape := ⟨2, ![64, 128]⟩

abbrev nBuf : Space → Nat
  | .hbm => 102
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S4x2048x64, .f32⟩
  | .hbm, ⟨2, _⟩ => ⟨S4x64, .f32⟩
  | .hbm, ⟨3, _⟩ => ⟨S1x2048x64, .f32⟩
  | .hbm, ⟨4, _⟩ => ⟨S2048x64, .f32⟩
  | .hbm, ⟨5, _⟩ => ⟨S32768x64, .f32⟩
  | .hbm, ⟨6, _⟩ => ⟨S32768x64, .f32⟩
  | .hbm, ⟨7, _⟩ => ⟨S32768x64, .f32⟩
  | .hbm, ⟨8, _⟩ => ⟨S_, .f32⟩
  | .hbm, ⟨9, _⟩ => ⟨S32768x64, .f32⟩
  | .hbm, ⟨10, _⟩ => ⟨S32768x64, .f32⟩
  | .hbm, ⟨11, _⟩ => ⟨S_, .f32⟩
  | .hbm, ⟨12, _⟩ => ⟨S32768x64, .f32⟩
  | .hbm, ⟨13, _⟩ => ⟨S32768x64, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S32768x64, .f32⟩
  | .hbm, ⟨18, _⟩ => ⟨S32768x64, .f32⟩
  | .hbm, ⟨19, _⟩ => ⟨S32768x8x8, .f32⟩
  | .hbm, ⟨20, _⟩ => ⟨S32768x8x2, .f32⟩
  | .hbm, ⟨21, _⟩ => ⟨S32768x8x2, .i32⟩
  | .hbm, ⟨22, _⟩ => ⟨S_, .f32⟩
  | .hbm, ⟨23, _⟩ => ⟨S32768x8, .f32⟩
  | .hbm, ⟨24, _⟩ => ⟨S32768x4, .f32⟩
  | .hbm, ⟨25, _⟩ => ⟨S32768x4, .i32⟩
  | .hbm, ⟨26, _⟩ => ⟨S32768x4x1, .i32⟩
  | .hbm, ⟨27, _⟩ => ⟨S8, .i32⟩
  | .hbm, ⟨28, _⟩ => ⟨S1x1x8, .i32⟩
  | .hbm, ⟨29, _⟩ => ⟨S32768x4x8, .i32⟩
  | .hbm, ⟨30, _⟩ => ⟨S32768x4x8, .i32⟩
  | .hbm, ⟨31, _⟩ => ⟨S32768x4x8, .i1⟩
  | .hbm, ⟨32, _⟩ => ⟨S_, .i1⟩
  | .hbm, ⟨33, _⟩ => ⟨S32768x8, .i1⟩
  | .hbm, ⟨34, _⟩ => ⟨S32768x8x8, .i1⟩
  | .hbm, ⟨35, _⟩ => ⟨S32768x64, .i1⟩
  | .hbm, ⟨36, _⟩ => ⟨S_, .f32⟩
  | .hbm, ⟨37, _⟩ => ⟨S_, .f32⟩
  | .hbm, ⟨38, _⟩ => ⟨S32768x64, .f32⟩
  | .hbm, ⟨39, _⟩ => ⟨S32768x64, .f32⟩
  | .hbm, ⟨40, _⟩ => ⟨S32768x8, .f32⟩
  | .hbm, ⟨41, _⟩ => ⟨S32768x8, .i32⟩
  | .hbm, ⟨42, _⟩ => ⟨S_, .i32⟩
  | .hbm, ⟨43, _⟩ => ⟨S32768x8, .i32⟩
  | .hbm, ⟨44, _⟩ => ⟨S32768x8, .i1⟩
  | .hbm, ⟨45, _⟩ => ⟨S_, .i32⟩
  | .hbm, ⟨46, _⟩ => ⟨S32768x8, .i32⟩
  | .hbm, ⟨47, _⟩ => ⟨S32768x8, .i32⟩
  | .hbm, ⟨48, _⟩ => ⟨S32768x8, .i32⟩
  | .hbm, ⟨49, _⟩ => ⟨S32768x8x1, .i32⟩
  | .hbm, ⟨50, _⟩ => ⟨S1, .i32⟩
  | .hbm, ⟨51, _⟩ => ⟨S_, .i32⟩
  | .hbm, ⟨52, _⟩ => ⟨S32768x8x1, .i32⟩
  | .hbm, ⟨53, _⟩ => ⟨S32768x8x1, .i1⟩
  | .hbm, ⟨54, _⟩ => ⟨S1x1x1, .i32⟩
  | .hbm, ⟨55, _⟩ => ⟨S32768x8x1, .i32⟩
  | .hbm, ⟨56, _⟩ => ⟨S32768x8x1, .i1⟩
  | .hbm, ⟨57, _⟩ => ⟨S32768x8x1, .i1⟩
  | .hbm, ⟨58, _⟩ => ⟨S_, .i1⟩
  | .hbm, ⟨59, _⟩ => ⟨S32768x8, .i1⟩
  | .hbm, ⟨60, _⟩ => ⟨S32768x8, .f32⟩
  | .hbm, ⟨61, _⟩ => ⟨S_, .f32⟩
  | .hbm, ⟨62, _⟩ => ⟨S32768x8, .f32⟩
  | .hbm, ⟨63, _⟩ => ⟨S32768x8, .f32⟩
  | .hbm, ⟨64, _⟩ => ⟨S_, .f32⟩
  | .hbm, ⟨65, _⟩ => ⟨S32768, .f32⟩
  | .hbm, ⟨66, _⟩ => ⟨S32768x1, .f32⟩
  | .hbm, ⟨67, _⟩ => ⟨S32768x8, .f32⟩
  | .hbm, ⟨68, _⟩ => ⟨S32768x8, .f32⟩
  | .hbm, ⟨69, _⟩ => ⟨S_, .f32⟩
  | .hbm, ⟨70, _⟩ => ⟨S32768x8, .f32⟩
  | .hbm, ⟨71, _⟩ => ⟨S32768x8, .f32⟩
  | .hbm, ⟨72, _⟩ => ⟨S32768x8x1, .i32⟩
  | .hbm, ⟨73, _⟩ => ⟨S1x1x64, .i32⟩
  | .hbm, ⟨74, _⟩ => ⟨S32768x8x64, .i32⟩
  | .hbm, ⟨75, _⟩ => ⟨S32768x8x64, .i32⟩
  | .hbm, ⟨76, _⟩ => ⟨S32768x8x64, .i1⟩
  | .hbm, ⟨77, _⟩ => ⟨S32768x8x64, .f32⟩
  | .hbm, ⟨78, _⟩ => ⟨S_, .f32⟩
  | .hbm, ⟨79, _⟩ => ⟨S32768x64, .f32⟩
  | .hbm, ⟨80, _⟩ => ⟨S_, .f32⟩
  | .hbm, ⟨81, _⟩ => ⟨S64, .f32⟩
  | .hbm, ⟨82, _⟩ => ⟨S32768, .i32⟩
  | .hbm, ⟨83, _⟩ => ⟨S1x32768, .i32⟩
  | .hbm, ⟨84, _⟩ => ⟨S32768, .i32⟩
  | .hbm, ⟨85, _⟩ => ⟨S32768x1, .i32⟩
  | .hbm, ⟨86, _⟩ => ⟨S32768x32768, .i32⟩
  | .hbm, ⟨87, _⟩ => ⟨S32768x32768, .i32⟩
  | .hbm, ⟨88, _⟩ => ⟨S32768x32768, .i1⟩
  | .hbm, ⟨89, _⟩ => ⟨S32768x32768, .f32⟩
  | .hbm, ⟨90, _⟩ => ⟨S32768x64, .f32⟩
  | .hbm, ⟨91, _⟩ => ⟨S32768x1x64, .f32⟩
  | .hbm, ⟨92, _⟩ => ⟨S32768x8x64, .f32⟩
  | .hbm, ⟨93, _⟩ => ⟨S32768x8x64, .f32⟩
  | .hbm, ⟨94, _⟩ => ⟨S_, .f32⟩
  | .hbm, ⟨95, _⟩ => ⟨S32768x8, .f32⟩
  | .hbm, ⟨96, _⟩ => ⟨S8x32768, .i32⟩
  | .hbm, ⟨97, _⟩ => ⟨S8x32768, .f32⟩
  | .hbm, ⟨98, _⟩ => ⟨S32768x8, .i32⟩
  | .hbm, ⟨99, _⟩ => ⟨S8x32768, .i32⟩
  | .hbm, ⟨100, _⟩ => ⟨S64x1, .f32⟩
  | .hbm, ⟨101, _⟩ => ⟨S64x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_values : Ref sig .tc := ⟨.hbm, 20, rfl⟩
abbrev main_indices : Ref sig .tc := ⟨.hbm, 21, rfl⟩
abbrev main_cst_1 : Ref sig .tc := ⟨.hbm, 22, rfl⟩
abbrev main_v15 : Ref sig .tc := ⟨.hbm, 23, rfl⟩
abbrev main_values_2 : Ref sig .tc := ⟨.hbm, 24, rfl⟩
abbrev main_indices_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v25 : Ref sig .tc := ⟨.hbm, 39, rfl⟩
abbrev main_values_5 : Ref sig .tc := ⟨.hbm, 40, rfl⟩
abbrev main_indices_6 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_cst : Ref sig .tc := ⟨.hbm, 61, rfl⟩
abbrev main_call1_v14 : Ref sig .tc := ⟨.hbm, 62, rfl⟩
abbrev main_v26 : Ref sig .tc := ⟨.hbm, 63, rfl⟩
abbrev main_cst_7 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst_8 : Ref sig .tc := ⟨.hbm, 69, rfl⟩
abbrev main_v31 : Ref sig .tc := ⟨.hbm, 70, rfl⟩
abbrev main_v32 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v33 : Ref sig .tc := ⟨.hbm, 77, rfl⟩
abbrev main_cst_9 : Ref sig .tc := ⟨.hbm, 78, rfl⟩
abbrev main_v34 : Ref sig .tc := ⟨.hbm, 79, rfl⟩
abbrev main_cst_10 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst_11 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩

abbrev nD : Nat := 1
abbrev τ : Topo := Topo.v7x

variable {F : FTy → Type} [FloatOps F]
-- ==== Proof.InProj.lean ====
/-
  The input projection read at an index. Every grid point leaves in its output block the product of its row block of
  `x` with its column block of the weight; the scratch holds the cast of the current column block, refreshed whenever
  the inner grid coordinate returns to zero and the column block changes. The reference is the same sum.
-/
module

public import proofs.«01_k».proof.Defs
public import proofs.«01_k».proof.Proof.Gen.Kernel2Ideal.Value
public import proofs.«01_k».proof.Proof.Gen.Reference2Ideal.Read
public import Idealize.ShloMosaic.Lib.Pointwise
public import Idealize.ShloMosaic.Lib.Pipeline.Value
public import Idealize.ShloMosaic.Lib.Quiescent

@[expose] public section

noncomputable section

namespace Cert.InProj

open Idealize.ShloMosaic Idealize.ShloMosaic.TcCoe Idealize.SL.Sem
open Idealize.ShloMosaic.Pipeline (Dat)
open Cert.Kernel2Ideal Cert.Kernel2Ideal.Gen
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The weight block as the kernel keeps it. -/
def wcast (x1 : Vec Ideal S1x2048x1024 .f32) : Vec Ideal S2048x1024 .bf16 :=
  truncf (F := Ideal) (φ := .f32) .bf16 (shapeCast S2048x1024 x1 Facts₀.shapeCasts_S1x2048x1024_S2048x1024) Facts₀.bitsLt_bf16_f32

/-- The product of a row block with a kept weight block. -/
def prod (x0 : Vec Ideal S1024x2048 .bf16) (w : Vec Ideal S2048x1024 .bf16) : Vec Ideal S1024x1024 .bf16 :=
  fun j => ∑ k : Fin 2048, x0 (ix2 (j 0) k) * w (ix2 k (j 1))

theorem pay2_eq (x0 : Vec Ideal S1024x2048 .bf16) (w : Vec Ideal S2048x1024 .bf16) : k0_pay2 (F := Ideal) x0 w = prod x0 w := by
  unfold k0_pay2 prod
  funext j
  rw [shapeCast_self]
  simp only [pointwise, zero_add]

theorem pay1_eq (x1 : Vec Ideal S1x2048x1024 .f32) : k0_pay1 (F := Ideal) x1 = wcast x1 := by
  unfold k0_pay1 wcast
  dsimp only
  rw [shapeCast_self]

theorem out_A (c : Dev nD) (t : Fin cfg0.N) (h0 : cond0_0 (grid0.coords t)) (x0 : Vec Ideal S1024x2048 .bf16) (x1 : Vec Ideal S1x2048x1024 .f32) :
    out0_A_2 c (grid0.coords t) (ms0_0 t) (hs0_0 t) (ms0_1 t) (hs0_1 t) (ms0_2 t) (hs0_2 t) scM0_0 (Memref.isWhole_whole _) h0 x0 x1 = prod x0 (wcast x1) := by
  unfold out0_A_2
  rw [View.read_writes_eq_canon _ _ _ (cover0_A_2 c _ _ _ _ _ _ _ _ _ _ _ _)]
  unfold kernelRun0_A
  dsimp only
  sl_unfold_words
  simp only [View.readAt_eq_ld, (hs0_0 t).read_unread, (hs0_1 t).read_unread]
  rw [View.canon_unit_zero hz2, View.readCov_unit_zero _ hz2, View.ld_unit_zero hz2, View.ld_unit_zero hz3, pay2_eq, pay1_eq]

theorem sout_A (c : Dev nD) (t : Fin cfg0.N) (h0 : cond0_0 (grid0.coords t)) (x0 : Vec Ideal S1024x2048 .bf16) (x1 : Vec Ideal S1x2048x1024 .f32) :
    sout0_A_0 c (grid0.coords t) (ms0_0 t) (hs0_0 t) (ms0_1 t) (hs0_1 t) (ms0_2 t) (hs0_2 t) scM0_0 (Memref.isWhole_whole _) h0 x0 x1 = wcast x1 := by
  unfold sout0_A_0
  unfold kernelRun0_A
  dsimp only
  sl_unfold_words
  simp only [View.readAt_eq_ld, (hs0_0 t).read_unread, (hs0_1 t).read_unread]
  rw [View.read_writes_junk_eq_canon, View.canon_unit_zero hz2, View.ld_unit_zero hz3, pay1_eq]

theorem out_B (c : Dev nD) (t : Fin cfg0.N) (h0 : ¬ cond0_0 (grid0.coords t)) (x0 : Vec Ideal S1024x2048 .bf16) (x1 : Vec Ideal S1x2048x1024 .f32)
    (xs : Vec Ideal S2048x1024 .bf16) :
    out0_B_2 c (grid0.coords t) (ms0_0 t) (hs0_0 t) (ms0_1 t) (hs0_1 t) (ms0_2 t) (hs0_2 t) scM0_0 (Memref.isWhole_whole _) h0 x0 x1 xs = prod x0 xs := by
  unfold out0_B_2
  rw [View.read_writes_eq_canon _ _ _ (cover0_B_2 c _ _ _ _ _ _ _ _ _ _ _ _ _)]
  unfold kernelRun0_B
  dsimp only
  sl_unfold_words
  simp only [View.readAt_eq_ld, (hs0_0 t).read_unread, (hs0_1 t).read_unread, (Memref.isWhole_whole _).read_unread]
  rw [View.canon_unit_zero hz2, View.ld_unit_zero hz2, View.ld_unit_zero hz2, pay2_eq]

/-! ## The blocks the windows stage -/

variable (m : (ℓ : Loc nD τ sig) → Buf (Elt Ideal) ℓ)

theorem index0 : ∀ t : Fin grid0.N, win0_0.index t (0 : Fin 2) = t.val % 32 ∧ win0_0.index t (1 : Fin 2) = 0 := by decide +kernel
theorem index1 : ∀ t : Fin grid0.N, win0_1.index t (0 : Fin 3) = 0 ∧ win0_1.index t (1 : Fin 3) = 0 ∧ win0_1.index t (2 : Fin 3) = t.val / 32 := by decide +kernel
theorem index2 : ∀ t : Fin grid0.N, win0_2.index t (0 : Fin 2) = t.val % 32 ∧ win0_2.index t (1 : Fin 2) = t.val / 32 := by decide +kernel

/-- The weights' block depends on the column block of the point only. -/
theorem iblk1_eq (c : Dev nD) (t s : Fin cfg0.N) (h : t.val / 32 = s.val / 32) : iblk m c 1 t = iblk m c 1 s := by
  funext y
  obtain ⟨a0, a1, a2⟩ := index1 t
  obtain ⟨b0, b1, b2⟩ := index1 s
  show V m c main_arg1 (((cfg0.win 1).blk t).view.emb y) = V m c main_arg1 (((cfg0.win 1).blk s).view.emb y)
  congr 1
  funext a
  apply Fin.ext
  match a with
  | ⟨0, _⟩ => show win0_1.index t (0 : Fin 3) * 1 + 1 * (y 0).val = win0_1.index s (0 : Fin 3) * 1 + 1 * (y 0).val; rw [a0, b0]
  | ⟨1, _⟩ => show win0_1.index t (1 : Fin 3) * 2048 + 1 * (y 1).val = win0_1.index s (1 : Fin 3) * 2048 + 1 * (y 1).val; rw [a1, b1]
  | ⟨2, _⟩ => show win0_1.index t (2 : Fin 3) * 1024 + 1 * (y 2).val = win0_1.index s (2 : Fin 3) * 1024 + 1 * (y 2).val; rw [a2, b2, h]

theorem scr_A (c : Dev nD) (t : Fin cfg0.N) (h0 : t.val % 32 = 0) : (outsAt0 m c t.val t.isLt).2 = wcast (iblk m c 1 t) := by
  rw [outsAt0_A m c t h0]
  dsimp only
  rw [sout_A]

theorem scr_B (c : Dev nD) (t : Fin cfg0.N) (h0 : ¬ t.val % 32 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

theorem outs_scr (c : Dev nD) : ∀ (n : ℕ) (t : Fin cfg0.N), t.val = n → (outsAt0 m c t.val t.isLt).2 = wcast (iblk m c 1 t)
  | 0, t, ht => scr_A m c t (by rw [ht])
  | n + 1, t, ht => by
    by_cases h0 : t.val % 32 = 0
    · exact scr_A m c t h0
    · have hl : t.val - 1 < cfg0.N := Nat.lt_of_le_of_lt (Nat.sub_le _ _) t.isLt
      rw [scr_B m c t h0, outs_scr c n ⟨t.val - 1, hl⟩ (by show t.val - 1 = n; omega),
        iblk1_eq m c ⟨t.val - 1, hl⟩ t (by show (t.val - 1) / 32 = t.val / 32; omega)]

theorem outs_out (c : Dev nD) (t : Fin cfg0.N) : (outsAt0 m c t.val t.isLt).1 = prod (iblk m c 0 t) (wcast (iblk m c 1 t)) := by
  by_cases h0 : t.val % 32 = 0
  · rw [outsAt0_A m c t h0]
    dsimp only
    rw [out_A]
  · rw [← outs_scr m c t.val t rfl, scr_B m c t h0, outsAt0_B m c t h0]
    dsimp only
    rw [out_B]

/-- What the call writes: the product of the rows of the activations with the columns of the first layer's weights. -/
def total (X : S32768x2048.Idx → EReal) (W : S4x2048x20480.Idx → EReal) : S32768x20480.Idx → EReal :=
  fun i => ∑ k : Fin 2048, X (ix2 (i 0) k) * W (ix3 0 k (i 1))

theorem wcast_apply (x1 : Vec Ideal S1x2048x1024 .f32) (k : Fin 2048) (j : Fin 1024) : wcast x1 (ix2 k j) = x1 (ix3 0 k j) := by
  unfold wcast
  show shapeCast S2048x1024 x1 _ (ix2 k j) = _
  exact shapeCast_apply x1 _ (ix2 k j) (ix3 0 k j) (by
    rewrite [Shape.rowMajor_val_three, Shape.rowMajor_val_two]
    show (0 * 2048 + k.val) * 1024 + j.val = k.val * 1024 + j.val
    omega)

theorem final (c : Dev nD) : (dats m 0 c).arrAt 2 cfg0.N = total (V m c main_v1) (m (c, main_arg1)) := by
  refine (dats m 0 c).arrAt_eq_of_cover 2 _ (fun t _ => ?_) (fun i => (Value.covered_iff2 i).2 ⟨Nat.zero_le _, (i 0).isLt, Nat.zero_le _, (i 1).isLt⟩)
  rw [Value.flushed2, outs_out]
  funext y
  let X : Vec Ideal S1024x2048 .bf16 := iblk m c 0 t
  show ∑ k : Fin 2048, X (ix2 (⟨(y 0).val, (y 0).isLt⟩ : Fin 1024) k) * wcast (iblk m c 1 t) (ix2 k (⟨(y 1).val, (y 1).isLt⟩ : Fin 1024))
    = total _ _ (((cfg0.win 2).blk t).view.emb y)
  unfold total
  obtain ⟨a0, a1⟩ := index0 t
  obtain ⟨b0, b1, b2⟩ := index1 t
  obtain ⟨e0, e1⟩ := index2 t
  refine Finset.sum_congr rfl fun k _ => ?_
  congr 1
  · show V m c main_v1 (((cfg0.win 0).blk t).view.emb _) = _
    congr 1
    funext a
    apply Fin.ext
    match a with
    | ⟨0, _⟩ => show win0_0.index t (0 : Fin 2) * 1024 + 1 * (y 0).val = win0_2.index t (0 : Fin 2) * 1024 + 1 * (y 0).val; rw [a0, e0]
    | ⟨1, _⟩ => show win0_0.index t (1 : Fin 2) * 2048 + 1 * k.val = k.val; rw [a1]; omega
  · rw [wcast_apply]
    show V m c main_arg1 (((cfg0.win 1).blk t).view.emb _) = _
    rw [V_main_arg1]
    congr 1
    funext a
    apply Fin.ext
    match a with
    | ⟨0, _⟩ => show win0_1.index t (0 : Fin 3) * 1 + 1 * 0 = 0; rw [b0]
    | ⟨1, _⟩ => show win0_1.index t (1 : Fin 3) * 2048 + 1 * k.val = k.val; rw [b1]; omega
    | ⟨2, _⟩ => show win0_1.index t (2 : Fin 3) * 1024 + 1 * (y 1).val = win0_2.index t (1 : Fin 2) * 1024 + 1 * (y 1).val; rw [b2, e1]

/-- The rows of the activations, as the host operations hand them to the call. -/
theorem V_rows (c : Dev nD) :
    (V m c main_v1 : S32768x2048.Idx → EReal) = shapeCast S32768x2048 (m (c, main_arg0)) Facts₀.shapeCasts_S16x2048x2048_S32768x2048 := by
  show StableHlo.after hostOps0 (fun b => m (c, b)) _ = _
  after_results <;> rfl

/-- The reference's result is the same sum of products. -/
theorem reference_total (x : Vec Ideal S16x2048x2048 .f32) (w : Vec Ideal S4x2048x20480 .f32) :
    (Cert.Reference2Ideal.Read.val_main_v4 (F := Ideal) x w : S32768x20480.Idx → EReal)
      = total (shapeCast S32768x2048 x Facts₀.shapeCasts_S16x2048x2048_S32768x2048) w := by
  funext i
  rw [Cert.Reference2Ideal.Read.val_main_v4_apply]
  show Cert.Reference2Ideal.Read.val_main_v3 (F := Ideal) x w i = _
  rw [Cert.Reference2Ideal.Read.val_main_v3_apply]
  unfold total
  refine Finset.sum_congr rfl fun k _ => ?_
  rw [Cert.Reference2Ideal.Read.val_main_v2_apply, Cert.Reference2Ideal.Read.val_main_v1_apply]
  congr 1
  congr 1
  funext a
  apply Fin.ext
  have h1 : (i 1).val < 20480 := (i 1).isLt
  have h0 : k.val < 2048 := k.isLt
  match a with
  | ⟨0, _⟩ => rfl
  | ⟨1, _⟩ => show (k.val * 20480 + (i 1).val) / 20480 % 2048 = k.val; omega
  | ⟨2, _⟩ => show (k.val * 20480 + (i 1).val) % 20480 = (i 1).val; omega

theorem algebraic : Cert.algebraic_Kernel2Ideal_Reference2Ideal := by
  intro m ρ m' ρ' _ hagree
  refine ⟨fun c => (dats m 0 c).arrAt 2 cfg0.N, Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  refine (Cert.Reference2Ideal.Read.val_main_v4_eq (F := Ideal) _ _).trans ?_
  rw [(hagree c).1, (hagree c).2]
  refine (reference_total _ _).trans ?_
  show _ = (dats m 0 c).arrAt 2 cfg0.N
  rw [final, V_rows]

end Cert.InProj

end
-- ==== Proof.OutRunIdeal.lean ====
module

public import proofs.«01_k».proof.Proof.Gen.Kernel4Ideal
public import proofs.«01_k».proof.Proof.Gen.Kernel4Ideal.Skeleton
public import proofs.«01_k».proof.Proof.Gen.Kernel4Ideal.Frame
public import Idealize.ShloMosaic.Lib.Claim

/-! The run of the output projection's call (its ideal program). The window that receives the packed copy of the result is
left undescribed: what the body stores there through strided rows is nowhere read. The other output window is named. -/

@[expose] public section

set_option maxRecDepth 16384

noncomputable section

namespace Cert.Kernel4Ideal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev top : Rect S512x2048 := Rect.unit (s := S512x2048) ![0, 0] S256x2048.size inb_S512x2048_S256x2048_0_0
abbrev bot : Rect S512x2048 := Rect.unit (s := S512x2048) ![256, 0] S256x2048.size inb_S512x2048_S256x2048_256_0
abbrev wAll : Rect S2048x2048 := Rect.unit (s := S2048x2048) ![0, 0] S2048x2048.size inb_S2048x2048_S2048x2048_0_0
abbrev rowAll : Rect S1x2048 := Rect.unit (s := S1x2048) ![0, 0] S1x2048.size inb_S1x2048_S1x2048_0_0

/-- What the body stores in the upper half of the result's block. -/
def upper (x0 : Vec F S512x2048 .bf16) (x1 : Vec F S2048x2048 .bf16) (x2 : Vec F S512x2048 .f32) (x3 : Vec F S1x2048 .f32) (x4 : Vec F S1x2048 .f32) : Vec F S256x2048 .f32 :=
  k0_pay5 (View.ld x0 top) (View.ld x1 wAll) (View.ld x2 top) (View.ld x3 rowAll) (View.ld x4 rowAll)

/-- What it stores in the lower half. -/
def lower (x0 : Vec F S512x2048 .bf16) (x1 : Vec F S2048x2048 .bf16) (x2 : Vec F S512x2048 .f32) (x3 : Vec F S1x2048 .f32) (x4 : Vec F S1x2048 .f32) : Vec F S256x2048 .f32 :=
  k0_pay24 (k0_pay20 (View.ld x3 rowAll)) (k0_pay21 (View.ld x4 rowAll)) (k0_pay22 (View.ld x0 bot) (View.ld x1 wAll) (View.ld x2 bot))
    (k0_pay23 (View.ld x0 bot) (View.ld x1 wAll) (View.ld x2 bot))

/-- The result's block after the body: two halves. -/
def outBlk (x0 : Vec F S512x2048 .bf16) (x1 : Vec F S2048x2048 .bf16) (x2 : Vec F S512x2048 .f32) (x3 : Vec F S1x2048 .f32) (x4 : Vec F S1x2048 .f32) : Vec F S512x2048 .f32 :=
  View.canon [⟨bot, lower x0 x1 x2 x3 x4⟩, ⟨top, upper x0 x1 x2 x3 x4⟩]

theorem outBlk_cover (p0 p1 : Vec F S256x2048 .f32) (y : S512x2048.Idx) :
    ∃ pc ∈ ([⟨bot, p0⟩, ⟨top, p1⟩] : List (View.Piece (Elt F) S512x2048 .f32)), y ∈ pc.1.set :=
  View.cover_of_tiled [⟨bot, p0⟩, ⟨top, p1⟩] S256x2048.size (by rfl) y

set_option maxHeartbeats 4000000 in
/-- The body on whole buffers: the inputs stay, the result is two halves, the packed copy ends at something. -/
theorem body_runs (c : Dev nD) (E : Set ℕ) (i : grid0.Coords) (a1 : Memref sig .tc .vmem S512x2048 .bf16) (h1 : a1.IsWhole) (a2 : Memref sig .tc .vmem S2048x2048 .bf16) (h2 : a2.IsWhole) (a3 : Memref sig .tc .vmem S512x2048 .f32) (h3 : a3.IsWhole) (a4 : Memref sig .tc .vmem S1x2048 .f32) (h4 : a4.IsWhole) (a5 : Memref sig .tc .vmem S1x2048 .f32) (h5 : a5.IsWhole) (a6 : Memref sig .tc .vmem S512x2048 .f32) (h6 : a6.IsWhole) (a7 : Memref sig .tc .vmem S4096x2x128 .bf16) (h7 : a7.IsWhole)
    (x0 : Vec F S512x2048 .bf16) (x1 : Vec F S2048x2048 .bf16) (x2 : Vec F S512x2048 .f32) (x3 : Vec F S1x2048 .f32) (x4 : Vec F S1x2048 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ (∃ d, owns (c : Thread nD τ) a7 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare (outBlk x0 x1 x2 x3 x4) ∗ (∃ d, owns (c : Thread nD τ) a7 fullShare d)) -∗ K ⟨⟩))
      ⊢ wp frame (wpE (defs₀ (F := F)) Variants.none c none) E (cc0_out_proj_ln i a1 h1 a2 h2 a3 h3 a4 h4 a5 h5 a6 h6 a7 h7) K := by
  simp only [cc0_out_proj_ln_eq_skeleton]; unfold cc0_out_proj_ln_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (outBlk_cover _ _)
  iexists _; iexists _; isplitr
  swap; · iexact H6
  ipureintro; rfl

/-- The windows left undescribed. -/
def hidden : Fin cfg0.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => true

/-- The pipeline's arrays and what each point leaves in the buffers. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
    | ⟨6, _⟩ => Dat.unnamed (6 : Fin cfg0.W) t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outBlk (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at a point. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d))
    ∗ (∃ X, owns (c : Thread nD τ) (st0_6 t) fullShare X))

/-- What it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t)
    ∗ (∃ X, owns (c : Thread nD τ) (st0_6 t) fullShare X))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row_eq (t : Fin cfg0.N) :
    defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ hidden := fun t => by
  rw [bigSep_W0, bigSep_W0, row_eq]
  exact triple_restated (body_at m c t) rfl .rfl fun _ => .rfl

/-- What a final state holds. -/
abbrev Ends (r : PUnit × MemSt nD τ sig (Elt F)) : Prop :=
  Pipeline.RDat.FramePost cfg0 (fun c => (dats m 0 c).toRForget hidden) (V m) r

set_option backward.isDefEq.respectTransparency.types false in
set_option maxHeartbeats 800000 in
theorem ends : θ_run defs (onTc (τ := τ) (main (F := F))) (s₀ m ρ) (fun r => Ends m r ∧ r.2.sem = fun _ => 0) :=
  Pipeline.θ_run_frame_forget (Q' := _) cfgs (dats m) (0 : Fin 1) launch0 defs₀ Variants.none hidden m ρ main
    (hbody := fun c => (body_ok m c).loose) (hshare := fun c w => by unfold Dat.share; split <;> rfl)
    (howed := fun _ _ => rfl) (V := V m) (hmain := hmain m Variants.none) (hA := A_eq m) (hΦ := fun _ _ => rfl)

/-- A window not hidden ends at what the points leave. -/
theorem ends_arr {r : PUnit × MemSt nD τ sig (Elt F)} (h : Ends m r) (c : Dev nD) (w : Fin cfg0.W) (hw : hidden w = false) :
    r.2.mem (((cfg0.win w).arr.view.loc (c.tc : Thread nD τ))) = (dats m 0 c).arrAt w cfg0.N :=
  ((dats m 0 c).toRForget_arrAt_iff hw _ _).mp ((h c).1 w)

theorem ends_args {r : PUnit × MemSt nD τ sig (Elt F)} (h : Ends m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(ends_arr m h c 0 rfl).trans (((dats m 0 c).arrAt_in 0 rfl _).trans ((A_eq m c 0).trans (V_main_arg0 m c))),
    ((h c).2 main_arg1 (Pipeline.mem_restRefs_of main_arg1 (by decide) (by decide))).trans (V_main_arg1 m c),
    (ends_arr m h c 2 rfl).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- Every run ends, the arguments unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ends_args m h.1 c, h.2⟩) (ends m ρ)

end Cert.Kernel4Ideal.Out

end
-- ==== Proof.Out.lean ====
/-
  The output projection with its norm read at an index. Every grid point leaves in its output block, row by row, the
  normalized sum of the scaled residual row and the product of its row with the weights, times the gain, plus the shift.
  The reference computes the same rows.
-/
module

public import proofs.«01_k».proof.Defs
public import proofs.«01_k».proof.Proof.OutRunIdeal
public import proofs.«01_k».proof.Proof.Gen.Reference4Ideal.Read
public import Idealize.ShloMosaic.Lib.Pointwise
public import Idealize.ShloMosaic.Lib.Pipeline.Value
public import Idealize.ShloMosaic.Lib.Quiescent

@[expose] public section

noncomputable section

namespace Cert.OutProj

open Idealize.ShloMosaic Idealize.ShloMosaic.TcCoe Idealize.SL.Sem
open Idealize.ShloMosaic.Pipeline (Dat)
open Cert.Kernel4Ideal Cert.Kernel4Ideal.Gen Cert.Kernel4Ideal.Out
open scoped BigOperators

theorem hz2 : (![0, 0] : Fin 2 → Nat) = fun _ => 0 := funext fun a => by fin_cases a <;> rfl

/-! ## A row and its norm -/

/-- The mean of a row's entries. -/
def mean (f : Fin 2048 → EReal) : EReal := Ideal.div (∑ k : Fin 2048, f k) (FloatOps.ofBits (F := Ideal) .f32 0x45000000#32)

/-- A row less its mean. -/
def centered (f : Fin 2048 → EReal) (k : Fin 2048) : EReal := f k - mean f

/-- The reciprocal root of a row's variance, a small constant added. -/
def spread (f : Fin 2048 → EReal) : EReal :=
  Ideal.rsqrt (mean (fun k => centered f k * centered f k) + FloatOps.ofBits (F := Ideal) .f32 0x3727C5AC#32)

/-- The normalized row, with a gain and a shift. -/
def norm (f g b : Fin 2048 → EReal) (k : Fin 2048) : EReal := centered f k * spread f * g k + b k

/-- The row the norm is taken of: the scaled residual plus a row times the weights. -/
def line (x r : Fin 2048 → EReal) (w : Fin 2048 → Fin 2048 → EReal) (k : Fin 2048) : EReal :=
  FloatOps.ofBits (F := Ideal) .f32 0x3FD744FD#32 * r k + ∑ q : Fin 2048, x q * w q k

/-! ## What a grid point stores -/

/-- The rows before the norm. -/
def sums (v0 : Vec Ideal S256x2048 .bf16) (v1 : Vec Ideal S2048x2048 .bf16) (v4 : Vec Ideal S256x2048 .f32) : FVec Ideal S256x2048 .f32 :=
  let w : FVec Ideal S2048x2048 .bf16 := shapeCast S2048x2048 v1 shapeCasts_S2048x2048_S2048x2048
  let z : FVec Ideal S256x2048 .f32 := constant S256x2048 .f32 0x00000000#32
  let p : FVec Ideal S256x2048 .f32 := matmul dot_S256x2048_S2048x2048_S256x2048_1_0_0_1_n_n none (φ₁ := .bf16) v0 w z
  let c : FVec Ideal S256x2048 .f32 := broadcast S256x2048 (Scalar.ofBits (F := Ideal) .f32 0x3FD744FD#32)
  let u : FVec Ideal S256x2048 .f32 := mulf c v4
  addf u p

theorem sums_apply (v0 : Vec Ideal S256x2048 .bf16) (v1 : Vec Ideal S2048x2048 .bf16) (v4 : Vec Ideal S256x2048 .f32) (r : Fin 256) (k : Fin 2048) :
    sums v0 v1 v4 (ix2 r k) = line (fun q => v0 (ix2 r q)) (fun q => v4 (ix2 r q)) (fun q j => v1 (ix2 q j)) k := by
  unfold sums line
  dsimp only
  rw [shapeCast_self]
  simp only [pointwise, zero_add]

/-- The rows less their means. -/
def cents (s : FVec Ideal S256x2048 .f32) : FVec Ideal S256x2048 .f32 :=
  subf s (broadcastTo S256x2048 (divf (shapeCast S256x1 (multiReduction .add [1] S256 s 0x00000000#32 reduces_S256x2048_S256 (.inl rfl) rfl) shapeCasts_S256_S256x1)
    (broadcast S256x1 (Scalar.ofBits .f32 0x45000000#32))) broadcasts_S256x1_S256x2048)

theorem cents_apply (s : FVec Ideal S256x2048 .f32) (r : Fin 256) (k : Fin 2048) :
    cents s (ix2 r k) = centered (fun q => s (ix2 r q)) k := by
  unfold cents centered mean
  simp only [pointwise, zero_add, Nat.reduceEqDiff, ↓reduceDIte]

/-- The reciprocal roots of the rows' variances. -/
def spreads (d : FVec Ideal S256x2048 .f32) : FVec Ideal S256x1 .f32 :=
  rsqrt (addf (divf (shapeCast S256x1 (multiReduction .add [1] S256 (mulf d d) 0x00000000#32 reduces_S256x2048_S256 (.inl rfl) rfl) shapeCasts_S256_S256x1)
    (broadcast S256x1 (Scalar.ofBits .f32 0x45000000#32))) (broadcast S256x1 (Scalar.ofBits .f32 0x3727C5AC#32)))

theorem spreads_apply (s : FVec Ideal S256x2048 .f32) (r : Fin 256) :
    spreads (cents s) (ix2 r 0) = spread (fun q => s (ix2 r q)) := by
  unfold spreads spread mean
  simp only [pointwise, zero_add, cents_apply]

theorem pay5_eq (v0 : Vec Ideal S256x2048 .bf16) (v1 : Vec Ideal S2048x2048 .bf16) (v4 : Vec Ideal S256x2048 .f32) (v8 v10 : Vec Ideal S1x2048 .f32) :
    k0_pay5 (F := Ideal) v0 v1 v4 v8 v10
      = addf (mulf (mulf (cents (sums v0 v1 v4))
          (broadcastTo S256x2048 (spreads (cents (sums v0 v1 v4))) broadcasts_S256x1_S256x2048))
          (broadcastTo S256x2048 v8 broadcasts_S1x2048_S256x2048)) (broadcastTo S256x2048 v10 broadcasts_S1x2048_S256x2048) := by
  unfold k0_pay5 spreads cents sums
  dsimp only
  simp only [shapeCast_self]

theorem pay24_eq (v0 : Vec Ideal S256x2048 .bf16) (v1 : Vec Ideal S2048x2048 .bf16) (v4 : Vec Ideal S256x2048 .f32) (v8 v10 : Vec Ideal S1x2048 .f32) :
    k0_pay24 (F := Ideal) (k0_pay20 v8) (k0_pay21 v10) (k0_pay22 v0 v1 v4) (k0_pay23 v0 v1 v4) = k0_pay5 v0 v1 v4 v8 v10 := by
  unfold k0_pay24 k0_pay23 k0_pay22 k0_pay21 k0_pay20 k0_pay5
  rfl

/-- What the body stores at a row and a column. -/
theorem pay5_apply (v0 : Vec Ideal S256x2048 .bf16) (v1 : Vec Ideal S2048x2048 .bf16) (v4 : Vec Ideal S256x2048 .f32) (v8 v10 : Vec Ideal S1x2048 .f32)
    (r : Fin 256) (k : Fin 2048) :
    k0_pay5 (F := Ideal) v0 v1 v4 v8 v10 (ix2 r k)
      = norm (line (fun q => v0 (ix2 r q)) (fun q => v4 (ix2 r q)) (fun q j => v1 (ix2 q j))) (fun q => v8 (ix2 0 q)) (fun q => v10 (ix2 0 q)) k := by
  rw [pay5_eq]
  unfold norm
  simp only [pointwise, cents_apply, sums_apply, Nat.reduceEqDiff, ↓reduceDIte, OfNat.ofNat_ne_one, spreads_apply]

/-! ## The block of a grid point -/

/-- The rows of a block. -/
def rowsOut (x0 : Vec Ideal S512x2048 .bf16) (x1 : Vec Ideal S2048x2048 .bf16) (x2 : Vec Ideal S512x2048 .f32) (x3 x4 : Vec Ideal S1x2048 .f32) :
    Vec Ideal S512x2048 .f32 := fun y =>
  norm (line (fun q => x0 (ix2 (y 0) q)) (fun q => x2 (ix2 (y 0) q)) (fun q j => x1 (ix2 q j))) (fun q => x3 (ix2 0 q)) (fun q => x4 (ix2 0 q)) (y 1)

/-- Half a block: the rows from `o` on. -/
theorem half (o : ℕ) (ho : o + 256 ≤ 512) (inb : ∀ a, (![o, 0] : Fin 2 → ℕ) a + S256x2048.size a ≤ S512x2048.size a)
    (x0 : Vec Ideal S512x2048 .bf16) (x1 : Vec Ideal S2048x2048 .bf16) (x2 : Vec Ideal S512x2048 .f32) (x3 x4 : Vec Ideal S1x2048 .f32)
    (x : S256x2048.Idx) :
    k0_pay5 (F := Ideal) (View.ld x0 (Rect.unit (s := S512x2048) ![o, 0] S256x2048.size inb)) (View.ld x1 wAll)
        (View.ld x2 (Rect.unit (s := S512x2048) ![o, 0] S256x2048.size inb)) (View.ld x3 rowAll) (View.ld x4 rowAll) x
      = rowsOut x0 x1 x2 x3 x4 ((Rect.unit (s := S512x2048) ![o, 0] S256x2048.size inb).emb x) := by
  obtain ⟨r, k, rfl⟩ : ∃ (r : Fin 256) (k : Fin 2048), x = ix2 r k := ⟨x 0, x 1, eq_ix2 x⟩
  have hr := r.isLt
  have he : (Rect.unit (s := S512x2048) ![o, 0] S256x2048.size inb).emb (ix2 r k) = (ix2 (⟨o + r.val, by omega⟩ : Fin 512) k : S512x2048.Idx) := by
    funext a
    apply Fin.ext
    match a with
    | ⟨0, _⟩ => show o + 1 * r.val = o + r.val; omega
    | ⟨1, _⟩ => show 0 + 1 * k.val = k.val; omega
  rw [he]
  refine (pay5_apply _ _ _ _ _ r k).trans ?_
  rw [View.ld_unit_zero hz2, View.ld_unit_zero hz2, View.ld_unit_zero hz2]
  have h0 : ∀ q : Fin 2048, View.ld x0 (Rect.unit (s := S512x2048) ![o, 0] S256x2048.size inb) (ix2 r q) = x0 (ix2 (⟨o + r.val, by omega⟩ : Fin 512) q) := fun q =>
    congrArg x0 (funext fun a => Fin.ext (match a with
      | ⟨0, _⟩ => congrArg (o + ·) (Nat.one_mul r.val)
      | ⟨1, _⟩ => (Nat.zero_add _).trans (Nat.one_mul q.val)))
  have h2 : ∀ q : Fin 2048, View.ld x2 (Rect.unit (s := S512x2048) ![o, 0] S256x2048.size inb) (ix2 r q) = x2 (ix2 (⟨o + r.val, by omega⟩ : Fin 512) q) := fun q =>
    congrArg x2 (funext fun a => Fin.ext (match a with
      | ⟨0, _⟩ => congrArg (o + ·) (Nat.one_mul r.val)
      | ⟨1, _⟩ => (Nat.zero_add _).trans (Nat.one_mul q.val)))
  unfold rowsOut
  simp only [h0, h2, ix2_0, ix2_1]

theorem outBlk_eq (x0 : Vec Ideal S512x2048 .bf16) (x1 : Vec Ideal S2048x2048 .bf16) (x2 : Vec Ideal S512x2048 .f32) (x3 x4 : Vec Ideal S1x2048 .f32) :
    outBlk (F := Ideal) x0 x1 x2 x3 x4 = rowsOut x0 x1 x2 x3 x4 := by
  funext y
  unfold outBlk
  refine View.canon_apply_of_pieces (Val := Elt Ideal) (e := .f32) (rowsOut x0 x1 x2 x3 x4) _ ?_ y (outBlk_cover _ _ y)
  intro p hp
  rcases List.mem_cons.mp hp with rfl | hp
  · intro x
    show lower x0 x1 x2 x3 x4 x = _
    unfold lower
    rw [pay24_eq]
    exact half 256 (by decide) _ x0 x1 x2 x3 x4 x
  · rcases List.mem_cons.mp hp with rfl | hp
    · intro x
      exact half 0 (by decide) _ x0 x1 x2 x3 x4 x
    · exact absurd hp List.not_mem_nil

/-! ## The blocks the windows stage -/

variable (m : (ℓ : Loc nD τ sig) → Buf (Elt Ideal) ℓ) (ρ : Dev nD → PrngReg)

theorem index_rows : ∀ t : Fin grid0.N, win0_0.index t = ![t.val, 0] ∧ win0_1.index t = ![0, 0] ∧ win0_2.index t = ![t.val, 0]
    ∧ win0_3.index t = ![0, 0] ∧ win0_4.index t = ![0, 0] ∧ win0_5.index t = ![t.val, 0] := by decide +kernel

/-- What the call writes, from the rows of the merged branches and of the residual, the weights, the gain and the shift. -/
def total (X : S32768x2048.Idx → EReal) (W : S2048x2048.Idx → EReal) (R : S32768x2048.Idx → EReal) (g b : Fin 2048 → EReal) :
    S32768x2048.Idx → EReal := fun i =>
  norm (line (fun q => X (ix2 (i 0) q)) (fun q => R (ix2 (i 0) q)) (fun q j => W (ix2 q j))) g b (i 1)

theorem mem_blk5 (t : Fin cfg0.N) (i : S32768x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v9_0).slice (win0_5.rect t)).set ↔ _
  rw [View.set_slice_whole, Rect.mem_set_unit]
  exact Iff.rfl

theorem covered (i : S32768x2048.Idx) : ∃ t : Fin cfg0.N, (cfg0.win 5).flush t = true ∧ i ∈ ((cfg0.win 5).blk t).view.set := by
  have h0 : (i 0).val < 32768 := (i 0).isLt
  have h1 : (i 1).val < 2048 := (i 1).isLt
  have hN : cfg0.N = 64 := N_0
  refine ⟨⟨(i 0).val / 512, by omega⟩, flush0_5 _, (mem_blk5 _ i).2 fun a => ?_⟩
  have e := (index_rows ⟨(i 0).val / 512, by have : grid0.N = 64 := N_0; omega⟩).2.2.2.2.2
  match a with
  | ⟨0, _⟩ => show win0_5.index _ 0 * 512 ≤ (i 0).val ∧ (i 0).val < win0_5.index _ 0 * 512 + 512; rw [e]; show (i 0).val / 512 * 512 ≤ _ ∧ _ < (i 0).val / 512 * 512 + 512; omega
  | ⟨1, _⟩ => show win0_5.index _ 1 * 2048 ≤ (i 1).val ∧ (i 1).val < win0_5.index _ 1 * 2048 + 2048; rw [e]; show 0 * 2048 ≤ _ ∧ _ < 0 * 2048 + 2048; omega

theorem rows0 (c : Dev nD) (t : Fin cfg0.N) (r : Fin 512) (k : Fin 2048) (R : Fin 32768) (hR : R.val = t.val * 512 + r.val) :
    (iblk m c 0 t : Vec Ideal S512x2048 .bf16) (ix2 r k) = (m (c, main_arg0) : S32768x2048.Idx → EReal) (ix2 R k) := by
  have e := (index_rows t).1
  show V m c main_arg0 (((cfg0.win 0).blk t).view.emb _) = _
  rw [V_main_arg0]
  refine congrArg (m (c, main_arg0) : S32768x2048.Idx → EReal) (funext fun a => Fin.ext ?_)
  match a with
  | ⟨0, _⟩ => show win0_0.index t 0 * 512 + 1 * r.val = R.val; rw [e]; show t.val * 512 + 1 * r.val = R.val; omega
  | ⟨1, _⟩ => show win0_0.index t 1 * 2048 + 1 * k.val = k.val; rw [e]; show 0 * 2048 + 1 * k.val = k.val; omega

theorem rows2 (c : Dev nD) (t : Fin cfg0.N) (r : Fin 512) (k : Fin 2048) (R : Fin 32768) (hR : R.val = t.val * 512 + r.val) :
    (iblk m c 2 t : Vec Ideal S512x2048 .f32) (ix2 r k) = (m (c, main_arg2) : S32768x2048.Idx → EReal) (ix2 R k) := by
  have e := (index_rows t).2.2.1
  show V m c main_arg2 (((cfg0.win 2).blk t).view.emb _) = _
  rw [V_main_arg2]
  refine congrArg (m (c, main_arg2) : S32768x2048.Idx → EReal) (funext fun a => Fin.ext ?_)
  match a with
  | ⟨0, _⟩ => show win0_2.index t 0 * 512 + 1 * r.val = R.val; rw [e]; show t.val * 512 + 1 * r.val = R.val; omega
  | ⟨1, _⟩ => show win0_2.index t 1 * 2048 + 1 * k.val = k.val; rw [e]; show 0 * 2048 + 1 * k.val = k.val; omega

theorem weights (c : Dev nD) (t : Fin cfg0.N) (k j : Fin 2048) :
    (iblk m c 1 t : Vec Ideal S2048x2048 .bf16) (ix2 k j) = (V m c main_v2 : S2048x2048.Idx → EReal) (ix2 k j) := by
  have e := (index_rows t).2.1
  show V m c main_v2 (((cfg0.win 1).blk t).view.emb _) = _
  refine congrArg (V m c main_v2 : S2048x2048.Idx → EReal) (funext fun a => Fin.ext ?_)
  match a with
  | ⟨0, _⟩ => show win0_1.index t 0 * 2048 + 1 * k.val = k.val; rw [e]; show 0 * 2048 + 1 * k.val = k.val; omega
  | ⟨1, _⟩ => show win0_1.index t 1 * 2048 + 1 * j.val = j.val; rw [e]; show 0 * 2048 + 1 * j.val = j.val; omega

theorem gain (c : Dev nD) (t : Fin cfg0.N) (k : Fin 2048) :
    (iblk m c 3 t : Vec Ideal S1x2048 .f32) (ix2 0 k) = (V m c main_v7 : S1x2048.Idx → EReal) (ix2 0 k) := by
  have e := (index_rows t).2.2.2.1
  show V m c main_v7 (((cfg0.win 3).blk t).view.emb _) = _
  refine congrArg (V m c main_v7 : S1x2048.Idx → EReal) (funext fun a => Fin.ext ?_)
  match a with
  | ⟨0, _⟩ => show win0_3.index t 0 * 1 + 1 * 0 = 0; rw [e]; rfl
  | ⟨1, _⟩ => show win0_3.index t 1 * 2048 + 1 * k.val = k.val; rw [e]; show 0 * 2048 + 1 * k.val = k.val; omega

theorem shift (c : Dev nD) (t : Fin cfg0.N) (k : Fin 2048) :
    (iblk m c 4 t : Vec Ideal S1x2048 .f32) (ix2 0 k) = (V m c main_v8 : S1x2048.Idx → EReal) (ix2 0 k) := by
  have e := (index_rows t).2.2.2.2.1
  show V m c main_v8 (((cfg0.win 4).blk t).view.emb _) = _
  refine congrArg (V m c main_v8 : S1x2048.Idx → EReal) (funext fun a => Fin.ext ?_)
  match a with
  | ⟨0, _⟩ => show win0_4.index t 0 * 1 + 1 * 0 = 0; rw [e]; rfl
  | ⟨1, _⟩ => show win0_4.index t 1 * 2048 + 1 * k.val = k.val; rw [e]; show 0 * 2048 + 1 * k.val = k.val; omega

/-- One point's block is the block of the whole result. -/
theorem rowsOut_iblk (c : Dev nD) (t : Fin cfg0.N) (y : S512x2048.Idx) :
    rowsOut (iblk m c 0 t) (iblk m c 1 t) (iblk m c 2 t) (iblk m c 3 t) (iblk m c 4 t) y
      = total (m (c, main_arg0)) (V m c main_v2) (m (c, main_arg2))
        (fun q => (V m c main_v7 : S1x2048.Idx → EReal) (ix2 0 q)) (fun q => (V m c main_v8 : S1x2048.Idx → EReal) (ix2 0 q)) (((cfg0.win 5).blk t).view.emb y) := by
  have ht : t.val < 64 := t.isLt.trans_eq N_0
  obtain ⟨r, k, rfl⟩ : ∃ (r : Fin 512) (k : Fin 2048), y = ix2 r k := ⟨y 0, y 1, eq_ix2 y⟩
  have hr := r.isLt
  have e := (index_rows t).2.2.2.2.2
  have he : ((cfg0.win 5).blk t).view.emb (ix2 r k) = (ix2 (⟨t.val * 512 + r.val, by omega⟩ : Fin 32768) k : S32768x2048.Idx) := by
    funext a
    apply Fin.ext
    match a with
    | ⟨0, _⟩ => show win0_5.index t 0 * 512 + 1 * r.val = t.val * 512 + r.val; rw [e]; show t.val * 512 + 1 * r.val = _; omega
    | ⟨1, _⟩ => show win0_5.index t 1 * 2048 + 1 * k.val = k.val; rw [e]; show 0 * 2048 + 1 * k.val = k.val; omega
  rw [he]
  unfold rowsOut total
  have h0 := fun q : Fin 2048 => rows0 m c t r q ⟨t.val * 512 + r.val, by omega⟩ rfl
  have h2 := fun q : Fin 2048 => rows2 m c t r q ⟨t.val * 512 + r.val, by omega⟩ rfl
  have hw := fun q j : Fin 2048 => weights m c t q j
  have hg := fun q : Fin 2048 => gain m c t q
  have hb := fun q : Fin 2048 => shift m c t q
  simp only [ix2_0, ix2_1, h0, h2, hw, hg, hb]

theorem final (c : Dev nD) : (dats m 0 c).arrAt 5 cfg0.N
    = total (m (c, main_arg0)) (V m c main_v2) (m (c, main_arg2))
        (fun q => (V m c main_v7 : S1x2048.Idx → EReal) (ix2 0 q)) (fun q => (V m c main_v8 : S1x2048.Idx → EReal) (ix2 0 q)) := by
  refine (dats m 0 c).arrAt_eq_of_cover 5 _ (fun t _ => ?_) covered
  show (cfg0.win 5).cut (grid0.coords t) ((dats m 0 c).after 5 t) = _
  rw [after_5, outBlk_eq]
  funext y
  exact rowsOut_iblk m c t y

/-! ## The reference -/

/-- The layer's weights, cast by the host operations before the call. -/
theorem V_weights (c : Dev nD) : (V m c main_v2 : S2048x2048.Idx → EReal)
    = Cert.Reference4Ideal.Read.val_main_v2 (F := Ideal) (m (c, main_arg1)) := by
  show StableHlo.after hostOps0 (fun b => m (c, b)) _ = _
  after_results <;> rfl

/-- The first layer's row of a per-layer vector, laid out as the call takes it. -/
theorem first_row (x : Vec Ideal S4x2048 .f32) (q : Fin 2048) :
    shapeCast S1x2048 (shapeCast S2048 (extractStridedSlice S1x2048 ![0, 0] x slices_S4x2048_S1x2048_0_0) shapeCasts_S1x2048_S2048) shapeCasts_S2048_S1x2048 (ix2 0 q)
      = x (ix2 0 q) := by
  rw [shapeCast_apply _ shapeCasts_S2048_S1x2048 (ix2 0 q) (ix1 q) (by
      rewrite [Shape.rowMajor_val_one, Shape.rowMajor_val_two]; show q.val = 0 * 2048 + q.val; omega),
    shapeCast_apply _ shapeCasts_S1x2048_S2048 (ix1 q) (ix2 0 q) (by
      rewrite [Shape.rowMajor_val_one, Shape.rowMajor_val_two]; show 0 * 2048 + q.val = q.val; omega)]
  exact extractStridedSlice_apply ![0, 0] x slices_S4x2048_S1x2048_0_0 (ix2 0 q) (ix2 0 q) (fun a => match a with
    | ⟨0, _⟩ => rfl
    | ⟨1, _⟩ => (Nat.zero_add _).symm)

theorem V_gain (c : Dev nD) (q : Fin 2048) : (V m c main_v7 : S1x2048.Idx → EReal) (ix2 0 q) = (m (c, main_arg3) : S4x2048.Idx → EReal) (ix2 0 q) := by
  have h : (V m c main_v7 : S1x2048.Idx → EReal) = shapeCast S1x2048 (shapeCast S2048 (extractStridedSlice S1x2048 ![0, 0] (m (c, main_arg3) : S4x2048.Idx → EReal)
      slices_S4x2048_S1x2048_0_0) shapeCasts_S1x2048_S2048) shapeCasts_S2048_S1x2048 := by
    show StableHlo.after hostOps0 (fun b => m (c, b)) _ = _
    after_results <;> rfl
  rw [h]
  exact first_row _ q

theorem V_shift (c : Dev nD) (q : Fin 2048) : (V m c main_v8 : S1x2048.Idx → EReal) (ix2 0 q) = (m (c, main_arg4) : S4x2048.Idx → EReal) (ix2 0 q) := by
  have h : (V m c main_v8 : S1x2048.Idx → EReal) = shapeCast S1x2048 (shapeCast S2048 (extractStridedSlice S1x2048 ![0, 0] (m (c, main_arg4) : S4x2048.Idx → EReal)
      slices_S4x2048_S1x2048_0_0) shapeCasts_S1x2048_S2048) shapeCasts_S2048_S1x2048 := by
    show StableHlo.after hostOps0 (fun b => m (c, b)) _ = _
    after_results <;> rfl
  rw [h]
  exact first_row _ q

section Ref

open Cert.Reference4Ideal.Read

variable (x0 : Vec Ideal S32768x2048 .bf16) (x1 : Vec Ideal S4x2048x2048 .f32) (x2 : Vec Ideal S32768x2048 .f32) (x3 x4 : Vec Ideal S4x2048 .f32)

/-- A row of the reference before the norm. -/
def refLine (R : Fin 32768) : Fin 2048 → EReal :=
  line (fun q => x0 (ix2 R q)) (fun q => x2 (ix2 R q)) (fun q j => val_main_v2 (F := Ideal) x1 (ix2 q j))

theorem ref_line (R : Fin 32768) (k : Fin 2048) : val_main_v6 (F := Ideal) x0 x1 x2 (ix2 R k) = refLine x0 x1 x2 R k := by
  rw [val_main_v6_apply, val_main_v5_apply, val_main_v4_apply, val_main_cst_apply, val_main_v3_apply]
  unfold refLine line
  refine congrArg (_ + ·) (Finset.sum_congr rfl fun q _ => ?_)
  rw [val_main_v0_apply]
  exact congrArg₂ (· * ·) (congrArg x0 (eq_ix2 _)) (congrArg (val_main_v2 (F := Ideal) x1) (eq_ix2 _))

theorem ref_mean (R : Fin 32768) : val_main_v10 (F := Ideal) x0 x1 x2 (ix2 R 0) = mean (refLine x0 x1 x2 R) := by
  rw [val_main_v10_apply, val_main_v9_apply, val_main_cst_1_apply, val_main_v8_apply, val_main_v7_apply, val_main_cst_0_apply]
  unfold mean
  refine congrArg (Ideal.div · _) ?_
  refine (congrArg (· + _) Ideal.ofBits_zero_f32).trans ((zero_add _).trans (Finset.sum_congr rfl fun q _ => ?_))
  exact (congrArg (val_main_v6 (F := Ideal) x0 x1 x2) (eq_ix2 _)).trans (ref_line x0 x1 x2 R q)

theorem ref_centered (R : Fin 32768) (k : Fin 2048) : val_main_v12 (F := Ideal) x0 x1 x2 (ix2 R k) = centered (refLine x0 x1 x2 R) k := by
  have h : idx_main_v11 (ix2 R k) = ix2 R 0 := funext fun a => match a with
    | ⟨0, _⟩ => rfl
    | ⟨1, _⟩ => rfl
  rw [val_main_v12_apply, val_main_v11_apply, ref_line, h, ref_mean]
  rfl

theorem ref_spread (R : Fin 32768) : val_main_v20 (F := Ideal) x0 x1 x2 (ix2 R 0) = spread (refLine x0 x1 x2 R) := by
  rw [val_main_v20_apply, val_main_v19_apply, val_main_v18_apply, val_main_cst_4_apply, val_main_v17_apply, val_main_v16_apply, val_main_cst_3_apply,
    val_main_v15_apply, val_main_v14_apply, val_main_cst_2_apply]
  unfold spread mean
  refine congrArg (fun z => Ideal.rsqrt (Ideal.div z _ + _)) ?_
  refine (congrArg (· + _) Ideal.ofBits_zero_f32).trans ((zero_add _).trans (Finset.sum_congr rfl fun q _ => ?_))
  rw [val_main_v13_apply]
  have h : val_main_v12 (F := Ideal) x0 x1 x2 (idx_main_v14 (idx_main_v15 (ix2 R 0)) q) = centered (refLine x0 x1 x2 R) q :=
    (congrArg (val_main_v12 (F := Ideal) x0 x1 x2) (eq_ix2 _)).trans (ref_centered x0 x1 x2 R q)
  rw [h]
  rfl

theorem reference_total :
    (val_main_v32 (F := Ideal) x0 x1 x2 x3 x4 : S32768x2048.Idx → EReal)
      = total x0 (val_main_v2 (F := Ideal) x1) x2 (fun q => x3 (ix2 0 q)) (fun q => x4 (ix2 0 q)) := by
  funext i
  obtain ⟨R, k, rfl⟩ : ∃ (R : Fin 32768) (k : Fin 2048), i = ix2 R k := ⟨i 0, i 1, eq_ix2 i⟩
  have hk := k.isLt
  rw [val_main_v32_apply, val_main_v31_apply, val_main_v30_apply, val_main_v29_apply, val_main_v28_apply, val_main_v27_apply, val_main_v26_apply,
    val_main_v25_apply, val_main_v24_apply, val_main_v23_apply, val_main_v22_apply, val_main_v21_apply, ref_centered]
  have hs : val_main_v20 (F := Ideal) x0 x1 x2 (idx_main_v21 (ix2 R k)) = spread (refLine x0 x1 x2 R) :=
    (congrArg (val_main_v20 (F := Ideal) x0 x1 x2) (eq_ix2 _)).trans (ref_spread x0 x1 x2 R)
  have hg : x3 (idx_main_v23 (idx_main_v24 (idx_main_v25 (idx_main_v26 (ix2 R k))))) = x3 (ix2 0 k) := congrArg x3 (funext fun a => Fin.ext (by
    match a with
    | ⟨0, _⟩ => rfl
    | ⟨1, _⟩ => show k.val % 2048 = k.val; omega))
  have hb : x4 (idx_main_v28 (idx_main_v29 (idx_main_v30 (idx_main_v31 (ix2 R k))))) = x4 (ix2 0 k) := congrArg x4 (funext fun a => Fin.ext (by
    match a with
    | ⟨0, _⟩ => rfl
    | ⟨1, _⟩ => show k.val % 2048 = k.val; omega))
  rw [hs, hg, hb]
  rfl

end Ref

/-- The call's run, its result named. -/
theorem run : θ_run defs (onTc (τ := τ) (main (F := Ideal))) ⟨m, fun _ => 0, ρ⟩ fun r => ∀ c : Dev nD,
      r.2.mem ((c.tc : Thread nD τ).loc main_v9_0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨ends_arr m h.1 c 5 (by decide), ends_args m h.1 c⟩) (ends m ρ)

theorem algebraic : Cert.algebraic_Kernel4Ideal_Reference4Ideal := by
  intro m ρ m' ρ' _ hagree
  refine ⟨fun c => (dats m 0 c).arrAt 5 cfg0.N, run m ρ, ?_⟩
  refine (θ_run Cert.Reference4Ideal.defs _ _).mono (fun _ h c => ⟨(h c).1.trans ?_, (h c).2⟩)
    (Cert.Reference4Ideal.Value.run (F := Ideal) m' ρ')
  refine (Cert.Reference4Ideal.Read.val_main_v32_eq (F := Ideal) m' c).trans ?_
  rw [(hagree c).1, (hagree c).2.1, (hagree c).2.2.1, (hagree c).2.2.2.1, (hagree c).2.2.2.2]
  refine (reference_total _ _ _ _ _).trans ?_
  show _ = (dats m 0 c).arrAt 5 cfg0.N
  rw [final, V_weights]
  exact congrArg₂ (total _ _ _) (funext fun q => (V_gain m c q).symm) (funext fun q => (V_shift m c q).symm)

end Cert.OutProj

end
-- ==== Proof.Merge.lean ====
/-
  The merge of the three branches read at an index. Every grid point leaves in its output block the sum over the
  branches of the gate's sigmoid times the product of the branch's row block with its weight's column block. The
  reference is the same sum over the branches.
-/
module

public import proofs.«01_k».proof.Defs
public import proofs.«01_k».proof.Proof.Gen.Kernel3Ideal.Value
public import proofs.«01_k».proof.Proof.Gen.Reference3Ideal.Read
public import Idealize.ShloMosaic.Lib.Pointwise
public import Idealize.ShloMosaic.Lib.Pipeline.Value
public import Idealize.ShloMosaic.Lib.Quiescent

@[expose] public section

noncomputable section

namespace Cert.Merge

open Idealize.ShloMosaic Idealize.ShloMosaic.TcCoe Idealize.SL.Sem
open Idealize.ShloMosaic.Pipeline (Dat)
open Cert.Kernel3Ideal Cert.Kernel3Ideal.Gen
open scoped BigOperators

theorem hz2 : (![0, 0] : Fin 2 → Nat) = fun _ => 0 := funext fun a => by fin_cases a <;> rfl

/-- A branch's gate: the logistic function of its logit. -/
def gate (x : EReal) : EReal := Ideal.div 1 (1 + Ideal.exp (-x))

/-- One branch's product at a row and a column. -/
def dotRow (x : Fin 1024 → EReal) (w : Fin 1024 → EReal) : EReal := ∑ k : Fin 1024, x k * w k

/-- What one grid point computes. -/
def blkOut (x0 x1 x2 x3 x4 x5 : Vec Ideal S1024x1024 .bf16) (x6 : Vec Ideal S3x1024x1024 .bf16) : Vec Ideal S1024x1024 .bf16 := fun j =>
  gate (x3 j) * dotRow (fun k => x0 (ix2 (j 0) k)) (fun k => x6 (ix3 (0 : Fin 3) k (j 1)))
    + gate (x4 j) * dotRow (fun k => x1 (ix2 (j 0) k)) (fun k => x6 (ix3 (1 : Fin 3) k (j 1)))
    + gate (x5 j) * dotRow (fun k => x2 (ix2 (j 0) k)) (fun k => x6 (ix3 (2 : Fin 3) k (j 1)))

theorem plane_at (x6 : Vec Ideal S3x1024x1024 .bf16) (n : Fin 3) (k j k' j' : Fin 1024) (hk : k'.val = k.val) (hj : j'.val = j.val) :
    x6 (ix3 n k' j') = x6 (ix3 n k j) := by
  rw [Fin.ext hk, Fin.ext hj]

theorem out_eq (x0 x1 x2 x3 x4 x5 : Vec Ideal S1024x1024 .bf16) (x6 : Vec Ideal S3x1024x1024 .bf16) :
    out0_7 (F := Ideal) x0 x1 x2 x3 x4 x5 x6 = blkOut x0 x1 x2 x3 x4 x5 x6 := by
  unfold out0_7
  rw [View.canon_unit_zero hz2]
  have hl : ∀ x : Vec Ideal S1024x1024 .bf16, View.ld x r0_0 = x := fun x => View.ld_unit_zero hz2 _ x
  simp only [hl]
  funext j
  unfold k0_pay1 k0_pay2 blkOut gate dotRow
  simp only [pointwise, zero_add, zero_sub]
  congr 1
  · congr 1
    · congr 1
      exact Finset.sum_congr rfl fun k _ => congrArg _ (plane_at x6 0 _ _ _ _ (Nat.zero_add _ |>.trans (Nat.one_mul _)) (Nat.zero_add _ |>.trans (Nat.one_mul _)))
    · congr 1
      exact Finset.sum_congr rfl fun k _ => congrArg _ (plane_at x6 1 _ _ _ _ (Nat.zero_add _ |>.trans (Nat.one_mul _)) (Nat.zero_add _ |>.trans (Nat.one_mul _)))
  · congr 1
    exact Finset.sum_congr rfl fun k _ => congrArg _ (plane_at x6 2 _ _ _ _ (Nat.zero_add _ |>.trans (Nat.one_mul _)) (Nat.zero_add _ |>.trans (Nat.one_mul _)))

/-! ## The blocks the windows stage -/

variable (m : (ℓ : Loc nD τ sig) → Buf (Elt Ideal) ℓ)

theorem index_rows : ∀ t : Fin grid0.N, (win0_0.index t = ![t.val % 32, 0] ∧ win0_1.index t = ![t.val % 32, 0] ∧ win0_2.index t = ![t.val % 32, 0])
    ∧ (win0_3.index t = ![t.val % 32, 14 + t.val / 32] ∧ win0_4.index t = ![t.val % 32, 16 + t.val / 32] ∧ win0_5.index t = ![t.val % 32, 18 + t.val / 32])
    ∧ win0_6.index t = ![0, 0, t.val / 32] ∧ win0_7.index t = ![t.val % 32, t.val / 32] := by decide +kernel

theorem index_onto : ∀ (p : Fin 32) (q : Fin 2), ∃ t : Fin grid0.N, win0_7.flush t = true ∧ t.val % 32 = p.val ∧ t.val / 32 = q.val := by decide +kernel

/-- What the call writes, from the rows of the three branches, the gates' logits and the weights. -/
def total (a b c : S32768x1024.Idx → EReal) (u : S32768x20480.Idx → EReal) (w : S3x1024x2048.Idx → EReal) : S32768x2048.Idx → EReal := fun i =>
  gate (u (ix2 (i 0) (⟨14336 + (i 1).val, by have : (i 1).val < 2048 := (i 1).isLt; omega⟩ : Fin 20480))) * dotRow (fun k => a (ix2 (i 0) k)) (fun k => w (ix3 0 k (i 1)))
    + gate (u (ix2 (i 0) (⟨16384 + (i 1).val, by have : (i 1).val < 2048 := (i 1).isLt; omega⟩ : Fin 20480))) * dotRow (fun k => b (ix2 (i 0) k)) (fun k => w (ix3 1 k (i 1)))
    + gate (u (ix2 (i 0) (⟨18432 + (i 1).val, by have : (i 1).val < 2048 := (i 1).isLt; omega⟩ : Fin 20480))) * dotRow (fun k => c (ix2 (i 0) k)) (fun k => w (ix3 2 k (i 1)))

theorem mem_blk7 (t : Fin cfg0.N) (i : S32768x2048.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v3).slice (win0_7.rect t)).set ↔ _
  rw [View.set_slice_whole, Rect.mem_set_unit]
  exact Iff.rfl

theorem covered (i : S32768x2048.Idx) : ∃ t : Fin cfg0.N, (cfg0.win 7).flush t = true ∧ i ∈ ((cfg0.win 7).blk t).view.set := by
  have h0 : (i 0).val < 32768 := (i 0).isLt
  have h1 : (i 1).val < 2048 := (i 1).isLt
  obtain ⟨t, hf, hp, hq⟩ := index_onto ⟨(i 0).val / 1024, by omega⟩ ⟨(i 1).val / 1024, by omega⟩
  refine ⟨t, hf, (mem_blk7 t i).2 fun a => ?_⟩
  have e := (index_rows t).2.2.2
  dsimp only at hp hq
  match a with
  | ⟨0, _⟩ => show win0_7.index t 0 * 1024 ≤ (i 0).val ∧ (i 0).val < win0_7.index t 0 * 1024 + 1024; rw [e]; show t.val % 32 * 1024 ≤ _ ∧ _ < t.val % 32 * 1024 + 1024; omega
  | ⟨1, _⟩ => show win0_7.index t 1 * 1024 ≤ (i 1).val ∧ (i 1).val < win0_7.index t 1 * 1024 + 1024; rw [e]; show t.val / 32 * 1024 ≤ _ ∧ _ < t.val / 32 * 1024 + 1024; omega

theorem emb7 (t : Fin cfg0.N) (y : S1024x1024.Idx) (R : Fin 32768) (C : Fin 2048) (hR : R.val = t.val % 32 * 1024 + (y 0).val)
    (hC : C.val = t.val / 32 * 1024 + (y 1).val) : ((cfg0.win 7).blk t).view.emb y = (ix2 R C : S32768x2048.Idx) := by
  have e := (index_rows t).2.2.2
  funext a
  apply Fin.ext
  match a with
  | ⟨0, _⟩ => show win0_7.index t 0 * 1024 + 1 * (y 0).val = R.val; rw [e]; show t.val % 32 * 1024 + 1 * (y 0).val = R.val; omega
  | ⟨1, _⟩ => show win0_7.index t 1 * 1024 + 1 * (y 1).val = C.val; rw [e]; show t.val / 32 * 1024 + 1 * (y 1).val = C.val; omega

theorem row0 (c : Dev nD) (t : Fin cfg0.N) (r k : Fin 1024) (R : Fin 32768) (hR : R.val = t.val % 32 * 1024 + r.val) :
    (iblk m c 0 t : Vec Ideal S1024x1024 .bf16) (ix2 r k) = (m (c, main_arg0) : S32768x1024.Idx → EReal) (ix2 R k) := by
  have e := (index_rows t).1.1
  show V m c main_arg0 (((cfg0.win 0).blk t).view.emb _) = _
  rw [V_main_arg0]
  refine congrArg (m (c, main_arg0) : S32768x1024.Idx → EReal) (funext fun a => Fin.ext ?_)
  match a with
  | ⟨0, _⟩ => show win0_0.index t 0 * 1024 + 1 * r.val = R.val; rw [e]; show t.val % 32 * 1024 + 1 * r.val = R.val; omega
  | ⟨1, _⟩ => show win0_0.index t 1 * 1024 + 1 * k.val = k.val; rw [e]; show 0 * 1024 + 1 * k.val = k.val; omega

theorem row1 (c : Dev nD) (t : Fin cfg0.N) (r k : Fin 1024) (R : Fin 32768) (hR : R.val = t.val % 32 * 1024 + r.val) :
    (iblk m c 1 t : Vec Ideal S1024x1024 .bf16) (ix2 r k) = (m (c, main_arg1) : S32768x1024.Idx → EReal) (ix2 R k) := by
  have e := (index_rows t).1.2.1
  show V m c main_arg1 (((cfg0.win 1).blk t).view.emb _) = _
  rw [V_main_arg1]
  refine congrArg (m (c, main_arg1) : S32768x1024.Idx → EReal) (funext fun a => Fin.ext ?_)
  match a with
  | ⟨0, _⟩ => show win0_1.index t 0 * 1024 + 1 * r.val = R.val; rw [e]; show t.val % 32 * 1024 + 1 * r.val = R.val; omega
  | ⟨1, _⟩ => show win0_1.index t 1 * 1024 + 1 * k.val = k.val; rw [e]; show 0 * 1024 + 1 * k.val = k.val; omega

theorem row2 (c : Dev nD) (t : Fin cfg0.N) (r k : Fin 1024) (R : Fin 32768) (hR : R.val = t.val % 32 * 1024 + r.val) :
    (iblk m c 2 t : Vec Ideal S1024x1024 .bf16) (ix2 r k) = (m (c, main_arg2) : S32768x1024.Idx → EReal) (ix2 R k) := by
  have e := (index_rows t).1.2.2
  show V m c main_arg2 (((cfg0.win 2).blk t).view.emb _) = _
  rw [V_main_arg2]
  refine congrArg (m (c, main_arg2) : S32768x1024.Idx → EReal) (funext fun a => Fin.ext ?_)
  match a with
  | ⟨0, _⟩ => show win0_2.index t 0 * 1024 + 1 * r.val = R.val; rw [e]; show t.val % 32 * 1024 + 1 * r.val = R.val; omega
  | ⟨1, _⟩ => show win0_2.index t 1 * 1024 + 1 * k.val = k.val; rw [e]; show 0 * 1024 + 1 * k.val = k.val; omega

/-- The three gates' windows on the activations, each by its first column block. -/
theorem gates (c : Dev nD) (t : Fin cfg0.N) (r k : Fin 1024) (R : Fin 32768) (hR : R.val = t.val % 32 * 1024 + r.val) (C0 C1 C2 : Fin 20480)
    (h0 : C0.val = (14 + t.val / 32) * 1024 + k.val) (h1 : C1.val = (16 + t.val / 32) * 1024 + k.val) (h2 : C2.val = (18 + t.val / 32) * 1024 + k.val) :
    (iblk m c 3 t : Vec Ideal S1024x1024 .bf16) (ix2 r k) = (m (c, main_arg3) : S32768x20480.Idx → EReal) (ix2 R C0)
      ∧ (iblk m c 4 t : Vec Ideal S1024x1024 .bf16) (ix2 r k) = (m (c, main_arg3) : S32768x20480.Idx → EReal) (ix2 R C1)
      ∧ (iblk m c 5 t : Vec Ideal S1024x1024 .bf16) (ix2 r k) = (m (c, main_arg3) : S32768x20480.Idx → EReal) (ix2 R C2) := by
  obtain ⟨e3, e4, e5⟩ := (index_rows t).2.1
  refine ⟨?_, ?_, ?_⟩
  · show V m c main_arg3 (((cfg0.win 3).blk t).view.emb _) = _
    rw [V_main_arg3]
    refine congrArg (m (c, main_arg3) : S32768x20480.Idx → EReal) (funext fun a => Fin.ext ?_)
    match a with
    | ⟨0, _⟩ => show win0_3.index t 0 * 1024 + 1 * r.val = R.val; rw [e3]; show t.val % 32 * 1024 + 1 * r.val = R.val; omega
    | ⟨1, _⟩ => show win0_3.index t 1 * 1024 + 1 * k.val = C0.val; rw [e3]; show (14 + t.val / 32) * 1024 + 1 * k.val = C0.val; omega
  · show V m c main_arg3 (((cfg0.win 4).blk t).view.emb _) = _
    rw [V_main_arg3]
    refine congrArg (m (c, main_arg3) : S32768x20480.Idx → EReal) (funext fun a => Fin.ext ?_)
    match a with
    | ⟨0, _⟩ => show win0_4.index t 0 * 1024 + 1 * r.val = R.val; rw [e4]; show t.val % 32 * 1024 + 1 * r.val = R.val; omega
    | ⟨1, _⟩ => show win0_4.index t 1 * 1024 + 1 * k.val = C1.val; rw [e4]; show (16 + t.val / 32) * 1024 + 1 * k.val = C1.val; omega
  · show V m c main_arg3 (((cfg0.win 5).blk t).view.emb _) = _
    rw [V_main_arg3]
    refine congrArg (m (c, main_arg3) : S32768x20480.Idx → EReal) (funext fun a => Fin.ext ?_)
    match a with
    | ⟨0, _⟩ => show win0_5.index t 0 * 1024 + 1 * r.val = R.val; rw [e5]; show t.val % 32 * 1024 + 1 * r.val = R.val; omega
    | ⟨1, _⟩ => show win0_5.index t 1 * 1024 + 1 * k.val = C2.val; rw [e5]; show (18 + t.val / 32) * 1024 + 1 * k.val = C2.val; omega

theorem weights (c : Dev nD) (t : Fin cfg0.N) (n : Fin 3) (k j : Fin 1024) (C : Fin 2048) (hC : C.val = t.val / 32 * 1024 + j.val) :
    (iblk m c 6 t : Vec Ideal S3x1024x1024 .bf16) (ix3 n k j) = (V m c main_v2 : S3x1024x2048.Idx → EReal) (ix3 n k C) := by
  have e := (index_rows t).2.2.1
  show V m c main_v2 (((cfg0.win 6).blk t).view.emb _) = _
  refine congrArg (V m c main_v2 : S3x1024x2048.Idx → EReal) (funext fun a => Fin.ext ?_)
  match a with
  | ⟨0, _⟩ => show win0_6.index t 0 * 3 + 1 * n.val = n.val; rw [e]; show 0 * 3 + 1 * n.val = n.val; omega
  | ⟨1, _⟩ => show win0_6.index t 1 * 1024 + 1 * k.val = k.val; rw [e]; show 0 * 1024 + 1 * k.val = k.val; omega
  | ⟨2, _⟩ => show win0_6.index t 2 * 1024 + 1 * j.val = C.val; rw [e]; show t.val / 32 * 1024 + 1 * j.val = C.val; omega

/-- One point's block is the block of the whole result. -/
theorem blkOut_iblk (c : Dev nD) (t : Fin cfg0.N) (y : S1024x1024.Idx) :
    blkOut (iblk m c 0 t) (iblk m c 1 t) (iblk m c 2 t) (iblk m c 3 t) (iblk m c 4 t) (iblk m c 5 t) (iblk m c 6 t) y
      = total (m (c, main_arg0)) (m (c, main_arg1)) (m (c, main_arg2)) (m (c, main_arg3)) (V m c main_v2) (((cfg0.win 7).blk t).view.emb y) := by
  have y0 : (y 0).val < 1024 := (y 0).isLt
  have y1 : (y 1).val < 1024 := (y 1).isLt
  have ht : t.val < 64 := t.isLt.trans_eq N_0
  obtain ⟨r, k, rfl⟩ : ∃ r k : Fin 1024, y = ix2 r k := ⟨y 0, y 1, eq_ix2 y⟩
  have hr := r.isLt
  have hk := k.isLt
  rw [emb7 t (ix2 r k) ⟨t.val % 32 * 1024 + r.val, by omega⟩ ⟨t.val / 32 * 1024 + k.val, by omega⟩ rfl rfl]
  unfold blkOut total
  obtain ⟨g0, g1, g2⟩ := gates m c t r k ⟨t.val % 32 * 1024 + r.val, by omega⟩ rfl
    ⟨14336 + (t.val / 32 * 1024 + k.val), by omega⟩ ⟨16384 + (t.val / 32 * 1024 + k.val), by omega⟩ ⟨18432 + (t.val / 32 * 1024 + k.val), by omega⟩
    (by dsimp only; omega) (by dsimp only; omega) (by dsimp only; omega)
  have hw := fun (n : Fin 3) (q : Fin 1024) => weights m c t n q k ⟨t.val / 32 * 1024 + k.val, by omega⟩ rfl
  have h0 := fun q : Fin 1024 => row0 m c t r q ⟨t.val % 32 * 1024 + r.val, by omega⟩ rfl
  have h1 := fun q : Fin 1024 => row1 m c t r q ⟨t.val % 32 * 1024 + r.val, by omega⟩ rfl
  have h2 := fun q : Fin 1024 => row2 m c t r q ⟨t.val % 32 * 1024 + r.val, by omega⟩ rfl
  simp only [ix2_0, ix2_1, g0, g1, g2, hw, h0, h1, h2]

theorem final (c : Dev nD) : (dats m 0 c).arrAt 7 cfg0.N
    = total (m (c, main_arg0)) (m (c, main_arg1)) (m (c, main_arg2)) (m (c, main_arg3)) (V m c main_v2) := by
  refine (dats m 0 c).arrAt_eq_of_cover 7 _ (fun t _ => ?_) covered
  rw [Value.flushed7, out_eq]
  funext y
  exact blkOut_iblk m c t y

/-! ## The reference -/

/-- The layer's weights, cast by the host operations before the call. -/
theorem V_weights (c : Dev nD) : (V m c main_v2 : S3x1024x2048.Idx → EReal)
    = Cert.Reference3Ideal.Read.val_main_v9 (F := Ideal) (m (c, main_arg4)) := by
  show StableHlo.after hostOps0 (fun b => m (c, b)) _ = _
  after_results <;> rfl

theorem gate_ref (u : Vec Ideal S32768x20480 .bf16) (i) : Cert.Reference3Ideal.Read.val_main_v17 (F := Ideal) u i
    = gate (Cert.Reference3Ideal.Read.val_main_v11 (F := Ideal) u i) := by
  unfold gate
  simp only [Cert.Reference3Ideal.Read.val_main_v17_apply, Cert.Reference3Ideal.Read.val_main_v16_apply, Cert.Reference3Ideal.Read.val_main_v15_apply,
    Cert.Reference3Ideal.Read.val_main_v14_apply, Cert.Reference3Ideal.Read.val_main_v13_apply, Cert.Reference3Ideal.Read.val_main_v12_apply,
    Cert.Reference3Ideal.Read.val_main_cst_apply, Cert.Reference3Ideal.Read.val_main_cst_0_apply, pointwise]

theorem stack_apply (f : Fin 3 → Cert.Reference3Ideal.S1x32768x1024.Idx → EReal)
    (h : Shape.Concatenates ((List.ofFn fun n : Fin 3 => (⟨Cert.Reference3Ideal.S1x32768x1024, f n⟩ : (s : Shape) × (s.Idx → EReal))).map (·.1))
      Cert.Reference3Ideal.S3x32768x1024 (0 : Fin 3)) (n : Fin 3) (R : Fin 32768) (k : Fin 1024) :
    concatenate Cert.Reference3Ideal.S3x32768x1024 (0 : Fin 3) (List.ofFn fun n : Fin 3 => ⟨Cert.Reference3Ideal.S1x32768x1024, f n⟩) h (ix3 n R k)
      = f n (ix3 (0 : Fin 1) R k) :=
  concatenate_ofFn_unit_apply (t := Cert.Reference3Ideal.S3x32768x1024) (s₁ := Cert.Reference3Ideal.S1x32768x1024) (0 : Fin 3) f h rfl rfl (ix3 n R k) n rfl
    (ix3 (0 : Fin 1) R k) (fun q hq => by
      match q with
      | ⟨0, _⟩ => exact absurd rfl hq
      | ⟨1, _⟩ => rfl
      | ⟨2, _⟩ => rfl)

theorem branches (a b x : Vec Ideal S32768x1024 .bf16) (R : Fin 32768) (k : Fin 1024) :
    Cert.Reference3Ideal.Read.val_main_v7 (F := Ideal) a b x (ix3 0 R k) = a (ix2 R k)
      ∧ Cert.Reference3Ideal.Read.val_main_v7 (F := Ideal) a b x (ix3 1 R k) = b (ix2 R k)
      ∧ Cert.Reference3Ideal.Read.val_main_v7 (F := Ideal) a b x (ix3 2 R k) = x (ix2 R k) := by
  have h := stack_apply ![Cert.Reference3Ideal.Read.val_main_v4 (F := Ideal) a, Cert.Reference3Ideal.Read.val_main_v5 (F := Ideal) b,
    Cert.Reference3Ideal.Read.val_main_v6 (F := Ideal) x] Cert.Reference3Ideal.Gen.concatenates_S1x32768x1024_S1x32768x1024_S1x32768x1024_S3x32768x1024_d0
  refine ⟨(h 0 R k).trans ?_, (h 1 R k).trans ?_, (h 2 R k).trans ?_⟩
  · show Cert.Reference3Ideal.Read.val_main_v4 (F := Ideal) a _ = _
    rw [Cert.Reference3Ideal.Read.val_main_v4_apply]
    exact congrArg a (eq_ix2 _)
  · show Cert.Reference3Ideal.Read.val_main_v5 (F := Ideal) b _ = _
    rw [Cert.Reference3Ideal.Read.val_main_v5_apply]
    exact congrArg b (eq_ix2 _)
  · show Cert.Reference3Ideal.Read.val_main_v6 (F := Ideal) x _ = _
    rw [Cert.Reference3Ideal.Read.val_main_v6_apply]
    exact congrArg x (eq_ix2 _)

theorem reference_total (a b x : Vec Ideal S32768x1024 .bf16) (u : Vec Ideal S32768x20480 .bf16) (w : Vec Ideal S4x3x1024x2048 .f32) :
    (Cert.Reference3Ideal.Read.val_main_v20 (F := Ideal) a b x u w : S32768x2048.Idx → EReal)
      = total a b x u (Cert.Reference3Ideal.Read.val_main_v9 (F := Ideal) w) := by
  funext i
  have hi0 : (i 0).val < 32768 := (i 0).isLt
  have hi1 : (i 1).val < 2048 := (i 1).isLt
  rw [Cert.Reference3Ideal.Read.val_main_v20_apply]
  show Cert.Reference3Ideal.Read.val_main_v19 (F := Ideal) a b x u w i = _
  rw [Cert.Reference3Ideal.Read.val_main_v19_apply, Fin.sum_univ_three]
  have hg : ∀ n : Fin 3, ∀ C : Fin 20480, C.val = 14336 + n.val * 2048 + (i 1).val →
      Cert.Reference3Ideal.Read.val_main_v18 (F := Ideal) u (Cert.Reference3Ideal.Read.lidx_main_v19 i n) = gate (u (ix2 (i 0) C)) := fun n C hC => by
    have hn := n.isLt
    rw [Cert.Reference3Ideal.Read.val_main_v18_apply, gate_ref, Cert.Reference3Ideal.Read.val_main_v11_apply]
    refine congrArg gate (congrArg u (funext fun q => Fin.ext ?_))
    match q with
    | ⟨0, _⟩ => show (((i 0).val * 3 + n.val) * 2048 + (i 1).val) / 6144 = (i 0).val; omega
    | ⟨1, _⟩ => show 14336 + (((i 0).val * 3 + n.val) * 2048 + (i 1).val) % 6144 = C.val; omega
  have hd : ∀ (n : Fin 3) (f : Vec Ideal S32768x1024 .bf16), (∀ k, Cert.Reference3Ideal.Read.val_main_v7 (F := Ideal) a b x (ix3 n (i 0) k) = f (ix2 (i 0) k)) →
      Cert.Reference3Ideal.Read.val_main_v10 (F := Ideal) a b x w (Cert.Reference3Ideal.Read.ridx_main_v19 i n)
        = dotRow (fun k => f (ix2 (i 0) k)) (fun k => Cert.Reference3Ideal.Read.val_main_v9 (F := Ideal) w (ix3 n k (i 1))) := fun n f hf => by
    rw [Cert.Reference3Ideal.Read.val_main_v10_apply]
    unfold dotRow
    refine Finset.sum_congr rfl fun k _ => ?_
    dsimp only
    rw [show f (ix2 (i 0) k) = _ from (hf k).symm]
    congr 2
    · funext q
      match q with
      | ⟨0, _⟩ => rfl
      | ⟨1, _⟩ => rfl
      | ⟨2, _⟩ => rfl
    · funext q
      match q with
      | ⟨0, _⟩ => rfl
      | ⟨1, _⟩ => rfl
      | ⟨2, _⟩ => rfl
  rw [hg 0 ⟨14336 + (i 1).val, by omega⟩ rfl, hg 1 ⟨16384 + (i 1).val, by omega⟩ (by show 16384 + (i 1).val = 14336 + 1 * 2048 + (i 1).val; omega),
    hg 2 ⟨18432 + (i 1).val, by omega⟩ (by show 18432 + (i 1).val = 14336 + 2 * 2048 + (i 1).val; omega),
    hd 0 a fun k => (branches a b x (i 0) k).1, hd 1 b fun k => (branches a b x (i 0) k).2.1, hd 2 x fun k => (branches a b x (i 0) k).2.2]
  rfl

theorem algebraic : Cert.algebraic_Kernel3Ideal_Reference3Ideal := by
  intro m ρ m' ρ' _ hagree
  refine ⟨fun c => (dats m 0 c).arrAt 7 cfg0.N, Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  refine (Cert.Reference3Ideal.Read.val_main_v20_eq (F := Ideal) _ _ _ _ _).trans ?_
  rw [(hagree c).1, (hagree c).2.1, (hagree c).2.2.1, (hagree c).2.2.2.1, (hagree c).2.2.2.2]
  refine (reference_total _ _ _ _ _).trans ?_
  show _ = (dats m 0 c).arrAt 7 cfg0.N
  rw [final, V_weights]

end Cert.Merge

end
-- ==== Proof.AttnPieces.lean ====
/- The 48 blocks of the dilated attention, written once: what the three statistic buffers hold after the block loop,
   as three lists of pieces, and what the eight final merges store. -/
module

public import proofs.«01_k».proof.Defs
public import proofs.«01_k».proof.Proof.Gen.KernelIdeal.Value
public import Idealize.ShloMosaic.Lib.Pointwise
public import Idealize.ShloMosaic.Lib.Pipeline.Value
public import Idealize.ShloMosaic.Lib.Quiescent

@[expose] public section

noncomputable section

namespace Cert.Attn

open Idealize.ShloMosaic Idealize.ShloMosaic.TcCoe
open Idealize.ShloMosaic.Tactic
open Cert.KernelIdeal Cert.KernelIdeal.Gen

variable {F : FTy → Type} [FloatOps F] [Named F]

/-! ### One block -/

/-- The masked scores of a first block: 128 queries on their own 128 keys. -/
def scA (q k : FVec F S128x128 .bf16) : FVec F S128x128 .f32 :=
  select k0_pay3
    (mulf (matmul dot_S128x128_S128x128_S128x128_1_1_0_0_n_n none q k (constant S128x128 .f32 0x00000000#32))
      (broadcast S128x128 (Scalar.ofBits .f32 0x3DB504F3#32)))
    (broadcast S128x128 (Named.named κ "mask" 0xF149F2CA#32))

/-- The row maxima of a first block. -/
def mxA (s : FVec F S128x128 .f32) : FVec F S128x1 .f32 :=
  shapeCast S128x1 (multiReduction .maximumf [1] S128 s 0xFF800000#32 reduces_S128x128_S128 (.inl rfl) rfl)
    shapeCasts_S128_S128x1

/-- The exponentials of a first block. -/
def exA (s : FVec F S128x128 .f32) : FVec F S128x128 .f32 :=
  exp (subf s (broadcastTo S128x128 (mxA s) broadcasts_S128x1_S128x128))

/-- The row sums of a first block. -/
def zsA (p : FVec F S128x128 .f32) : FVec F S128x1 .f32 :=
  shapeCast S128x1 (multiReduction .add [1] S128 p 0x00000000#32 reduces_S128x128_S128 (.inl rfl) rfl)
    shapeCasts_S128_S128x1

/-- The weighted values of a first block. -/
def nmA (p : FVec F S128x128 .f32) (v : FVec F S128x128 .bf16) : FVec F S1x128x128 .f32 :=
  shapeCast S1x128x128
    (matmul dot_S128x128_S128x128_S128x128_1_0_0_1_n_n none (truncf .bf16 p bitsLt_bf16_f32) v
      (constant S128x128 .f32 0x00000000#32)) shapeCasts_S128x128_S1x128x128

/-- The masked scores of a later block: 128 queries on 256 keys, the block before and their own. -/
def scB (q : FVec F S128x128 .bf16) (k : FVec F S256x128 .bf16) : FVec F S128x256 .f32 :=
  select k0_pay2
    (mulf (matmul dot_S128x128_S256x128_S128x256_1_1_0_0_n_n none q k (constant S128x256 .f32 0x00000000#32))
      (broadcast S128x256 (Scalar.ofBits .f32 0x3DB504F3#32)))
    (broadcast S128x256 (Named.named κ "mask" 0xF149F2CA#32))

/-- The row maxima of a later block. -/
def mxB (s : FVec F S128x256 .f32) : FVec F S128x1 .f32 :=
  shapeCast S128x1 (multiReduction .maximumf [1] S128 s 0xFF800000#32 reduces_S128x256_S128 (.inl rfl) rfl)
    shapeCasts_S128_S128x1

/-- The exponentials of a later block. -/
def exB (s : FVec F S128x256 .f32) : FVec F S128x256 .f32 :=
  exp (subf s (broadcastTo S128x256 (mxB s) broadcasts_S128x1_S128x256))

/-- The row sums of a later block. -/
def zsB (p : FVec F S128x256 .f32) : FVec F S128x1 .f32 :=
  shapeCast S128x1 (multiReduction .add [1] S128 p 0x00000000#32 reduces_S128x256_S128 (.inl rfl) rfl)
    shapeCasts_S128_S128x1

/-- The weighted values of a later block. -/
def nmB (p : FVec F S128x256 .f32) (v : FVec F S256x128 .bf16) : FVec F S1x128x128 .f32 :=
  shapeCast S1x128x128
    (matmul dot_S128x256_S256x128_S128x128_1_0_0_1_n_n none (truncf .bf16 p bitsLt_bf16_f32) v
      (constant S128x128 .f32 0x00000000#32)) shapeCasts_S128x128_S1x128x128

/-- A column of one statistic per query, repeated over the 128 columns. -/
def rep (x : FVec F S128x1 .f32) : FVec F S1x128x128 .f32 :=
  shapeCast S1x128x128
    (broadcastTo S128x128 (shapeCast S128x1 x shapeCasts_S128x1_S128x1) broadcasts_S128x1_S128x128)
    shapeCasts_S128x128_S1x128x128

/-! ### Where the blocks read and write -/

/-- 128 consecutive rows of a window. -/
theorem inbWA (s : ℕ) (h : s + 128 ≤ 2048) :
    ∀ a, (![0, s, 0] : Fin 3 → ℕ) a + S1x128x128.size a ≤ S1x2048x128.size a
  | ⟨0, _⟩ => show 0 + 1 ≤ 1 from le_refl _
  | ⟨1, _⟩ => h
  | ⟨2, _⟩ => show 0 + 128 ≤ 128 from le_refl _

/-- 256 consecutive rows of a window. -/
theorem inbWB (s : ℕ) (h : s + 256 ≤ 2048) :
    ∀ a, (![0, s, 0] : Fin 3 → ℕ) a + S1x256x128.size a ≤ S1x2048x128.size a
  | ⟨0, _⟩ => show 0 + 1 ≤ 1 from le_refl _
  | ⟨1, _⟩ => h
  | ⟨2, _⟩ => show 0 + 128 ≤ 128 from le_refl _

/-- 128 rows of a scratch buffer, `r` apart. -/
theorem inbSA (s r : ℕ) (h : s + r * 127 < 2048) :
    ∀ a, S128x128.size a = 0
      ∨ (![s, 0] : Fin 2 → ℕ) a + (![r, 1] : Fin 2 → ℕ) a * (S128x128.size a - 1) < S2048x128.size a
  | ⟨0, _⟩ => Or.inr h
  | ⟨1, _⟩ => Or.inr (show 0 + 1 * 127 < 128 by decide)

/-- 256 rows of a scratch buffer, `r` apart. -/
theorem inbSB (s r : ℕ) (h : s + r * 255 < 2048) :
    ∀ a, S256x128.size a = 0
      ∨ (![s, 0] : Fin 2 → ℕ) a + (![r, 1] : Fin 2 → ℕ) a * (S256x128.size a - 1) < S2048x128.size a
  | ⟨0, _⟩ => Or.inr h
  | ⟨1, _⟩ => Or.inr (show 0 + 1 * 127 < 128 by decide)

/-- 128 consecutive rows of group 0 of a statistic buffer. -/
theorem inbR (s : ℕ) (h : s + 128 ≤ 2048) :
    ∀ a, (![0, s, 0] : Fin 3 → ℕ) a + S1x128x128.size a ≤ S3x2048x128.size a
  | ⟨0, _⟩ => show 0 + 1 ≤ 3 by decide
  | ⟨1, _⟩ => h
  | ⟨2, _⟩ => show 0 + 128 ≤ 128 from le_refl _

/-- 128 rows of group `g` of a statistic buffer, `r` apart. -/
theorem inbT (g s r : ℕ) (hg : g < 3) (h : s + r * 127 < 2048) :
    ∀ a, S1x128x128.size a = 0
      ∨ (![g, s, 0] : Fin 3 → ℕ) a + (![1, r, 1] : Fin 3 → ℕ) a * (S1x128x128.size a - 1) < S3x2048x128.size a
  | ⟨0, _⟩ => Or.inr hg
  | ⟨1, _⟩ => Or.inr h
  | ⟨2, _⟩ => Or.inr (show 0 + 1 * 127 < 128 by decide)

theorem strideT (r : ℕ) (h : 0 < r) : ∀ a, 0 < (![1, r, 1] : Fin 3 → ℕ) a
  | ⟨0, _⟩ => Nat.one_pos
  | ⟨1, _⟩ => h
  | ⟨2, _⟩ => Nat.one_pos

/-- The rows of group 0 block `n` writes. -/
def rectR (n : Fin 16) : Rect S3x2048x128 :=
  Rect.unit ![0, 128 * n.1, 0] S1x128x128.size (inbR _ (by have := n.2; omega))

/-- The rows of group `g` a block starting at row `s` writes, `r` apart. -/
def rectT (g s r : ℕ) (hg : g < 3) (hr : 0 < r) (h : s + r * 127 < 2048) : Rect S3x2048x128 :=
  { off := ![g, s, 0], size := S1x128x128.size, stride := ![1, r, 1], inb := inbT g s r hg h,
    stride_pos := strideT r hr }

/-- 128 rows of a window from row `s` on. -/
def winA (w : Memref sig .tc .vmem S1x2048x128 .bf16) (hw : w.IsWhole) (x : Vec F S1x2048x128 .bf16) (s : ℕ)
    (h : s + 128 ≤ 2048) : FVec F S128x128 .bf16 :=
  shapeCast S128x128
    (View.readAt (Elt F) w.view (Rect.unit (s := S1x2048x128) ![0, s, 0] S1x128x128.size (inbWA s h)).toLoadRect (hw.unread x))
    shapeCasts_S1x128x128_S128x128

/-- 256 rows of a window from row `s` on. -/
def winB (w : Memref sig .tc .vmem S1x2048x128 .bf16) (hw : w.IsWhole) (x : Vec F S1x2048x128 .bf16) (s : ℕ)
    (h : s + 256 ≤ 2048) : FVec F S256x128 .bf16 :=
  shapeCast S256x128
    (View.readAt (Elt F) w.view (Rect.unit (s := S1x2048x128) ![0, s, 0] S1x256x128.size (inbWB s h)).toLoadRect (hw.unread x))
    shapeCasts_S1x256x128_S256x128

/-- 128 rows of a scratch buffer from row `s` on, `r` apart. -/
def scrA (b : Memref sig .tc .vmem S2048x128 .f32) (L : List (View.Piece (Elt F) S2048x128 .f32)) (s r : ℕ)
    (h : s + r * 127 < 2048) : FVec F S128x128 .bf16 :=
  truncf .bf16 (b.view.readCov L { off := ![s, 0], size := S128x128.size, stride := ![r, 1], inb := inbSA s r h })
    bitsLt_bf16_f32

/-- 256 rows of a scratch buffer from row `s` on, `r` apart. -/
def scrB (b : Memref sig .tc .vmem S2048x128 .f32) (L : List (View.Piece (Elt F) S2048x128 .f32)) (s r : ℕ)
    (h : s + r * 255 < 2048) : FVec F S256x128 .bf16 :=
  truncf .bf16 (b.view.readCov L { off := ![s, 0], size := S256x128.size, stride := ![r, 1], inb := inbSB s r h })
    bitsLt_bf16_f32

/-- What a scratch buffer holds for group 1: a window whole, widened. -/
def held (w : Memref sig .tc .vmem S1x2048x128 .bf16) (hw : w.IsWhole) (x : Vec F S1x2048x128 .bf16) :
    View.Piece (Elt F) S2048x128 .f32 :=
  ⟨Rect.unit ![0, 0] S2048x128.size inb_S2048x128_S2048x128_0_0,
    shapeCast S2048x128 (extf .f32 (shapeCast S2048x128
      (View.readAt (Elt F) w.view
        (Rect.unit ![0, 0, 0] S1x2048x128.size inb_S1x2048x128_S1x2048x128_0_0_0).toLoadRect (hw.unread x))
      shapeCasts_S1x2048x128_S2048x128) bitsLt_bf16_f32) shapeCasts_S2048x128_S2048x128⟩

variable (c : Dev nD)
  (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .bf16) (harg6 : arg6.IsWhole)
  (arg7 : Memref sig .tc .vmem S1x2048x128 .bf16) (harg7 : arg7.IsWhole)
  (arg8 : Memref sig .tc .vmem S1x2048x128 .bf16) (harg8 : arg8.IsWhole)
  (arg9 : Memref sig .tc .vmem S1x2048x128 .bf16) (harg9 : arg9.IsWhole)
  (arg10 : Memref sig .tc .vmem S1x2048x128 .bf16) (harg10 : arg10.IsWhole)
  (arg12 arg13 arg14 : Memref sig .tc .vmem S2048x128 .f32)
  (x0 x1 x2 x3 x4 x5 x6 x7 x8 : Vec F S1x2048x128 .bf16)

/-! ### The three statistics of a block, from a reader of rows

A block is given by readers of its queries, keys and values; whether it is the first of its class decides how many
keys it reads. -/

/-- The weighted values a block stores. -/
def stN (first : Bool) (q : FVec F S128x128 .bf16) (kA vA : FVec F S128x128 .bf16) (kB vB : FVec F S256x128 .bf16) :
    FVec F S1x128x128 .f32 :=
  match first with
  | true => nmA (exA (scA q kA)) vA
  | false => nmB (exB (scB q kB)) vB

/-- The maxima a block stores. -/
def stM (first : Bool) (q : FVec F S128x128 .bf16) (kA : FVec F S128x128 .bf16) (kB : FVec F S256x128 .bf16) :
    FVec F S1x128x128 .f32 :=
  match first with
  | true => rep (mxA (scA q kA))
  | false => rep (mxB (scB q kB))

/-- The sums a block stores. -/
def stZ (first : Bool) (q : FVec F S128x128 .bf16) (kA : FVec F S128x128 .bf16) (kB : FVec F S256x128 .bf16) :
    FVec F S1x128x128 .f32 :=
  match first with
  | true => rep (zsA (exA (scA q kA)))
  | false => rep (zsB (exB (scB q kB)))

/-- Whether a block is its class's first. -/
def isFirst : ℕ → Bool
  | 0 => true
  | _ + 1 => false

theorem rowR (n : Fin 16) : 128 * n.1 + 128 ≤ 2048 := by have := n.2; omega
theorem rowR' (n : Fin 16) : 128 * (n.1 - 1) + 256 ≤ 2048 := by have := n.2; omega
theorem row4 (b : Fin 16) : (b.1 / 4 + 512 * (b.1 % 4)) + 4 * 127 < 2048 := by have := b.2; omega
theorem row4' (b : Fin 16) : (b.1 / 4 + 512 * (b.1 % 4 - 1)) + 4 * 255 < 2048 := by have := b.2; omega
theorem row16 (b : Fin 16) : b.1 + 16 * 127 < 2048 := by have := b.2; omega

/-- The sixteen blocks of a group, last first. -/
def blocks : List (Fin 16) := [15, 14, 13, 12, 11, 10, 9, 8, 7, 6, 5, 4, 3, 2, 1, 0]

theorem mem_blocks (b : Fin 16) : b ∈ blocks := by revert b; decide

/-- The weighted values of all blocks. -/
def listN : List (View.Piece (Elt F) S3x2048x128 .f32) :=
  (blocks.map fun b => (⟨rectT 2 b.1 16 (by decide) (by decide) (row16 b),
    nmA (exA (scA (scrA arg12 [held arg4 harg4 x2, held arg3 harg3 x1] b.1 16 (row16 b))
        (scrA arg13 [held arg7 harg7 x5, held arg6 harg6 x4] b.1 16 (row16 b))))
      (scrA arg14 [held arg10 harg10 x8, held arg9 harg9 x7] b.1 16 (row16 b))⟩
    : View.Piece (Elt F) S3x2048x128 .f32))
  ++ ((blocks.map fun b => (⟨rectT 1 (b.1 / 4 + 512 * (b.1 % 4)) 4 (by decide) (by decide) (row4 b),
    stN (isFirst (b.1 % 4)) (scrA arg12 [held arg3 harg3 x1] _ 4 (row4 b))
      (scrA arg13 [held arg6 harg6 x4] _ 4 (row4 b)) (scrA arg14 [held arg9 harg9 x7] _ 4 (row4 b))
      (scrB arg13 [held arg6 harg6 x4] _ 4 (row4' b)) (scrB arg14 [held arg9 harg9 x7] _ 4 (row4' b))⟩
    : View.Piece (Elt F) S3x2048x128 .f32))
  ++ blocks.map fun b => (⟨rectR b,
    stN (isFirst b.1) (winA arg2 harg2 x0 _ (rowR b)) (winA arg5 harg5 x3 _ (rowR b)) (winA arg8 harg8 x6 _ (rowR b))
      (winB arg5 harg5 x3 _ (rowR' b)) (winB arg8 harg8 x6 _ (rowR' b))⟩ : View.Piece (Elt F) S3x2048x128 .f32))

/-- The maxima of all blocks. -/
def listM : List (View.Piece (Elt F) S3x2048x128 .f32) :=
  (blocks.map fun b => (⟨rectT 2 b.1 16 (by decide) (by decide) (row16 b),
    rep (mxA (scA (scrA arg12 [held arg4 harg4 x2, held arg3 harg3 x1] b.1 16 (row16 b))
        (scrA arg13 [held arg7 harg7 x5, held arg6 harg6 x4] b.1 16 (row16 b))))⟩
    : View.Piece (Elt F) S3x2048x128 .f32))
  ++ ((blocks.map fun b => (⟨rectT 1 (b.1 / 4 + 512 * (b.1 % 4)) 4 (by decide) (by decide) (row4 b),
    stM (isFirst (b.1 % 4)) (scrA arg12 [held arg3 harg3 x1] _ 4 (row4 b))
      (scrA arg13 [held arg6 harg6 x4] _ 4 (row4 b)) (scrB arg13 [held arg6 harg6 x4] _ 4 (row4' b))⟩
    : View.Piece (Elt F) S3x2048x128 .f32))
  ++ blocks.map fun b => (⟨rectR b,
    stM (isFirst b.1) (winA arg2 harg2 x0 _ (rowR b)) (winA arg5 harg5 x3 _ (rowR b))
      (winB arg5 harg5 x3 _ (rowR' b))⟩ : View.Piece (Elt F) S3x2048x128 .f32))

/-- The sums of all blocks. -/
def listZ : List (View.Piece (Elt F) S3x2048x128 .f32) :=
  (blocks.map fun b => (⟨rectT 2 b.1 16 (by decide) (by decide) (row16 b),
    rep (zsA (exA (scA (scrA arg12 [held arg4 harg4 x2, held arg3 harg3 x1] b.1 16 (row16 b))
        (scrA arg13 [held arg7 harg7 x5, held arg6 harg6 x4] b.1 16 (row16 b)))))⟩
    : View.Piece (Elt F) S3x2048x128 .f32))
  ++ ((blocks.map fun b => (⟨rectT 1 (b.1 / 4 + 512 * (b.1 % 4)) 4 (by decide) (by decide) (row4 b),
    stZ (isFirst (b.1 % 4)) (scrA arg12 [held arg3 harg3 x1] _ 4 (row4 b))
      (scrA arg13 [held arg6 harg6 x4] _ 4 (row4 b)) (scrB arg13 [held arg6 harg6 x4] _ 4 (row4' b))⟩
    : View.Piece (Elt F) S3x2048x128 .f32))
  ++ blocks.map fun b => (⟨rectR b,
    stZ (isFirst b.1) (winA arg2 harg2 x0 _ (rowR b)) (winA arg5 harg5 x3 _ (rowR b))
      (winB arg5 harg5 x3 _ (rowR' b))⟩ : View.Piece (Elt F) S3x2048x128 .f32))

theorem listM_eq : kernelRun0_A.sl.HS4_48 c arg2 harg2 arg3 harg3 arg4 harg4 arg5 harg5 arg6 harg6 arg7 harg7
      arg12 arg13 x0 x1 x2 x3 x4 x5
    = listM arg2 harg2 arg3 harg3 arg4 harg4 arg5 harg5 arg6 harg6 arg7 harg7 arg12 arg13 x0 x1 x2 x3 x4 x5 := by
  sl_kernel_rfl

theorem listZ_eq : kernelRun0_A.sl.HS5_48 c arg2 harg2 arg3 harg3 arg4 harg4 arg5 harg5 arg6 harg6 arg7 harg7
      arg12 arg13 x0 x1 x2 x3 x4 x5
    = listZ arg2 harg2 arg3 harg3 arg4 harg4 arg5 harg5 arg6 harg6 arg7 harg7 arg12 arg13 x0 x1 x2 x3 x4 x5 := by
  sl_kernel_rfl

theorem listN_eq : kernelRun0_A.sl.HS3_48 c arg2 harg2 arg3 harg3 arg4 harg4 arg5 harg5 arg6 harg6 arg7 harg7
      arg8 harg8 arg9 harg9 arg10 harg10 arg12 arg13 arg14 x0 x1 x2 x3 x4 x5 x6 x7 x8
    = listN arg2 harg2 arg3 harg3 arg4 harg4 arg5 harg5 arg6 harg6 arg7 harg7 arg8 harg8 arg9 harg9 arg10 harg10
        arg12 arg13 arg14 x0 x1 x2 x3 x4 x5 x6 x7 x8 := by
  sl_kernel_rfl

end Cert.Attn
-- ==== Proof.AttnDense.lean ====
/- One block of the dilated attention against the dense softmax row: the maxima, sums and weighted values a block
   computes over its 128 or 256 keys are those over all 2048 keys under the group's mask. -/
module

public import proofs.«01_k».proof.Proof.AttnPieces
public import Idealize.ShloMosaic.Lib.WholeRead
public import Idealize.ShloMosaic.Lib.WordCmp

@[expose] public section

noncomputable section

namespace Cert.Attn

open Idealize.ShloMosaic Idealize.ShloMosaic.TcCoe
open Cert.KernelIdeal Cert.KernelIdeal.Gen
open scoped BigOperators

/-! ### The dense row -/

/-- The scale of the scores. -/
def scl : EReal := Ideal.ofBits .f32 0x3DB504F3#32

/-- The spacing of a group's keys. -/
def dil : Fin 3 → ℕ := ![1, 4, 16]

/-- How far back a group reaches. -/
def far : Fin 3 → ℕ := ![128, 512, 2048]

/-- Query `t` of group `g` attends key `t'`. -/
def Val (g : Fin 3) (t t' : Fin 2048) : Prop :=
  t'.1 ≤ t.1 ∧ t.1 ≤ t'.1 + far g ∧ t.1 % dil g = t'.1 % dil g

instance (g : Fin 3) (t t' : Fin 2048) : Decidable (Val g t t') := by unfold Val; infer_instance

/-- The masked score of a query and a key. -/
def msc (g : Fin 3) (q k : Fin 2048 → Fin 128 → EReal) (t t' : Fin 2048) : EReal :=
  if Val g t t' then (∑ d, q t d * k t' d) * scl else ⊥

/-- A row's greatest score. -/
def top {n : ℕ} (s : Fin n → EReal) : EReal := Finset.univ.sup s

/-- A row's sum of exponentials. -/
def tot {n : ℕ} (s : Fin n → EReal) : EReal := ∑ j, Ideal.exp (s j - top s)

/-- A row's weighted values. -/
def wsum {n : ℕ} (s v : Fin n → EReal) : EReal := ∑ j, Ideal.exp (s j - top s) * v j

/-! ### Rows that agree up to masked entries -/

section Rows

variable {n : ℕ} (φ : Fin n → Fin 2048) (f v : Fin 2048 → EReal) (s w : Fin n → EReal)

theorem bot_sub' (x : EReal) : (⊥ : EReal) - x = ⊥ := by
  rw [sub_eq_add_neg, EReal.bot_add]

theorem top_eq (hs : ∀ j, s j = f (φ j)) (hc : ∀ t, f t ≠ ⊥ → ∃ j, φ j = t) : top s = top f := by
  unfold top
  refine le_antisymm (Finset.sup_le fun j _ => ?_) (Finset.sup_le fun t _ => ?_)
  · rw [hs]; exact Finset.le_sup (f := f) (Finset.mem_univ _)
  · by_cases h : f t = ⊥
    · rw [h]; exact bot_le
    · obtain ⟨j, rfl⟩ := hc t h
      rw [← hs]; exact Finset.le_sup (f := s) (Finset.mem_univ _)

theorem sum_eq {a : Fin 2048 → EReal} {b : Fin n → EReal} (hi : Function.Injective φ) (hb : ∀ j, b j = a (φ j))
    (hc : ∀ t, a t ≠ 0 → ∃ j, φ j = t) : ∑ j, b j = ∑ t, a t :=
  Fintype.sum_of_injective φ hi _ _ (fun t ht => by_contra fun h => ht (hc t h)) hb

theorem exp_ne_zero {x : EReal} (y : EReal) (h : Ideal.exp (x - y) ≠ 0) : x ≠ ⊥ := by
  rintro rfl; rw [bot_sub'] at h; exact h rfl

theorem tot_eq (hi : Function.Injective φ) (hs : ∀ j, s j = f (φ j)) (hc : ∀ t, f t ≠ ⊥ → ∃ j, φ j = t) :
    tot s = tot f := by
  unfold tot
  refine sum_eq φ hi (fun j => ?_) fun t h => hc t (exp_ne_zero _ h)
  rw [hs, top_eq φ f s hs hc]

theorem wsum_eq (hi : Function.Injective φ) (hs : ∀ j, s j = f (φ j)) (hw : ∀ j, w j = v (φ j))
    (hc : ∀ t, f t ≠ ⊥ → ∃ j, φ j = t) : wsum s w = wsum f v := by
  unfold wsum
  refine sum_eq (a := fun t => Ideal.exp (f t - top f) * v t) φ hi (fun j => ?_) fun t h => hc t (exp_ne_zero _ (left_ne_zero_of_mul h))
  rw [hs, hw, top_eq φ f s hs hc]

end Rows

/-! ### The operations of a block, read at an index -/

theorem ninf : Ideal.ofBits .f32 0xFF800000#32 = ⊥ := by simp [Ideal.ofBits, Ideal.ieee]

theorem mask_bot : Named.named (F := Ideal) κ "mask" (φ := .f32) 0xF149F2CA#32 = (⊥ : EReal) := rfl

theorem fold_top {n : ℕ} (s : Fin n → EReal) : Finset.fold max ⊥ s Finset.univ = top s := rfl

theorem scA_apply (q k : FVec Ideal S128x128 .bf16) (i j : Fin 128) :
    scA q k (ix2 i j) = if j.1 ≤ i.1 then (∑ d, q (ix2 i d) * k (ix2 j d)) * scl else ⊥ := by
  unfold scA k0_pay3
  dsimp only
  simp only [pointwise, zero_add, zero_sub]
  rw [mask_bot]
  refine (if_congr ?_ rfl rfl)
  have hi := i.2
  have hj := j.2
  rw [WordCmp.cmpi_sge_eq]
  show BitVec.ofBool (decide ((BitVec.ofNat 32 (0 * 128 + j.1)).toInt ≤ (BitVec.ofNat 32 (0 * 128 + i.1)).toInt)) = 1#1 ↔ _
  rw [WordCmp.ofBool_decide_eq_one_iff]
  simp only [BitVec.toInt_ofNat', Int.bmod]
  omega

theorem toInt_small {n : ℕ} (h : n < 1024) : (BitVec.ofNat 32 n).toInt = n := by
  rw [BitVec.toInt_ofNat']
  exact Int.bmod_eq_of_le (by omega) (by omega)

theorem toInt_gap {x y : ℕ} (hx : x < 512) (hy : y < 512) :
    (128#32 + BitVec.ofNat 32 x - BitVec.ofNat 32 y).toInt = 128 + (x : ℤ) - y := by
  rw [BitVec.toInt_sub, BitVec.ofNat_add_ofNat, toInt_small (by omega), toInt_small (by omega),
    Int.bmod_eq_of_le (by omega) (by omega)]
  push_cast
  rfl

theorem scB_apply (q : FVec Ideal S128x128 .bf16) (k : FVec Ideal S256x128 .bf16) (i : Fin 128) (j : Fin 256) :
    scB q k (ix2 i j)
      = if i.1 ≤ j.1 ∧ j.1 ≤ i.1 + 128 then (∑ d, q (ix2 i d) * k (ix2 j d)) * scl else ⊥ := by
  unfold scB k0_pay2
  dsimp only
  simp only [pointwise, zero_add, zero_sub]
  rw [mask_bot]
  refine (if_congr ?_ rfl rfl)
  have hi := i.2
  have hj := j.2
  rw [WordCmp.cmpi_sge_eq, WordCmp.cmpi_sle_eq, WordCmp.andi_ofBool]
  show BitVec.ofBool
    (decide ((0#32).toInt ≤ (128#32 + BitVec.ofNat 32 (0 * 128 + i.1) - BitVec.ofNat 32 (0 * 256 + j.1)).toInt)
      && decide ((128#32 + BitVec.ofNat 32 (0 * 128 + i.1) - BitVec.ofNat 32 (0 * 256 + j.1)).toInt ≤ (128#32).toInt))
      = 1#1 ↔ _
  rw [← Bool.decide_and, WordCmp.ofBool_decide_eq_one_iff]
  rw [toInt_gap (by omega) (by omega), toInt_small (by decide), toInt_small (by decide)]
  omega

theorem mxA_apply (s : FVec Ideal S128x128 .f32) (i : Fin 128) (d : Fin 128) :
    rep (mxA s) (ix3 0 i d) = top fun k => s (ix2 i k) := by
  unfold mxA rep
  simp only [pointwise, zero_add, zero_sub]
  rw [ninf, fold_top]
  rfl

theorem mxB_apply (s : FVec Ideal S128x256 .f32) (i : Fin 128) (d : Fin 128) :
    rep (mxB s) (ix3 0 i d) = top fun k => s (ix2 i k) := by
  unfold mxB rep
  simp only [pointwise, zero_add, zero_sub]
  rw [ninf, fold_top]
  rfl

theorem exA_apply (s : FVec Ideal S128x128 .f32) (i : Fin 128) (j : Fin 128) :
    exA s (ix2 i j) = Ideal.exp (s (ix2 i j) - top fun k => s (ix2 i k)) := by
  unfold exA mxA
  simp only [pointwise, zero_add, zero_sub]
  rw [ninf, fold_top]
  rfl

theorem exB_apply (s : FVec Ideal S128x256 .f32) (i : Fin 128) (j : Fin 256) :
    exB s (ix2 i j) = Ideal.exp (s (ix2 i j) - top fun k => s (ix2 i k)) := by
  unfold exB mxB
  simp only [pointwise, zero_add, zero_sub]
  rw [ninf, fold_top]
  rfl

theorem zsA_apply (s : FVec Ideal S128x128 .f32) (i : Fin 128) (d : Fin 128) :
    rep (zsA (exA s)) (ix3 0 i d) = tot fun k => s (ix2 i k) := by
  unfold zsA rep tot
  simp only [pointwise, zero_add, zero_sub]
  refine Finset.sum_congr rfl fun k _ => ?_
  exact exA_apply s i k

theorem zsB_apply (s : FVec Ideal S128x256 .f32) (i : Fin 128) (d : Fin 128) :
    rep (zsB (exB s)) (ix3 0 i d) = tot fun k => s (ix2 i k) := by
  unfold zsB rep tot
  simp only [pointwise, zero_add, zero_sub]
  refine Finset.sum_congr rfl fun k _ => ?_
  exact exB_apply s i k

theorem nmA_apply (s : FVec Ideal S128x128 .f32) (v : FVec Ideal S128x128 .bf16) (i d : Fin 128) :
    nmA (exA s) v (ix3 0 i d) = wsum (fun k => s (ix2 i k)) fun k => v (ix2 k d) := by
  unfold nmA wsum
  simp only [pointwise, zero_add, zero_sub]
  refine Finset.sum_congr rfl fun k _ => ?_
  exact congrArg (· * _) (exA_apply s i k)

theorem nmB_apply (s : FVec Ideal S128x256 .f32) (v : FVec Ideal S256x128 .bf16) (i d : Fin 128) :
    nmB (exB s) v (ix3 0 i d) = wsum (fun k => s (ix2 i k)) fun k => v (ix2 k d) := by
  unfold nmB wsum
  simp only [pointwise, zero_add, zero_sub]
  refine Finset.sum_congr rfl fun k _ => ?_
  exact congrArg (· * _) (exB_apply s i k)

/-! ### The rows a block reads -/

/-- A window's entry. -/
def ent (x : Vec Ideal S1x2048x128 .bf16) (t : Fin 2048) (d : Fin 128) : EReal := x (ix3 0 t d)

theorem winA_apply (w : Memref sig .tc .vmem S1x2048x128 .bf16) (hw : w.IsWhole) (x : Vec Ideal S1x2048x128 .bf16)
    (s : ℕ) (h : s + 128 ≤ 2048) (i d : Fin 128) :
    winA w hw x s h (ix2 i d) = ent x ⟨s + i.1, by have := i.2; omega⟩ d := by
  unfold winA ent
  simp only [pointwise, zero_add, zero_sub]
  rw [Memref.IsWhole.readAt_unread]
  refine congrArg x (funext fun a => Fin.ext ?_)
  match a with
  | ⟨0, _⟩ => rfl
  | ⟨1, _⟩ => show s + 1 * i.1 = s + i.1; omega
  | ⟨2, _⟩ => show 0 + 1 * d.1 = d.1; omega

theorem winB_apply (w : Memref sig .tc .vmem S1x2048x128 .bf16) (hw : w.IsWhole) (x : Vec Ideal S1x2048x128 .bf16)
    (s : ℕ) (h : s + 256 ≤ 2048) (i : Fin 256) (d : Fin 128) :
    winB w hw x s h (ix2 i d) = ent x ⟨s + i.1, by have := i.2; omega⟩ d := by
  unfold winB ent
  simp only [pointwise, zero_add, zero_sub]
  rw [Memref.IsWhole.readAt_unread]
  refine congrArg x (funext fun a => Fin.ext ?_)
  match a with
  | ⟨0, _⟩ => rfl
  | ⟨1, _⟩ => show s + 1 * i.1 = s + i.1; omega
  | ⟨2, _⟩ => show 0 + 1 * d.1 = d.1; omega

theorem held_apply (w : Memref sig .tc .vmem S1x2048x128 .bf16) (hw : w.IsWhole) (x : Vec Ideal S1x2048x128 .bf16)
    (L : List (View.Piece (Elt Ideal) S2048x128 .f32)) (t : Fin 2048) (d : Fin 128) :
    View.canon (held w hw x :: L) (ix2 t d) = ent x t d := by
  unfold held ent
  rw [View.canon_cons_unit_zero (by funext a; match a with | ⟨0, _⟩ => rfl | ⟨1, _⟩ => rfl)]
  simp only [pointwise, zero_add, zero_sub]
  rw [Memref.IsWhole.readAt_unread]
  refine congrArg x (funext fun a => Fin.ext ?_)
  match a with
  | ⟨0, _⟩ => rfl
  | ⟨1, _⟩ => show 0 + 1 * t.1 = t.1; omega
  | ⟨2, _⟩ => show 0 + 1 * d.1 = d.1; omega

theorem scrA_apply (b : Memref sig .tc .vmem S2048x128 .f32) (w : Memref sig .tc .vmem S1x2048x128 .bf16)
    (hw : w.IsWhole) (x : Vec Ideal S1x2048x128 .bf16) (L : List (View.Piece (Elt Ideal) S2048x128 .f32)) (s r : ℕ)
    (h : s + r * 127 < 2048) (i d : Fin 128) (hi : s + r * i.1 < 2048) :
    scrA b (held w hw x :: L) s r h (ix2 i d) = ent x ⟨s + r * i.1, hi⟩ d := by
  unfold scrA
  simp only [pointwise, zero_add, zero_sub]
  rw [View.readCov_eq_canon', ← held_apply w hw x L]
  refine congrArg (View.canon (held w hw x :: L)) (funext fun a => Fin.ext ?_)
  match a with
  | ⟨0, _⟩ => rfl
  | ⟨1, _⟩ => show 0 + 1 * d.1 = d.1; omega

theorem scrB_apply (b : Memref sig .tc .vmem S2048x128 .f32) (w : Memref sig .tc .vmem S1x2048x128 .bf16)
    (hw : w.IsWhole) (x : Vec Ideal S1x2048x128 .bf16) (L : List (View.Piece (Elt Ideal) S2048x128 .f32)) (s r : ℕ)
    (h : s + r * 255 < 2048) (i : Fin 256) (d : Fin 128) (hi : s + r * i.1 < 2048) :
    scrB b (held w hw x :: L) s r h (ix2 i d) = ent x ⟨s + r * i.1, hi⟩ d := by
  unfold scrB
  simp only [pointwise, zero_add, zero_sub]
  rw [View.readCov_eq_canon', ← held_apply w hw x L]
  refine congrArg (View.canon (held w hw x :: L)) (funext fun a => Fin.ext ?_)
  match a with
  | ⟨0, _⟩ => rfl
  | ⟨1, _⟩ => show 0 + 1 * d.1 = d.1; omega

end Cert.Attn
-- ==== Proof.AttnBufs.lean ====
/- What the three statistic buffers of the dilated attention hold after the block loop: each group's row maxima,
   sums of exponentials and weighted values, over all 2048 keys under the group's mask. -/
module

public import proofs.«01_k».proof.Proof.AttnDense

@[expose] public section

noncomputable section

namespace Cert.Attn

open Idealize.ShloMosaic Idealize.ShloMosaic.TcCoe
open Cert.KernelIdeal Cert.KernelIdeal.Gen
open scoped BigOperators

/-! ### A block against the dense row -/

section Block

variable (g : Fin 3) (Q K V : Fin 2048 → Fin 128 → EReal) (ρ : Fin 128 → Fin 2048)

/-- The placement of a first block: its keys are its queries' rows and no other attended key exists. -/
structure First : Prop where
  inj : Function.Injective ρ
  mask : ∀ i j : Fin 128, j.1 ≤ i.1 ↔ Val g (ρ i) (ρ j)
  all : ∀ i t, Val g (ρ i) t → ∃ j, ρ j = t

/-- The placement of a later block. -/
structure Later (φ : Fin 256 → Fin 2048) : Prop where
  inj : Function.Injective φ
  mask : ∀ (i : Fin 128) (j : Fin 256), (i.1 ≤ j.1 ∧ j.1 ≤ i.1 + 128) ↔ Val g (ρ i) (φ j)
  all : ∀ i t, Val g (ρ i) t → ∃ j, φ j = t

theorem msc_ne_bot {g : Fin 3} {Q K : Fin 2048 → Fin 128 → EReal} {t t' : Fin 2048} (h : msc g Q K t t' ≠ ⊥) :
    Val g t t' := by
  by_contra hn
  exact h (if_neg hn)

variable {g Q K V ρ}

section FirstBlock

variable (hb : First g ρ) {q k v : FVec Ideal S128x128 .bf16}
  (hq : ∀ i d, q (ix2 i d) = Q (ρ i) d) (hk : ∀ j d, k (ix2 j d) = K (ρ j) d) (hv : ∀ j d, v (ix2 j d) = V (ρ j) d)

include hb hq hk

theorem scA_row (i j : Fin 128) : scA q k (ix2 i j) = msc g Q K (ρ i) (ρ j) := by
  rw [scA_apply, msc]
  refine if_congr (hb.mask i j) ?_ rfl
  simp only [hq, hk]

theorem mA (i d : Fin 128) : rep (mxA (scA q k)) (ix3 0 i d) = top (msc g Q K (ρ i)) := by
  rw [mxA_apply]
  exact top_eq ρ _ _ (fun j => scA_row hb hq hk i j) fun t h => hb.all i t (msc_ne_bot h)

theorem zA (i d : Fin 128) : rep (zsA (exA (scA q k))) (ix3 0 i d) = tot (msc g Q K (ρ i)) := by
  rw [zsA_apply]
  exact tot_eq ρ _ _ hb.inj (fun j => scA_row hb hq hk i j) fun t h => hb.all i t (msc_ne_bot h)

include hv in
theorem nA (i d : Fin 128) :
    nmA (exA (scA q k)) v (ix3 0 i d) = wsum (msc g Q K (ρ i)) fun t => V t d := by
  rw [nmA_apply]
  exact wsum_eq ρ _ (fun t => V t d) _ _ hb.inj (fun j => scA_row hb hq hk i j) (fun j => hv j d)
    fun t h => hb.all i t (msc_ne_bot h)

end FirstBlock

section LaterBlock

variable {φ : Fin 256 → Fin 2048} (hb : Later g ρ φ) {q : FVec Ideal S128x128 .bf16} {k v : FVec Ideal S256x128 .bf16}
  (hq : ∀ i d, q (ix2 i d) = Q (ρ i) d) (hk : ∀ j d, k (ix2 j d) = K (φ j) d) (hv : ∀ j d, v (ix2 j d) = V (φ j) d)

include hb hq hk

theorem scB_row (i : Fin 128) (j : Fin 256) : scB q k (ix2 i j) = msc g Q K (ρ i) (φ j) := by
  rw [scB_apply, msc]
  refine if_congr (hb.mask i j) ?_ rfl
  simp only [hq, hk]

theorem mB (i d : Fin 128) : rep (mxB (scB q k)) (ix3 0 i d) = top (msc g Q K (ρ i)) := by
  rw [mxB_apply]
  exact top_eq φ _ _ (fun j => scB_row hb hq hk i j) fun t h => hb.all i t (msc_ne_bot h)

theorem zB (i d : Fin 128) : rep (zsB (exB (scB q k))) (ix3 0 i d) = tot (msc g Q K (ρ i)) := by
  rw [zsB_apply]
  exact tot_eq φ _ _ hb.inj (fun j => scB_row hb hq hk i j) fun t h => hb.all i t (msc_ne_bot h)

include hv in
theorem nB (i d : Fin 128) :
    nmB (exB (scB q k)) v (ix3 0 i d) = wsum (msc g Q K (ρ i)) fun t => V t d := by
  rw [nmB_apply]
  exact wsum_eq φ _ (fun t => V t d) _ _ hb.inj (fun j => scB_row hb hq hk i j) (fun j => hv j d)
    fun t h => hb.all i t (msc_ne_bot h)

end LaterBlock

end Block

/-! ### The placements -/

/-- The row of query `i` of a block that starts at row `s`, rows `r` apart. -/
def place {n : ℕ} (s r : ℕ) (h : s + r * (n - 1) < 2048) (i : Fin n) : Fin 2048 :=
  ⟨s + r * i.1, lt_of_le_of_lt (Nat.add_le_add_left (Nat.mul_le_mul_left r (Nat.le_sub_one_of_lt i.2)) s) h⟩

theorem val0 (t t' : Fin 2048) : Val 0 t t' ↔ (t'.1 ≤ t.1 ∧ t.1 ≤ t'.1 + 128 ∧ t.1 % 1 = t'.1 % 1) := Iff.rfl
theorem val1 (t t' : Fin 2048) : Val 1 t t' ↔ (t'.1 ≤ t.1 ∧ t.1 ≤ t'.1 + 512 ∧ t.1 % 4 = t'.1 % 4) := Iff.rfl
theorem val2 (t t' : Fin 2048) : Val 2 t t' ↔ (t'.1 ≤ t.1 ∧ t.1 ≤ t'.1 + 2048 ∧ t.1 % 16 = t'.1 % 16) := Iff.rfl

theorem place_inj {n : ℕ} (s r : ℕ) (hr : 0 < r) (h : s + r * (n - 1) < 2048) :
    Function.Injective (place s r h : Fin n → Fin 2048) := by
  intro i j e
  have e' : s + r * i.1 = s + r * j.1 := congrArg Fin.val e
  exact Fin.ext (Nat.eq_of_mul_eq_mul_left hr (Nat.add_left_cancel e'))

theorem first2 (b : Fin 16) : First 2 (place b.1 16 (row16 b)) where
  inj := place_inj _ _ (by decide) _
  mask i j := by
    rw [val2]; show _ ↔ (b.1 + 16 * j.1 ≤ b.1 + 16 * i.1 ∧ b.1 + 16 * i.1 ≤ b.1 + 16 * j.1 + 2048 ∧ _ % 16 = _ % 16)
    have := i.2
    show _ ↔ (_ ∧ _ ∧ (b.1 + 16 * i.1) % 16 = (b.1 + 16 * j.1) % 16)
    omega
  all i t h := by
    rw [val2] at h
    have hm : (b.1 + 16 * i.1) % 16 = t.1 % 16 := h.2.2
    have := t.2
    have := b.2
    exact ⟨⟨t.1 / 16, by omega⟩, Fin.ext (show b.1 + 16 * (t.1 / 16) = t.1 by omega)⟩

theorem first1 (b : Fin 16) (h0 : b.1 % 4 = 0) : First 1 (place (b.1 / 4 + 512 * (b.1 % 4)) 4 (row4 b)) where
  inj := place_inj _ _ (by decide) _
  mask i j := by
    rw [val1]
    show _ ↔ (b.1 / 4 + 512 * (b.1 % 4) + 4 * j.1 ≤ b.1 / 4 + 512 * (b.1 % 4) + 4 * i.1
      ∧ b.1 / 4 + 512 * (b.1 % 4) + 4 * i.1 ≤ b.1 / 4 + 512 * (b.1 % 4) + 4 * j.1 + 512
      ∧ (b.1 / 4 + 512 * (b.1 % 4) + 4 * i.1) % 4 = (b.1 / 4 + 512 * (b.1 % 4) + 4 * j.1) % 4)
    have := i.2
    omega
  all i t h := by
    rw [val1] at h
    have hl : t.1 ≤ b.1 / 4 + 512 * (b.1 % 4) + 4 * i.1 := h.1
    have hm : (b.1 / 4 + 512 * (b.1 % 4) + 4 * i.1) % 4 = t.1 % 4 := h.2.2
    have := t.2
    have := b.2
    have := i.2
    exact ⟨⟨t.1 / 4, by omega⟩, Fin.ext (show b.1 / 4 + 512 * (b.1 % 4) + 4 * (t.1 / 4) = t.1 by omega)⟩

theorem later1 (b : Fin 16) (h0 : 0 < b.1 % 4) : Later 1 (place (b.1 / 4 + 512 * (b.1 % 4)) 4 (row4 b))
    (place (b.1 / 4 + 512 * (b.1 % 4 - 1)) 4 (row4' b)) where
  inj := place_inj _ _ (by decide) _
  mask i j := by
    rw [val1]
    show _ ↔ (b.1 / 4 + 512 * (b.1 % 4 - 1) + 4 * j.1 ≤ b.1 / 4 + 512 * (b.1 % 4) + 4 * i.1
      ∧ b.1 / 4 + 512 * (b.1 % 4) + 4 * i.1 ≤ b.1 / 4 + 512 * (b.1 % 4 - 1) + 4 * j.1 + 512
      ∧ (b.1 / 4 + 512 * (b.1 % 4) + 4 * i.1) % 4 = (b.1 / 4 + 512 * (b.1 % 4 - 1) + 4 * j.1) % 4)
    have := i.2
    omega
  all i t h := by
    rw [val1] at h
    have hl : t.1 ≤ b.1 / 4 + 512 * (b.1 % 4) + 4 * i.1 := h.1
    have hl' : b.1 / 4 + 512 * (b.1 % 4) + 4 * i.1 ≤ t.1 + 512 := h.2.1
    have hm : (b.1 / 4 + 512 * (b.1 % 4) + 4 * i.1) % 4 = t.1 % 4 := h.2.2
    have := t.2
    have := b.2
    have := i.2
    exact ⟨⟨(t.1 - (b.1 / 4 + 512 * (b.1 % 4 - 1))) / 4, by omega⟩,
      Fin.ext (show b.1 / 4 + 512 * (b.1 % 4 - 1) + 4 * ((t.1 - (b.1 / 4 + 512 * (b.1 % 4 - 1))) / 4) = t.1 by omega)⟩

theorem rowR1 (b : Fin 16) : 128 * b.1 + 1 * 127 < 2048 := by have := b.2; omega
theorem rowR1' (b : Fin 16) : 128 * (b.1 - 1) + 1 * 255 < 2048 := by have := b.2; omega

theorem first0 (b : Fin 16) (h0 : b.1 = 0) : First 0 (place (128 * b.1) 1 (rowR1 b)) where
  inj := place_inj _ _ (by decide) _
  mask i j := by
    rw [val0]
    show _ ↔ (128 * b.1 + 1 * j.1 ≤ 128 * b.1 + 1 * i.1 ∧ 128 * b.1 + 1 * i.1 ≤ 128 * b.1 + 1 * j.1 + 128
      ∧ (128 * b.1 + 1 * i.1) % 1 = (128 * b.1 + 1 * j.1) % 1)
    have := i.2
    omega
  all i t h := by
    rw [val0] at h
    have hl : t.1 ≤ 128 * b.1 + 1 * i.1 := h.1
    have := i.2
    exact ⟨⟨t.1, by omega⟩, Fin.ext (show 128 * b.1 + 1 * t.1 = t.1 by omega)⟩

theorem later0 (b : Fin 16) (h0 : 0 < b.1) : Later 0 (place (128 * b.1) 1 (rowR1 b))
    (place (128 * (b.1 - 1)) 1 (rowR1' b)) where
  inj := place_inj _ _ (by decide) _
  mask i j := by
    rw [val0]
    show _ ↔ (128 * (b.1 - 1) + 1 * j.1 ≤ 128 * b.1 + 1 * i.1 ∧ 128 * b.1 + 1 * i.1 ≤ 128 * (b.1 - 1) + 1 * j.1 + 128
      ∧ (128 * b.1 + 1 * i.1) % 1 = (128 * (b.1 - 1) + 1 * j.1) % 1)
    have := i.2
    omega
  all i t h := by
    rw [val0] at h
    have hl : t.1 ≤ 128 * b.1 + 1 * i.1 := h.1
    have hl' : 128 * b.1 + 1 * i.1 ≤ t.1 + 128 := h.2.1
    have := t.2
    have := i.2
    exact ⟨⟨t.1 - 128 * (b.1 - 1), by omega⟩,
      Fin.ext (show 128 * (b.1 - 1) + 1 * (t.1 - 128 * (b.1 - 1)) = t.1 by omega)⟩

/-! ### A buffer of 48 blocks -/

/-- The pieces of a statistic buffer, from each group's stored block. -/
def pieces (f2 f1 f0 : Fin 16 → FVec Ideal S1x128x128 .f32) : List (View.Piece (Elt Ideal) S3x2048x128 .f32) :=
  (blocks.map fun b => (⟨rectT 2 b.1 16 (by decide) (by decide) (row16 b), f2 b⟩ : View.Piece (Elt Ideal) S3x2048x128 .f32))
  ++ ((blocks.map fun b => (⟨rectT 1 (b.1 / 4 + 512 * (b.1 % 4)) 4 (by decide) (by decide) (row4 b), f1 b⟩
    : View.Piece (Elt Ideal) S3x2048x128 .f32))
  ++ blocks.map fun b => (⟨rectR b, f0 b⟩ : View.Piece (Elt Ideal) S3x2048x128 .f32))

theorem ix3_0 (x : S1x128x128.Idx) : x = ix3 0 (x 1) (x 2) := by
  funext a
  match a with
  | ⟨0, _⟩ => exact Fin.ext (by have := (x 0).2; show (x 0).1 = 0; exact Nat.lt_one_iff.mp this)
  | ⟨1, _⟩ => rfl
  | ⟨2, _⟩ => rfl

theorem emb_T (g s r : ℕ) (hg : g < 3) (hr : 0 < r) (h : s + r * 127 < 2048) (i d : Fin 128) :
    (rectT g s r hg hr h).emb (ix3 0 i d) = (ix3 ⟨g, hg⟩ (place s r h i) d : S3x2048x128.Idx) := by
  funext a
  refine Fin.ext ?_
  match a with
  | ⟨0, _⟩ => rfl
  | ⟨1, _⟩ => rfl
  | ⟨2, _⟩ => show 0 + 1 * d.1 = d.1; omega

theorem emb_R (b : Fin 16) (i d : Fin 128) :
    (rectR b).emb (ix3 0 i d) = (ix3 0 (place (128 * b.1) 1 (rowR1 b) i) d : S3x2048x128.Idx) := by
  funext a
  refine Fin.ext ?_
  match a with
  | ⟨0, _⟩ => rfl
  | ⟨1, _⟩ => rfl
  | ⟨2, _⟩ => show 0 + 1 * d.1 = d.1; omega

theorem canon_pieces (f2 f1 f0 : Fin 16 → FVec Ideal S1x128x128 .f32) (G : Fin 3 → Fin 2048 → Fin 128 → EReal)
    (h2 : ∀ b i d, f2 b (ix3 0 i d) = G 2 (place b.1 16 (row16 b) i) d)
    (h1 : ∀ b i d, f1 b (ix3 0 i d) = G 1 (place (b.1 / 4 + 512 * (b.1 % 4)) 4 (row4 b) i) d)
    (h0 : ∀ b i d, f0 b (ix3 0 i d) = G 0 (place (128 * b.1) 1 (rowR1 b) i) d)
    (g : Fin 3) (t : Fin 2048) (d : Fin 128) :
    View.canon (pieces f2 f1 f0) (ix3 g t d) = G g t d := by
  refine View.canon_apply_of_pieces (Val := Elt Ideal) (e := .f32) (fun y : S3x2048x128.Idx => G (y 0) (y 1) (y 2)) _ ?_ _ ?_
  · intro p hp
    unfold pieces at hp
    rw [List.mem_append, List.mem_append, List.mem_map, List.mem_map, List.mem_map] at hp
    rcases hp with ⟨b, _, rfl⟩ | ⟨b, _, rfl⟩ | ⟨b, _, rfl⟩
    · intro x
      rw [ix3_0 x]
      exact (h2 b _ _).trans (congrArg (fun y : S3x2048x128.Idx => G (y 0) (y 1) (y 2)) (emb_T 2 b.1 16 (by decide) (by decide) (row16 b) (x 1) (x 2)).symm)
    · intro x
      rw [ix3_0 x]
      exact (h1 b _ _).trans (congrArg (fun y : S3x2048x128.Idx => G (y 0) (y 1) (y 2)) (emb_T 1 (b.1 / 4 + 512 * (b.1 % 4)) 4 (by decide) (by decide) (row4 b) (x 1) (x 2)).symm)
    · intro x
      rw [ix3_0 x]
      exact (h0 b _ _).trans (congrArg (fun y : S3x2048x128.Idx => G (y 0) (y 1) (y 2)) (emb_R b (x 1) (x 2)).symm)
  · unfold pieces
    have ht := t.2
    match g with
    | ⟨0, _⟩ =>
      refine ⟨_, List.mem_append_right _ (List.mem_append_right _
        (List.mem_map_of_mem (mem_blocks ⟨t.1 / 128, by omega⟩))), (LoadRect.mem_set _).mpr fun a => ?_⟩
      match a with
      | ⟨0, _⟩ => exact ⟨0, Nat.one_pos, rfl⟩
      | ⟨1, _⟩ => exact ⟨t.1 % 128, Nat.mod_lt _ (by decide), show t.1 = 128 * (t.1 / 128) + 1 * (t.1 % 128) by omega⟩
      | ⟨2, _⟩ => exact ⟨d.1, d.2, show d.1 = 0 + 1 * d.1 by omega⟩
    | ⟨1, _⟩ =>
      refine ⟨_, List.mem_append_right _ (List.mem_append_left _
        (List.mem_map_of_mem (mem_blocks ⟨4 * (t.1 % 4) + t.1 / 512, by omega⟩))), (LoadRect.mem_set _).mpr fun a => ?_⟩
      match a with
      | ⟨0, _⟩ => exact ⟨0, Nat.one_pos, rfl⟩
      | ⟨1, _⟩ =>
        exact ⟨t.1 % 512 / 4, show t.1 % 512 / 4 < 128 by omega,
          show t.1 = (4 * (t.1 % 4) + t.1 / 512) / 4 + 512 * ((4 * (t.1 % 4) + t.1 / 512) % 4) + 4 * (t.1 % 512 / 4) by
            have h1 : (4 * (t.1 % 4) + t.1 / 512) / 4 = t.1 % 4 := by omega
            have h2 : (4 * (t.1 % 4) + t.1 / 512) % 4 = t.1 / 512 := by omega
            rw [h1, h2]
            omega⟩
      | ⟨2, _⟩ => exact ⟨d.1, d.2, show d.1 = 0 + 1 * d.1 by omega⟩
    | ⟨2, _⟩ =>
      refine ⟨_, List.mem_append_left _ (List.mem_map_of_mem (mem_blocks ⟨t.1 % 16, by omega⟩)),
        (LoadRect.mem_set _).mpr fun a => ?_⟩
      match a with
      | ⟨0, _⟩ => exact ⟨0, Nat.one_pos, rfl⟩
      | ⟨1, _⟩ => exact ⟨t.1 / 16, show t.1 / 16 < 128 by omega, show t.1 = t.1 % 16 + 16 * (t.1 / 16) by omega⟩
      | ⟨2, _⟩ => exact ⟨d.1, d.2, show d.1 = 0 + 1 * d.1 by omega⟩

/-! ### The three buffers -/

/-- A group's window of three. -/
def grp (x0 x1 x2 : Vec Ideal S1x2048x128 .bf16) (g : Fin 3) : Fin 2048 → Fin 128 → EReal := ent (![x0, x1, x2] g)

variable (c : Dev nD)
  (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .bf16) (harg6 : arg6.IsWhole)
  (arg7 : Memref sig .tc .vmem S1x2048x128 .bf16) (harg7 : arg7.IsWhole)
  (arg8 : Memref sig .tc .vmem S1x2048x128 .bf16) (harg8 : arg8.IsWhole)
  (arg9 : Memref sig .tc .vmem S1x2048x128 .bf16) (harg9 : arg9.IsWhole)
  (arg10 : Memref sig .tc .vmem S1x2048x128 .bf16) (harg10 : arg10.IsWhole)
  (arg12 arg13 arg14 : Memref sig .tc .vmem S2048x128 .f32)
  (x0 x1 x2 x3 x4 x5 x6 x7 x8 : Vec Ideal S1x2048x128 .bf16)

theorem win_place (w : Memref sig .tc .vmem S1x2048x128 .bf16) (hw : w.IsWhole) (x : Vec Ideal S1x2048x128 .bf16)
    (s : ℕ) (h : s + 128 ≤ 2048) (h' : s + 1 * 127 < 2048) (i d : Fin 128) :
    winA w hw x s h (ix2 i d) = ent x (place s 1 h' i) d := by
  rw [winA_apply]
  exact congrArg (fun t => ent x t d) (Fin.ext (show s + i.1 = s + 1 * i.1 by omega))

theorem win_place' (w : Memref sig .tc .vmem S1x2048x128 .bf16) (hw : w.IsWhole) (x : Vec Ideal S1x2048x128 .bf16)
    (s : ℕ) (h : s + 256 ≤ 2048) (h' : s + 1 * 255 < 2048) (i : Fin 256) (d : Fin 128) :
    winB w hw x s h (ix2 i d) = ent x (place s 1 h' i) d := by
  rw [winB_apply]
  exact congrArg (fun t => ent x t d) (Fin.ext (show s + i.1 = s + 1 * i.1 by omega))

theorem isFirst_cases (n : ℕ) : (n = 0 ∧ isFirst n = true) ∨ (0 < n ∧ isFirst n = false) := by
  cases n with
  | zero => exact Or.inl ⟨rfl, rfl⟩
  | succ n => exact Or.inr ⟨n.succ_pos, rfl⟩

theorem canonM (g : Fin 3) (t : Fin 2048) (d : Fin 128) :
    View.canon (listM arg2 harg2 arg3 harg3 arg4 harg4 arg5 harg5 arg6 harg6 arg7 harg7 arg12 arg13 x0 x1 x2 x3 x4 x5)
      (ix3 g t d) = top (msc g (grp x0 x1 x2 g) (grp x3 x4 x5 g) t) := by
  refine canon_pieces _ _ _ (fun g t _ => top (msc g (grp x0 x1 x2 g) (grp x3 x4 x5 g) t)) ?_ ?_ ?_ g t d
  · intro b i d
    exact mA (first2 b) (fun i d => scrA_apply _ _ _ x2 _ _ _ _ i d _) (fun i d => scrA_apply _ _ _ x5 _ _ _ _ i d _) i d
  · intro b i d
    rcases isFirst_cases (b.1 % 4) with ⟨h0, e⟩ | ⟨h0, e⟩
    · rw [e]
      exact mA (first1 b h0) (fun i d => scrA_apply _ _ _ x1 _ _ _ _ i d _) (fun i d => scrA_apply _ _ _ x4 _ _ _ _ i d _) i d
    · rw [e]
      exact mB (later1 b h0) (fun i d => scrA_apply _ _ _ x1 _ _ _ _ i d _) (fun i d => scrB_apply _ _ _ x4 _ _ _ _ i d _) i d
  · intro b i d
    rcases isFirst_cases b.1 with ⟨h0, e⟩ | ⟨h0, e⟩
    · rw [e]
      exact mA (first0 b h0) (fun i d => win_place _ _ x0 _ _ _ i d) (fun i d => win_place _ _ x3 _ _ _ i d) i d
    · rw [e]
      exact mB (later0 b h0) (fun i d => win_place _ _ x0 _ _ _ i d) (fun i d => win_place' _ _ x3 _ _ _ i d) i d

theorem canonZ (g : Fin 3) (t : Fin 2048) (d : Fin 128) :
    View.canon (listZ arg2 harg2 arg3 harg3 arg4 harg4 arg5 harg5 arg6 harg6 arg7 harg7 arg12 arg13 x0 x1 x2 x3 x4 x5)
      (ix3 g t d) = tot (msc g (grp x0 x1 x2 g) (grp x3 x4 x5 g) t) := by
  refine canon_pieces _ _ _ (fun g t _ => tot (msc g (grp x0 x1 x2 g) (grp x3 x4 x5 g) t)) ?_ ?_ ?_ g t d
  · intro b i d
    exact zA (first2 b) (fun i d => scrA_apply _ _ _ x2 _ _ _ _ i d _) (fun i d => scrA_apply _ _ _ x5 _ _ _ _ i d _) i d
  · intro b i d
    rcases isFirst_cases (b.1 % 4) with ⟨h0, e⟩ | ⟨h0, e⟩
    · rw [e]
      exact zA (first1 b h0) (fun i d => scrA_apply _ _ _ x1 _ _ _ _ i d _) (fun i d => scrA_apply _ _ _ x4 _ _ _ _ i d _) i d
    · rw [e]
      exact zB (later1 b h0) (fun i d => scrA_apply _ _ _ x1 _ _ _ _ i d _) (fun i d => scrB_apply _ _ _ x4 _ _ _ _ i d _) i d
  · intro b i d
    rcases isFirst_cases b.1 with ⟨h0, e⟩ | ⟨h0, e⟩
    · rw [e]
      exact zA (first0 b h0) (fun i d => win_place _ _ x0 _ _ _ i d) (fun i d => win_place _ _ x3 _ _ _ i d) i d
    · rw [e]
      exact zB (later0 b h0) (fun i d => win_place _ _ x0 _ _ _ i d) (fun i d => win_place' _ _ x3 _ _ _ i d) i d

theorem canonN (g : Fin 3) (t : Fin 2048) (d : Fin 128) :
    View.canon (listN arg2 harg2 arg3 harg3 arg4 harg4 arg5 harg5 arg6 harg6 arg7 harg7 arg8 harg8 arg9 harg9 arg10
        harg10 arg12 arg13 arg14 x0 x1 x2 x3 x4 x5 x6 x7 x8) (ix3 g t d)
      = wsum (msc g (grp x0 x1 x2 g) (grp x3 x4 x5 g) t) fun t' => grp x6 x7 x8 g t' d := by
  refine canon_pieces _ _ _
    (fun g t d => wsum (msc g (grp x0 x1 x2 g) (grp x3 x4 x5 g) t) fun t' => grp x6 x7 x8 g t' d) ?_ ?_ ?_ g t d
  · intro b i d
    exact nA (V := grp x6 x7 x8 2) (first2 b) (fun i d => scrA_apply _ _ _ x2 _ _ _ _ i d _)
      (fun i d => scrA_apply _ _ _ x5 _ _ _ _ i d _) (fun i d => scrA_apply _ _ _ x8 _ _ _ _ i d _) i d
  · intro b i d
    rcases isFirst_cases (b.1 % 4) with ⟨h0, e⟩ | ⟨h0, e⟩
    · rw [e]
      exact nA (V := grp x6 x7 x8 1) (first1 b h0) (fun i d => scrA_apply _ _ _ x1 _ _ _ _ i d _)
        (fun i d => scrA_apply _ _ _ x4 _ _ _ _ i d _) (fun i d => scrA_apply _ _ _ x7 _ _ _ _ i d _) i d
    · rw [e]
      exact nB (V := grp x6 x7 x8 1) (later1 b h0) (fun i d => scrA_apply _ _ _ x1 _ _ _ _ i d _)
        (fun i d => scrB_apply _ _ _ x4 _ _ _ _ i d _) (fun i d => scrB_apply _ _ _ x7 _ _ _ _ i d _) i d
  · intro b i d
    rcases isFirst_cases b.1 with ⟨h0, e⟩ | ⟨h0, e⟩
    · rw [e]
      exact nA (V := grp x6 x7 x8 0) (first0 b h0) (fun i d => win_place _ _ x0 _ _ _ i d)
        (fun i d => win_place _ _ x3 _ _ _ i d) (fun i d => win_place _ _ x6 _ _ _ i d) i d
    · rw [e]
      exact nB (V := grp x6 x7 x8 0) (later0 b h0) (fun i d => win_place _ _ x0 _ _ _ i d)
        (fun i d => win_place' _ _ x3 _ _ _ i d) (fun i d => win_place' _ _ x6 _ _ _ i d) i d

end Cert.Attn
-- ==== Proof.AttnOut.lean ====
/- The output block of the dilated attention: eight merges of 256 rows, each from the three statistic buffers. -/
module

public import proofs.«01_k».proof.Proof.AttnBufs

@[expose] public section

noncomputable section

namespace Cert.Attn

open Idealize.ShloMosaic Idealize.ShloMosaic.TcCoe
open Idealize.ShloMosaic.Tactic
open Cert.KernelIdeal Cert.KernelIdeal.Gen
open scoped BigOperators

section Generic

variable {F : FTy → Type} [FloatOps F] [Named F]

/-- 256 consecutive rows of group `g` of a statistic buffer. -/
theorem inbQ (g s : ℕ) (hg : g + 1 ≤ 3) (h : s + 256 ≤ 2048) :
    ∀ a, (![g, s, 0] : Fin 3 → ℕ) a + S1x256x128.size a ≤ S3x2048x128.size a
  | ⟨0, _⟩ => hg
  | ⟨1, _⟩ => h
  | ⟨2, _⟩ => show 0 + 128 ≤ 128 from le_refl _

/-- 256 rows of one group of a statistic buffer. -/
def statRow (b : Memref sig .tc .vmem S3x2048x128 .f32) (L : List (View.Piece (Elt F) S3x2048x128 .f32)) (g s : ℕ)
    (hg : g + 1 ≤ 3) (h : s + 256 ≤ 2048) : FVec F S256x128 .f32 :=
  shapeCast S256x128
    (b.view.readCov L (Rect.unit (s := S3x2048x128) ![g, s, 0] S1x256x128.size (inbQ g s hg h)).toLoadRect)
    shapeCasts_S1x256x128_S256x128

/-- One merge, from the three groups' statistics. -/
def mergeV (M0 M1 M2 N0 N1 N2 Z0 Z1 Z2 : FVec F S256x128 .f32) : FVec F S1x256x128 .bf16 :=
  shapeCast S1x256x128 (truncf .bf16 (divf
    (addf (addf (addf (broadcast S256x128 (Scalar.ofBits .f32 0x00000000#32))
      (mulf (exp (subf M0 (maximumf (maximumf M0 M1) M2))) N0))
      (mulf (exp (subf M1 (maximumf (maximumf M0 M1) M2))) N1))
      (mulf (exp (subf M2 (maximumf (maximumf M0 M1) M2))) N2))
    (addf (addf (addf (broadcast S256x128 (Scalar.ofBits .f32 0x00000000#32))
      (mulf (exp (subf M0 (maximumf (maximumf M0 M1) M2))) Z0))
      (mulf (exp (subf M1 (maximumf (maximumf M0 M1) M2))) Z1))
      (mulf (exp (subf M2 (maximumf (maximumf M0 M1) M2))) Z2))) bitsLt_bf16_f32) shapeCasts_S256x128_S1x256x128

/-- The merge of the 256 rows from `s` on. -/
def mergeAt (bN bM bZ : Memref sig .tc .vmem S3x2048x128 .f32)
    (LN LM LZ : List (View.Piece (Elt F) S3x2048x128 .f32)) (s : ℕ) (h : s + 256 ≤ 2048) : FVec F S1x256x128 .bf16 :=
  mergeV (statRow bM LM 0 s (by decide) h) (statRow bM LM 1 s (by decide) h) (statRow bM LM 2 s (by decide) h)
    (statRow bN LN 0 s (by decide) h) (statRow bN LN 1 s (by decide) h) (statRow bN LN 2 s (by decide) h)
    (statRow bZ LZ 0 s (by decide) h) (statRow bZ LZ 1 s (by decide) h) (statRow bZ LZ 2 s (by decide) h)

theorem rowQ (b : Fin 8) : 256 * b.1 + 256 ≤ 2048 := by have := b.2; omega

/-- The eight merges, last first. -/
def merges : List (Fin 8) := [7, 6, 5, 4, 3, 2, 1, 0]

theorem mem_merges (b : Fin 8) : b ∈ merges := by revert b; decide

/-- The pieces of the output block. -/
def outs (bN bM bZ : Memref sig .tc .vmem S3x2048x128 .f32) (LN LM LZ : List (View.Piece (Elt F) S3x2048x128 .f32)) :
    List (View.Piece (Elt F) S1x2048x128 .bf16) :=
  merges.map fun b => ⟨Rect.unit ![0, 256 * b.1, 0] S1x256x128.size (inbWB _ (rowQ b)),
    mergeAt bN bM bZ LN LM LZ (256 * b.1) (rowQ b)⟩

variable (c : Dev nD)
  (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .bf16) (harg6 : arg6.IsWhole)
  (arg7 : Memref sig .tc .vmem S1x2048x128 .bf16) (harg7 : arg7.IsWhole)
  (arg8 : Memref sig .tc .vmem S1x2048x128 .bf16) (harg8 : arg8.IsWhole)
  (arg9 : Memref sig .tc .vmem S1x2048x128 .bf16) (harg9 : arg9.IsWhole)
  (arg10 : Memref sig .tc .vmem S1x2048x128 .bf16) (harg10 : arg10.IsWhole)
  (arg11 : Memref sig .tc .vmem S1x2048x128 .bf16) (harg11 : arg11.IsWhole)
  (arg12 : Memref sig .tc .vmem S2048x128 .f32) (harg12 : arg12.IsWhole)
  (arg13 : Memref sig .tc .vmem S2048x128 .f32) (harg13 : arg13.IsWhole)
  (arg14 : Memref sig .tc .vmem S2048x128 .f32) (harg14 : arg14.IsWhole)
  (arg15 : Memref sig .tc .vmem S3x2048x128 .f32) (harg15 : arg15.IsWhole)
  (arg16 : Memref sig .tc .vmem S3x2048x128 .f32) (harg16 : arg16.IsWhole)
  (arg17 : Memref sig .tc .vmem S3x2048x128 .f32) (harg17 : arg17.IsWhole)
  (x0 x1 x2 x3 x4 x5 x6 x7 x8 : Vec F S1x2048x128 .bf16)

theorem out_eq (i : grid0.Coords) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8
    = View.canon (outs arg15 arg16 arg17
      (listN arg2 harg2 arg3 harg3 arg4 harg4 arg5 harg5 arg6 harg6 arg7 harg7 arg8 harg8 arg9 harg9 arg10 harg10 arg12 arg13 arg14 x0 x1 x2 x3 x4 x5 x6 x7 x8)
      (listM arg2 harg2 arg3 harg3 arg4 harg4 arg5 harg5 arg6 harg6 arg7 harg7 arg12 arg13 x0 x1 x2 x3 x4 x5)
      (listZ arg2 harg2 arg3 harg3 arg4 harg4 arg5 harg5 arg6 harg6 arg7 harg7 arg12 arg13 x0 x1 x2 x3 x4 x5)) := by
  rw [← listN_eq c, ← listM_eq c, ← listZ_eq c]
  unfold out0_A_9
  rw [View.read_writes_eq_canon _ _ _ (cover0_A_9 c _ _ _ _ _ _ _ _ _ _ _ _ _ _ _ _ _ _ _ _ _ _ _ _ _ _ _ _ _ _ _ _ _ _ _ _ _ _ _ _ _ _)]
  unfold kernelRun0_A
  dsimp only
  refine congrArg View.canon ?_
  sl_kernel_rfl

end Generic

/-- The merge of three groups' statistics of one entry. -/
def mval (M N Z : Fin 3 → EReal) : EReal :=
  Ideal.div (Ideal.exp (M 0 - max (max (M 0) (M 1)) (M 2)) * N 0 + Ideal.exp (M 1 - max (max (M 0) (M 1)) (M 2)) * N 1
      + Ideal.exp (M 2 - max (max (M 0) (M 1)) (M 2)) * N 2)
    (Ideal.exp (M 0 - max (max (M 0) (M 1)) (M 2)) * Z 0 + Ideal.exp (M 1 - max (max (M 0) (M 1)) (M 2)) * Z 1
      + Ideal.exp (M 2 - max (max (M 0) (M 1)) (M 2)) * Z 2)

theorem mergeV_apply (M N Z : Fin 3 → FVec Ideal S256x128 .f32) (i : Fin 256) (d : Fin 128) :
    mergeV (M 0) (M 1) (M 2) (N 0) (N 1) (N 2) (Z 0) (Z 1) (Z 2) (ix3 0 i d)
      = mval (fun g => M g (ix2 i d)) (fun g => N g (ix2 i d)) (fun g => Z g (ix2 i d)) := by
  unfold mergeV mval
  simp only [pointwise, zero_add, zero_sub]

theorem statRow_apply (b : Memref sig .tc .vmem S3x2048x128 .f32) (L : List (View.Piece (Elt Ideal) S3x2048x128 .f32))
    (g : Fin 3) (s : ℕ) (hg : g.1 + 1 ≤ 3) (h : s + 256 ≤ 2048) (i : Fin 256) (d : Fin 128) :
    statRow b L g.1 s hg h (ix2 i d)
      = View.canon L (ix3 g ⟨s + i.1, by have := i.2; omega⟩ d : S3x2048x128.Idx) := by
  unfold statRow
  simp only [pointwise, zero_add, zero_sub]
  rw [View.readCov_eq_canon']
  refine congrArg (View.canon L) (funext fun a => Fin.ext ?_)
  match a with
  | ⟨0, _⟩ => show g.1 + 1 * 0 = g.1; omega
  | ⟨1, _⟩ => show s + 1 * i.1 = s + i.1; omega
  | ⟨2, _⟩ => show 0 + 1 * d.1 = d.1; omega

theorem mergeAt_apply (bN bM bZ : Memref sig .tc .vmem S3x2048x128 .f32)
    (LN LM LZ : List (View.Piece (Elt Ideal) S3x2048x128 .f32)) (M N Z : Fin 3 → Fin 2048 → Fin 128 → EReal)
    (hN : ∀ g t d, View.canon LN (ix3 g t d : S3x2048x128.Idx) = N g t d)
    (hM : ∀ g t d, View.canon LM (ix3 g t d : S3x2048x128.Idx) = M g t d)
    (hZ : ∀ g t d, View.canon LZ (ix3 g t d : S3x2048x128.Idx) = Z g t d)
    (s : ℕ) (h : s + 256 ≤ 2048) (i : Fin 256) (d : Fin 128) (t : Fin 2048) (e : s + i.1 = t.1) :
    mergeAt bN bM bZ LN LM LZ s h (ix3 0 i d)
      = mval (fun g => M g t d) (fun g => N g t d) fun g => Z g t d := by
  have et : (⟨s + i.1, by have := i.2; omega⟩ : Fin 2048) = t := Fin.ext e
  refine (mergeV_apply (fun g => statRow bM LM g.1 s g.2 h) (fun g => statRow bN LN g.1 s g.2 h)
    (fun g => statRow bZ LZ g.1 s g.2 h) i d).trans ?_
  rw [funext fun g => (statRow_apply bM LM g s g.2 h i d).trans ((hM g _ d).trans (congrArg (fun t => M g t d) et)),
    funext fun g => (statRow_apply bN LN g s g.2 h i d).trans ((hN g _ d).trans (congrArg (fun t => N g t d) et)),
    funext fun g => (statRow_apply bZ LZ g s g.2 h i d).trans ((hZ g _ d).trans (congrArg (fun t => Z g t d) et))]

theorem canon_outs (bN bM bZ : Memref sig .tc .vmem S3x2048x128 .f32)
    (LN LM LZ : List (View.Piece (Elt Ideal) S3x2048x128 .f32)) (M N Z : Fin 3 → Fin 2048 → Fin 128 → EReal)
    (hN : ∀ g t d, View.canon LN (ix3 g t d : S3x2048x128.Idx) = N g t d)
    (hM : ∀ g t d, View.canon LM (ix3 g t d : S3x2048x128.Idx) = M g t d)
    (hZ : ∀ g t d, View.canon LZ (ix3 g t d : S3x2048x128.Idx) = Z g t d) (y : S1x2048x128.Idx) :
    View.canon (outs bN bM bZ LN LM LZ) y
      = mval (fun g => M g (y 1) (y 2)) (fun g => N g (y 1) (y 2)) fun g => Z g (y 1) (y 2) := by
  refine View.canon_apply_of_pieces (Val := Elt Ideal) (e := .bf16)
    (fun y : S1x2048x128.Idx => mval (fun g => M g (y 1) (y 2)) (fun g => N g (y 1) (y 2)) fun g => Z g (y 1) (y 2)) _ ?_ _ ?_
  · intro p hp
    unfold outs at hp
    rw [List.mem_map] at hp
    obtain ⟨b, _, rfl⟩ := hp
    intro x
    have e : x = (ix3 0 (x 1) (x 2) : S1x256x128.Idx) := by
      funext a
      match a with
      | ⟨0, _⟩ => exact Fin.ext (by have := (x 0).2; show (x 0).1 = 0; exact Nat.lt_one_iff.mp this)
      | ⟨1, _⟩ => rfl
      | ⟨2, _⟩ => rfl
    rw [e]
    have e2 : (x 2 : Fin 128)
        = (Rect.unit (s := S1x2048x128) ![0, 256 * b.1, 0] S1x256x128.size (inbWB _ (rowQ b))).emb (ix3 0 (x 1) (x 2)) 2 :=
      Fin.ext (show (x 2).1 = 0 + 1 * (x 2).1 by omega)
    refine (mergeAt_apply bN bM bZ LN LM LZ M N Z hN hM hZ _ (rowQ b) (x 1) (x 2)
      ((Rect.unit (s := S1x2048x128) ![0, 256 * b.1, 0] S1x256x128.size (inbWB _ (rowQ b))).emb (ix3 0 (x 1) (x 2)) 1)
      (show 256 * b.1 + (x 1).1 = 256 * b.1 + 1 * (x 1).1 by omega)).trans ?_
    rw [← e2]
  · have ht : (y 1).1 < 2048 := (y 1).2
    have h0 : (y 0).1 < 1 := (y 0).2
    refine ⟨_, List.mem_map_of_mem (mem_merges ⟨(y 1).1 / 256, by omega⟩), (LoadRect.mem_set _).mpr fun a => ?_⟩
    match a with
    | ⟨0, _⟩ => exact ⟨0, Nat.one_pos, show (y 0).1 = 0 + 1 * 0 by omega⟩
    | ⟨1, _⟩ =>
      exact ⟨(y 1).1 % 256, Nat.mod_lt _ (by decide), show (y 1).1 = 256 * ((y 1).1 / 256) + 1 * ((y 1).1 % 256) by omega⟩
    | ⟨2, _⟩ => exact ⟨(y 2).1, (y 2).2, show (y 2).1 = 0 + 1 * (y 2).1 by omega⟩

/-- The output entry of one head, from its nine windows. -/
def headOut (q k v : Fin 3 → Fin 2048 → Fin 128 → EReal) (t : Fin 2048) (d : Fin 128) : EReal :=
  mval (fun g => top (msc g (q g) (k g) t)) (fun g => wsum (msc g (q g) (k g) t) fun t' => v g t' d)
    fun g => tot (msc g (q g) (k g) t)

variable (c : Dev nD)
  (arg2 : Memref sig .tc .vmem S1x2048x128 .bf16) (harg2 : arg2.IsWhole)
  (arg3 : Memref sig .tc .vmem S1x2048x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x2048x128 .bf16) (harg6 : arg6.IsWhole)
  (arg7 : Memref sig .tc .vmem S1x2048x128 .bf16) (harg7 : arg7.IsWhole)
  (arg8 : Memref sig .tc .vmem S1x2048x128 .bf16) (harg8 : arg8.IsWhole)
  (arg9 : Memref sig .tc .vmem S1x2048x128 .bf16) (harg9 : arg9.IsWhole)
  (arg10 : Memref sig .tc .vmem S1x2048x128 .bf16) (harg10 : arg10.IsWhole)
  (arg11 : Memref sig .tc .vmem S1x2048x128 .bf16) (harg11 : arg11.IsWhole)
  (arg12 : Memref sig .tc .vmem S2048x128 .f32) (harg12 : arg12.IsWhole)
  (arg13 : Memref sig .tc .vmem S2048x128 .f32) (harg13 : arg13.IsWhole)
  (arg14 : Memref sig .tc .vmem S2048x128 .f32) (harg14 : arg14.IsWhole)
  (arg15 : Memref sig .tc .vmem S3x2048x128 .f32) (harg15 : arg15.IsWhole)
  (arg16 : Memref sig .tc .vmem S3x2048x128 .f32) (harg16 : arg16.IsWhole)
  (arg17 : Memref sig .tc .vmem S3x2048x128 .f32) (harg17 : arg17.IsWhole)
  (x0 x1 x2 x3 x4 x5 x6 x7 x8 : Vec Ideal S1x2048x128 .bf16)

theorem out_apply (i : grid0.Coords) (y : S1x2048x128.Idx) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 y
      = headOut (grp x0 x1 x2) (grp x3 x4 x5) (grp x6 x7 x8) (y 1) (y 2) := by
  rw [out_eq]
  exact canon_outs _ _ _ _ _ _ (fun g t _ => top (msc g (grp x0 x1 x2 g) (grp x3 x4 x5 g) t))
    (fun g t d => wsum (msc g (grp x0 x1 x2 g) (grp x3 x4 x5 g) t) fun t' => grp x6 x7 x8 g t' d)
    (fun g t _ => tot (msc g (grp x0 x1 x2 g) (grp x3 x4 x5 g) t))
    (fun g t d => canonN _ _ _ _ _ _ _ _ _ _ _ _ _ _ _ _ _ _ _ _ _ _ _ _ _ _ _ _ _ _ g t d)
    (fun g t d => canonM _ _ _ _ _ _ _ _ _ _ _ _ _ _ _ _ _ _ _ _ g t d)
    (fun g t d => canonZ _ _ _ _ _ _ _ _ _ _ _ _ _ _ _ _ _ _ _ _ g t d) y

end Cert.Attn
-- ==== Proof.AttnAlgebra.lean ====
/- The softmax merge of three groups, two ways: by the groups' maxima, sums and weighted values, as the kernel merges
   them, and by the softmax of the groups' logarithmic denominators. Equal where the scores kept are reals. -/
module

public import proofs.«01_k».proof.Proof.AttnOut

@[expose] public section

noncomputable section

namespace Cert.Attn

open Idealize.ShloMosaic
open scoped BigOperators

/-- A row's logarithmic denominator. -/
def lse {n : ℕ} (s : Fin n → EReal) : EReal := Ideal.log (tot s) + top s

/-- The groups merged by the softmax of their logarithmic denominators. -/
def softMerge (s v : Fin 3 → Fin 2048 → EReal) : EReal :=
  ∑ g, Ideal.div (Ideal.exp (lse (s g) - top fun g => lse (s g))) (∑ h, Ideal.exp (lse (s h) - top fun g => lse (s g)))
    * ∑ j, Ideal.exp (s g j - lse (s g)) * v g j

theorem coe_sum {ι : Type} (t : Finset ι) (f : ι → ℝ) : ((∑ i ∈ t, f i : ℝ) : EReal) = ∑ i ∈ t, (f i : EReal) := by
  classical
  induction t using Finset.induction_on with
  | empty => rfl
  | insert a t ha ih => rw [Finset.sum_insert ha, Finset.sum_insert ha, EReal.coe_add, ih]

theorem coe_max (a b : ℝ) : max (a : EReal) (b : EReal) = ((max a b : ℝ) : EReal) :=
  (EReal.coe_strictMono.monotone.map_max).symm

theorem div_real {x y : ℝ} (h : y ≠ 0) : Ideal.div (x : EReal) (y : EReal) = ((x / y : ℝ) : EReal) := by
  rw [Ideal.div_coe h, ← EReal.coe_mul]
  exact congrArg _ (by ring)

/-- A row whose kept scores are reals: its exponentials up to a shift, and its greatest score. -/
theorem row_real {n : ℕ} (s : Fin n → EReal) (hs : ∀ j, s j = ⊥ ∨ ∃ r : ℝ, s j = r) (hne : ∃ j, ∃ r : ℝ, s j = r) :
    ∃ (a : Fin n → ℝ) (μ : ℝ), 0 < ∑ j, a j ∧ top s = μ ∧
      ∀ (j : Fin n) (l : ℝ), Ideal.exp (s j - l) = ((a j * Real.exp (-l) : ℝ) : EReal) := by
  obtain ⟨j0, r0, h0⟩ := hne
  have hμ : ∃ μ : ℝ, top s = μ := by
    obtain ⟨j, _, hj⟩ := Finset.exists_mem_eq_sup Finset.univ ⟨j0, Finset.mem_univ _⟩ s
    have hle : s j0 ≤ top s := Finset.le_sup (f := s) (Finset.mem_univ j0)
    rcases hs j with h | ⟨r, h⟩
    · exfalso
      rw [show top s = ⊥ from hj.trans h, h0] at hle
      exact EReal.coe_ne_bot r0 (le_bot_iff.mp hle)
    · exact ⟨r, hj.trans h⟩
  obtain ⟨μ, hμ⟩ := hμ
  have key : ∀ j, ∃ a : ℝ, 0 ≤ a ∧ (s j ≠ ⊥ → 0 < a) ∧ ∀ l : ℝ, Ideal.exp (s j - l) = ((a * Real.exp (-l) : ℝ) : EReal) := by
    intro j
    rcases hs j with h | ⟨r, h⟩
    · refine ⟨0, le_refl _, fun hn => absurd h hn, fun l => ?_⟩
      rw [h, bot_sub', zero_mul]
      rfl
    · refine ⟨Real.exp r, (Real.exp_pos r).le, fun _ => Real.exp_pos r, fun l => ?_⟩
      rw [h, ← EReal.coe_sub, Ideal.exp_coe, ← Real.exp_add, sub_eq_add_neg]
  choose a ha hp he using key
  refine ⟨a, μ, ?_, hμ, he⟩
  refine Finset.sum_pos' (fun j _ => ha j) ⟨j0, Finset.mem_univ _, hp j0 ?_⟩
  rw [h0]
  exact EReal.coe_ne_bot r0

theorem tot_real {n : ℕ} {s : Fin n → EReal} {a : Fin n → ℝ} {μ : ℝ} (hμ : top s = μ)
    (he : ∀ (j : Fin n) (l : ℝ), Ideal.exp (s j - l) = ((a j * Real.exp (-l) : ℝ) : EReal)) :
    tot s = (((∑ j, a j) * Real.exp (-μ) : ℝ) : EReal) := by
  unfold tot
  rw [hμ, Finset.sum_mul, coe_sum]
  exact Finset.sum_congr rfl fun j _ => he j μ

/-- A nonnegative real factor goes into a sum of extended reals. -/
theorem scale_sum {ι : Type} (t : Finset ι) {c : ℝ} (hc : 0 ≤ c) (f : ι → EReal) :
    (c : EReal) * ∑ j ∈ t, f j = ∑ j ∈ t, (c : EReal) * f j := by
  classical
  induction t using Finset.induction_on with
  | empty => simp
  | insert a t ha ih =>
    rw [Finset.sum_insert ha, Finset.sum_insert ha, ← ih]
    exact EReal.left_distrib_of_nonneg_of_ne_top (by exact_mod_cast hc) (EReal.coe_ne_top c) _ _

theorem wsum_real {n : ℕ} {s v : Fin n → EReal} {a : Fin n → ℝ} (l : ℝ)
    (he : ∀ (j : Fin n) (l : ℝ), Ideal.exp (s j - l) = ((a j * Real.exp (-l) : ℝ) : EReal)) :
    ∑ j, Ideal.exp (s j - l) * v j = (Real.exp (-l) : EReal) * ∑ j, (a j : EReal) * v j := by
  rw [scale_sum _ (Real.exp_pos _).le]
  refine Finset.sum_congr rfl fun j _ => ?_
  rw [he, ← mul_assoc, ← EReal.coe_mul, mul_comm (a j)]

theorem lse_real {n : ℕ} {s : Fin n → EReal} {a : Fin n → ℝ} {μ : ℝ} (hA : 0 < ∑ j, a j) (hμ : top s = μ)
    (he : ∀ (j : Fin n) (l : ℝ), Ideal.exp (s j - l) = ((a j * Real.exp (-l) : ℝ) : EReal)) :
    lse s = ((Real.log (∑ j, a j) : ℝ) : EReal) := by
  unfold lse
  rw [tot_real hμ he, hμ, Ideal.log_coe, if_neg (not_le.mpr (mul_pos hA (Real.exp_pos _))), ← EReal.coe_add,
    Real.log_mul hA.ne' (Real.exp_pos _).ne', Real.log_exp]
  exact congrArg _ (by ring)

theorem merge_eq (s v : Fin 3 → Fin 2048 → EReal) (hs : ∀ g j, s g j = ⊥ ∨ ∃ r : ℝ, s g j = r)
    (hne : ∀ g, ∃ j, ∃ r : ℝ, s g j = r) :
    mval (fun g => top (s g)) (fun g => wsum (s g) (v g)) (fun g => tot (s g)) = softMerge s v := by
  choose a μ hA hμ he using fun g => row_real (s g) (hs g) (hne g)
  have hl := fun g => lse_real (hA g) (hμ g) (he g)
  have hw : ∀ g, wsum (s g) (v g) = (Real.exp (-μ g) : EReal) * ∑ j, (a g j : EReal) * v g j := by
    intro g
    unfold wsum
    rw [hμ]
    exact wsum_real _ (he g)
  have ht := fun g => tot_real (hμ g) (he g)
  have hL : ∃ L : ℝ, (top fun g => lse (s g)) = L := by
    obtain ⟨g, _, hg⟩ := Finset.exists_mem_eq_sup Finset.univ ⟨(0 : Fin 3), Finset.mem_univ _⟩ fun g => lse (s g)
    exact ⟨_, hg.trans (hl g)⟩
  obtain ⟨L, hL⟩ := hL
  have ho : ∀ g, ∑ j, Ideal.exp (s g j - lse (s g)) * v g j
      = (((∑ j, a g j)⁻¹ : ℝ) : EReal) * ∑ j, (a g j : EReal) * v g j := by
    intro g
    rw [hl g, wsum_real _ (he g), Real.exp_neg, Real.exp_log (hA g)]
  have hE : ∀ g, Ideal.exp (lse (s g) - top fun g => lse (s g)) = (((∑ j, a g j) * Real.exp (-L) : ℝ) : EReal) := by
    intro g
    rw [hL, hl g, ← EReal.coe_sub, Ideal.exp_coe, sub_eq_add_neg, Real.exp_add, Real.exp_log (hA g)]
  have hD : 0 < ∑ g, (∑ j, a g j) * Real.exp (-L) :=
    Finset.sum_pos (fun g _ => mul_pos (hA g) (Real.exp_pos _)) ⟨0, Finset.mem_univ _⟩
  generalize hAg : (fun g => ∑ j, a g j) = A at *
  generalize hBg : (fun g => ∑ j, (a g j : EReal) * v g j) = B at *
  have hA' : ∀ g, ∑ j, a g j = A g := fun g => congrFun hAg g
  have hB' : ∀ g, ∑ j, (a g j : EReal) * v g j = B g := fun g => congrFun hBg g
  simp only [hA', hB'] at hA ht hw ho hE hD
  have hS : 0 < ∑ g, A g := Finset.sum_pos (fun g _ => hA g) ⟨0, Finset.mem_univ _⟩
  have e1 : softMerge s v = (((∑ g, A g)⁻¹ : ℝ) : EReal) * ∑ g, B g := by
    unfold softMerge
    simp only [hE, ho]
    rw [← coe_sum, scale_sum _ (inv_pos.mpr hS).le]
    refine Finset.sum_congr rfl fun g _ => ?_
    rw [div_real hD.ne', ← mul_assoc, ← EReal.coe_mul]
    refine congrArg (fun c : ℝ => (c : EReal) * B g) ?_
    rw [← Finset.sum_mul]
    have h1 := (hA g).ne'
    have h2 := (Real.exp_pos (-L)).ne'
    have h3 := hS.ne'
    field_simp
  rw [e1]
  unfold mval
  simp only [hμ, hw, ht, coe_max]
  generalize max (max (μ 0) (μ 1)) (μ 2) = M
  have hx : ∀ (g : Fin 3) (x : ℝ), Real.exp (μ g - M) * (x * Real.exp (-μ g)) = x * Real.exp (-M) := by
    intro g x
    rw [mul_left_comm, ← Real.exp_add]
    exact congrArg (fun y => x * Real.exp y) (by ring)
  have hy : ∀ g : Fin 3, (Real.exp (μ g - M) : EReal) * ((Real.exp (-μ g) : EReal) * B g) = (Real.exp (-M) : EReal) * B g := by
    intro g
    rw [← mul_assoc, ← EReal.coe_mul, ← Real.exp_add]
    exact congrArg (fun y : ℝ => (Real.exp y : EReal) * B g) (by ring)
  simp only [← EReal.coe_sub, Ideal.exp_coe, hy]
  simp only [← EReal.coe_mul, ← EReal.coe_add, hx]
  have hM := Real.exp_pos (-M)
  have hT : A 0 * Real.exp (-M) + A 1 * Real.exp (-M) + A 2 * Real.exp (-M) = (∑ g, A g) * Real.exp (-M) := by
    rw [Fin.sum_univ_three, add_mul, add_mul]
  have hN : (Real.exp (-M) : EReal) * B 0 + (Real.exp (-M) : EReal) * B 1 + (Real.exp (-M) : EReal) * B 2
      = (Real.exp (-M) : EReal) * ∑ g, B g := by
    rw [scale_sum _ hM.le, Fin.sum_univ_three]
  rw [hT, hN, Ideal.div_coe (mul_pos hS hM).ne', mul_comm, ← mul_assoc, ← EReal.coe_mul]
  refine congrArg (fun c : ℝ => (c : EReal) * ∑ g, B g) ?_
  have h2 := hM.ne'
  have h3 := hS.ne'
  field_simp

/-- Every score kept is a real where the queries and keys are reals. -/
theorem msc_real {g : Fin 3} {q k : Fin 2048 → Fin 128 → EReal} (hq : ∀ t d, ∃ r : ℝ, q t d = r)
    (hk : ∀ t d, ∃ r : ℝ, k t d = r) (hscl : ∃ r : ℝ, scl = r) (t t' : Fin 2048) (h : Val g t t') :
    ∃ r : ℝ, msc g q k t t' = r := by
  choose q' hq using hq
  choose k' hk using hk
  obtain ⟨c, hc⟩ := hscl
  refine ⟨(∑ d, q' t d * k' t' d) * c, ?_⟩
  rw [msc, if_pos h, hc, EReal.coe_mul, coe_sum]
  simp only [hq, hk, EReal.coe_mul]

theorem val_self (g : Fin 3) (t : Fin 2048) : Val g t t := ⟨le_refl _, Nat.le_add_right _ _, rfl⟩

theorem scl_real : ∃ r : ℝ, scl = r := by
  unfold scl
  simp only [Ideal.ofBits, Ideal.ieee]
  exact ⟨_, rfl⟩

/-- A head's output is the softmax merge of its groups. -/
theorem headOut_eq (q k v : Fin 3 → Fin 2048 → Fin 128 → EReal) (hq : ∀ g t d, ∃ r : ℝ, q g t d = r)
    (hk : ∀ g t d, ∃ r : ℝ, k g t d = r) (t : Fin 2048) (d : Fin 128) :
    headOut q k v t d = softMerge (fun g => msc g (q g) (k g) t) fun g t' => v g t' d := by
  refine merge_eq (fun g => msc g (q g) (k g) t) (fun g t' => v g t' d) (fun g j => ?_) (fun g => ?_)
  · by_cases h : Val g t j
    · exact Or.inr (msc_real (hq g) (hk g) scl_real t j h)
    · exact Or.inl (if_neg h)
  · exact ⟨t, msc_real (hq g) (hk g) scl_real t t (val_self g t)⟩

end Cert.Attn
-- ==== Proof.AttnKernel.lean ====
/- The array the dilated attention writes over the whole grid: sixteen sequences times eight heads. -/
module

public import proofs.«01_k».proof.Proof.AttnOut

@[expose] public section

noncomputable section

namespace Cert.Attn

open Idealize.ShloMosaic Idealize.ShloMosaic.TcCoe Idealize.SL.Sem
open Idealize.ShloMosaic.Pipeline (Dat)
open Cert.KernelIdeal Cert.KernelIdeal.Gen
open scoped BigOperators

/-- Column `d` of group `g`, of the head that column `j` of the result lies in, in the part of the rows from `off` on. -/
def col (off : ℕ) (ho : off + 3072 ≤ 20480) (g : Fin 3) (j : Fin 1024) (d : Fin 128) : Fin 20480 :=
  ⟨off + 1024 * g.1 + 128 * (j.1 / 128) + d.1, by have := g.2; have := j.2; have := d.2; omega⟩

/-- The rows of one sequence and head. -/
def part (U : S16x2048x20480.Idx → EReal) (off : ℕ) (ho : off + 3072 ≤ 20480) (b : Fin 16) (j : Fin 1024) (g : Fin 3)
    (t : Fin 2048) (d : Fin 128) : EReal := U (ix3 b t (col off ho g j d))

/-- The column of a head's output a column of the result is. -/
def lane (j : Fin 1024) : Fin 128 := ⟨j.1 % 128, Nat.mod_lt _ (by decide)⟩

/-- What the call writes. -/
def total (U : S16x2048x20480.Idx → EReal) : S16x2048x1024.Idx → EReal := fun i =>
  headOut (part U 2048 (by decide) (i 0) (i 2)) (part U 5120 (by decide) (i 0) (i 2)) (part U 8192 (by decide) (i 0) (i 2))
    (i 1) (lane (i 2))

variable (m : (ℓ : Loc nD τ sig) → Buf (Elt Ideal) ℓ) (ρ : Dev nD → PrngReg)

theorem index0 : ∀ t : Fin grid0.N, win0_0.index t = ![t.val / 8, 0, 16 + t.val % 8] := by decide +kernel
theorem index1 : ∀ t : Fin grid0.N, win0_1.index t = ![t.val / 8, 0, 24 + t.val % 8] := by decide +kernel
theorem index2 : ∀ t : Fin grid0.N, win0_2.index t = ![t.val / 8, 0, 32 + t.val % 8] := by decide +kernel
theorem index3 : ∀ t : Fin grid0.N, win0_3.index t = ![t.val / 8, 0, 40 + t.val % 8] := by decide +kernel
theorem index4 : ∀ t : Fin grid0.N, win0_4.index t = ![t.val / 8, 0, 48 + t.val % 8] := by decide +kernel
theorem index5 : ∀ t : Fin grid0.N, win0_5.index t = ![t.val / 8, 0, 56 + t.val % 8] := by decide +kernel
theorem index6 : ∀ t : Fin grid0.N, win0_6.index t = ![t.val / 8, 0, 64 + t.val % 8] := by decide +kernel
theorem index7 : ∀ t : Fin grid0.N, win0_7.index t = ![t.val / 8, 0, 72 + t.val % 8] := by decide +kernel
theorem index8 : ∀ t : Fin grid0.N, win0_8.index t = ![t.val / 8, 0, 80 + t.val % 8] := by decide +kernel
theorem flush9 : ∀ t : Fin grid0.N, win0_9.flush t = true := by decide +kernel

theorem index9 : ∀ t : Fin grid0.N, win0_9.index t = ![t.val / 8, 0, t.val % 8] := by decide +kernel

variable (c : Dev nD) (t : Fin cfg0.N)

theorem win0 (b : Fin 16) (j : Fin 1024) (hb : b.1 = t.1 / 8) (hj : j.1 / 128 = t.1 % 8) (r : Fin 2048) (d : Fin 128) :
    ent (iblk m c 0 t : Vec Ideal S1x2048x128 .bf16) r d
      = part (m (c, main_arg0)) 2048 (by decide) b j 0 r d := by
  have e := index0 t
  unfold part
  show V m c main_arg0 (((cfg0.win 0).blk t).view.emb _) = _
  rw [V_main_arg0]
  refine congrArg (m (c, main_arg0) : S16x2048x20480.Idx → EReal) (funext fun a => Fin.ext ?_)
  match a with
  | ⟨0, _⟩ => show win0_0.index t 0 * 1 + 1 * 0 = b.1; rw [e]; show t.val / 8 * 1 + 1 * 0 = b.1; omega
  | ⟨1, _⟩ => show win0_0.index t 1 * 2048 + 1 * r.1 = r.1; rw [e]; show 0 * 2048 + 1 * r.1 = r.1; omega
  | ⟨2, _⟩ =>
    show win0_0.index t 2 * 128 + 1 * d.1 = 2048 + 1024 * 0 + 128 * (j.1 / 128) + d.1
    rw [e, hj]
    show (16 + t.val % 8) * 128 + 1 * d.1 = _
    omega

theorem win1 (b : Fin 16) (j : Fin 1024) (hb : b.1 = t.1 / 8) (hj : j.1 / 128 = t.1 % 8) (r : Fin 2048) (d : Fin 128) :
    ent (iblk m c 1 t : Vec Ideal S1x2048x128 .bf16) r d
      = part (m (c, main_arg0)) 2048 (by decide) b j 1 r d := by
  have e := index1 t
  unfold part
  show V m c main_arg0 (((cfg0.win 1).blk t).view.emb _) = _
  rw [V_main_arg0]
  refine congrArg (m (c, main_arg0) : S16x2048x20480.Idx → EReal) (funext fun a => Fin.ext ?_)
  match a with
  | ⟨0, _⟩ => show win0_1.index t 0 * 1 + 1 * 0 = b.1; rw [e]; show t.val / 8 * 1 + 1 * 0 = b.1; omega
  | ⟨1, _⟩ => show win0_1.index t 1 * 2048 + 1 * r.1 = r.1; rw [e]; show 0 * 2048 + 1 * r.1 = r.1; omega
  | ⟨2, _⟩ =>
    show win0_1.index t 2 * 128 + 1 * d.1 = 2048 + 1024 * 1 + 128 * (j.1 / 128) + d.1
    rw [e, hj]
    show (24 + t.val % 8) * 128 + 1 * d.1 = _
    omega

theorem win2 (b : Fin 16) (j : Fin 1024) (hb : b.1 = t.1 / 8) (hj : j.1 / 128 = t.1 % 8) (r : Fin 2048) (d : Fin 128) :
    ent (iblk m c 2 t : Vec Ideal S1x2048x128 .bf16) r d
      = part (m (c, main_arg0)) 2048 (by decide) b j 2 r d := by
  have e := index2 t
  unfold part
  show V m c main_arg0 (((cfg0.win 2).blk t).view.emb _) = _
  rw [V_main_arg0]
  refine congrArg (m (c, main_arg0) : S16x2048x20480.Idx → EReal) (funext fun a => Fin.ext ?_)
  match a with
  | ⟨0, _⟩ => show win0_2.index t 0 * 1 + 1 * 0 = b.1; rw [e]; show t.val / 8 * 1 + 1 * 0 = b.1; omega
  | ⟨1, _⟩ => show win0_2.index t 1 * 2048 + 1 * r.1 = r.1; rw [e]; show 0 * 2048 + 1 * r.1 = r.1; omega
  | ⟨2, _⟩ =>
    show win0_2.index t 2 * 128 + 1 * d.1 = 2048 + 1024 * 2 + 128 * (j.1 / 128) + d.1
    rw [e, hj]
    show (32 + t.val % 8) * 128 + 1 * d.1 = _
    omega

theorem win3 (b : Fin 16) (j : Fin 1024) (hb : b.1 = t.1 / 8) (hj : j.1 / 128 = t.1 % 8) (r : Fin 2048) (d : Fin 128) :
    ent (iblk m c 3 t : Vec Ideal S1x2048x128 .bf16) r d
      = part (m (c, main_arg0)) 5120 (by decide) b j 0 r d := by
  have e := index3 t
  unfold part
  show V m c main_arg0 (((cfg0.win 3).blk t).view.emb _) = _
  rw [V_main_arg0]
  refine congrArg (m (c, main_arg0) : S16x2048x20480.Idx → EReal) (funext fun a => Fin.ext ?_)
  match a with
  | ⟨0, _⟩ => show win0_3.index t 0 * 1 + 1 * 0 = b.1; rw [e]; show t.val / 8 * 1 + 1 * 0 = b.1; omega
  | ⟨1, _⟩ => show win0_3.index t 1 * 2048 + 1 * r.1 = r.1; rw [e]; show 0 * 2048 + 1 * r.1 = r.1; omega
  | ⟨2, _⟩ =>
    show win0_3.index t 2 * 128 + 1 * d.1 = 5120 + 1024 * 0 + 128 * (j.1 / 128) + d.1
    rw [e, hj]
    show (40 + t.val % 8) * 128 + 1 * d.1 = _
    omega

theorem win4 (b : Fin 16) (j : Fin 1024) (hb : b.1 = t.1 / 8) (hj : j.1 / 128 = t.1 % 8) (r : Fin 2048) (d : Fin 128) :
    ent (iblk m c 4 t : Vec Ideal S1x2048x128 .bf16) r d
      = part (m (c, main_arg0)) 5120 (by decide) b j 1 r d := by
  have e := index4 t
  unfold part
  show V m c main_arg0 (((cfg0.win 4).blk t).view.emb _) = _
  rw [V_main_arg0]
  refine congrArg (m (c, main_arg0) : S16x2048x20480.Idx → EReal) (funext fun a => Fin.ext ?_)
  match a with
  | ⟨0, _⟩ => show win0_4.index t 0 * 1 + 1 * 0 = b.1; rw [e]; show t.val / 8 * 1 + 1 * 0 = b.1; omega
  | ⟨1, _⟩ => show win0_4.index t 1 * 2048 + 1 * r.1 = r.1; rw [e]; show 0 * 2048 + 1 * r.1 = r.1; omega
  | ⟨2, _⟩ =>
    show win0_4.index t 2 * 128 + 1 * d.1 = 5120 + 1024 * 1 + 128 * (j.1 / 128) + d.1
    rw [e, hj]
    show (48 + t.val % 8) * 128 + 1 * d.1 = _
    omega

theorem win5 (b : Fin 16) (j : Fin 1024) (hb : b.1 = t.1 / 8) (hj : j.1 / 128 = t.1 % 8) (r : Fin 2048) (d : Fin 128) :
    ent (iblk m c 5 t : Vec Ideal S1x2048x128 .bf16) r d
      = part (m (c, main_arg0)) 5120 (by decide) b j 2 r d := by
  have e := index5 t
  unfold part
  show V m c main_arg0 (((cfg0.win 5).blk t).view.emb _) = _
  rw [V_main_arg0]
  refine congrArg (m (c, main_arg0) : S16x2048x20480.Idx → EReal) (funext fun a => Fin.ext ?_)
  match a with
  | ⟨0, _⟩ => show win0_5.index t 0 * 1 + 1 * 0 = b.1; rw [e]; show t.val / 8 * 1 + 1 * 0 = b.1; omega
  | ⟨1, _⟩ => show win0_5.index t 1 * 2048 + 1 * r.1 = r.1; rw [e]; show 0 * 2048 + 1 * r.1 = r.1; omega
  | ⟨2, _⟩ =>
    show win0_5.index t 2 * 128 + 1 * d.1 = 5120 + 1024 * 2 + 128 * (j.1 / 128) + d.1
    rw [e, hj]
    show (56 + t.val % 8) * 128 + 1 * d.1 = _
    omega

theorem win6 (b : Fin 16) (j : Fin 1024) (hb : b.1 = t.1 / 8) (hj : j.1 / 128 = t.1 % 8) (r : Fin 2048) (d : Fin 128) :
    ent (iblk m c 6 t : Vec Ideal S1x2048x128 .bf16) r d
      = part (m (c, main_arg0)) 8192 (by decide) b j 0 r d := by
  have e := index6 t
  unfold part
  show V m c main_arg0 (((cfg0.win 6).blk t).view.emb _) = _
  rw [V_main_arg0]
  refine congrArg (m (c, main_arg0) : S16x2048x20480.Idx → EReal) (funext fun a => Fin.ext ?_)
  match a with
  | ⟨0, _⟩ => show win0_6.index t 0 * 1 + 1 * 0 = b.1; rw [e]; show t.val / 8 * 1 + 1 * 0 = b.1; omega
  | ⟨1, _⟩ => show win0_6.index t 1 * 2048 + 1 * r.1 = r.1; rw [e]; show 0 * 2048 + 1 * r.1 = r.1; omega
  | ⟨2, _⟩ =>
    show win0_6.index t 2 * 128 + 1 * d.1 = 8192 + 1024 * 0 + 128 * (j.1 / 128) + d.1
    rw [e, hj]
    show (64 + t.val % 8) * 128 + 1 * d.1 = _
    omega

theorem win7 (b : Fin 16) (j : Fin 1024) (hb : b.1 = t.1 / 8) (hj : j.1 / 128 = t.1 % 8) (r : Fin 2048) (d : Fin 128) :
    ent (iblk m c 7 t : Vec Ideal S1x2048x128 .bf16) r d
      = part (m (c, main_arg0)) 8192 (by decide) b j 1 r d := by
  have e := index7 t
  unfold part
  show V m c main_arg0 (((cfg0.win 7).blk t).view.emb _) = _
  rw [V_main_arg0]
  refine congrArg (m (c, main_arg0) : S16x2048x20480.Idx → EReal) (funext fun a => Fin.ext ?_)
  match a with
  | ⟨0, _⟩ => show win0_7.index t 0 * 1 + 1 * 0 = b.1; rw [e]; show t.val / 8 * 1 + 1 * 0 = b.1; omega
  | ⟨1, _⟩ => show win0_7.index t 1 * 2048 + 1 * r.1 = r.1; rw [e]; show 0 * 2048 + 1 * r.1 = r.1; omega
  | ⟨2, _⟩ =>
    show win0_7.index t 2 * 128 + 1 * d.1 = 8192 + 1024 * 1 + 128 * (j.1 / 128) + d.1
    rw [e, hj]
    show (72 + t.val % 8) * 128 + 1 * d.1 = _
    omega

theorem win8 (b : Fin 16) (j : Fin 1024) (hb : b.1 = t.1 / 8) (hj : j.1 / 128 = t.1 % 8) (r : Fin 2048) (d : Fin 128) :
    ent (iblk m c 8 t : Vec Ideal S1x2048x128 .bf16) r d
      = part (m (c, main_arg0)) 8192 (by decide) b j 2 r d := by
  have e := index8 t
  unfold part
  show V m c main_arg0 (((cfg0.win 8).blk t).view.emb _) = _
  rw [V_main_arg0]
  refine congrArg (m (c, main_arg0) : S16x2048x20480.Idx → EReal) (funext fun a => Fin.ext ?_)
  match a with
  | ⟨0, _⟩ => show win0_8.index t 0 * 1 + 1 * 0 = b.1; rw [e]; show t.val / 8 * 1 + 1 * 0 = b.1; omega
  | ⟨1, _⟩ => show win0_8.index t 1 * 2048 + 1 * r.1 = r.1; rw [e]; show 0 * 2048 + 1 * r.1 = r.1; omega
  | ⟨2, _⟩ =>
    show win0_8.index t 2 * 128 + 1 * d.1 = 8192 + 1024 * 2 + 128 * (j.1 / 128) + d.1
    rw [e, hj]
    show (80 + t.val % 8) * 128 + 1 * d.1 = _
    omega

theorem emb9 (y : S1x2048x128.Idx) (b : Fin 16) (r : Fin 2048) (j : Fin 1024) (hb : b.1 = t.1 / 8) (hr : r.1 = (y 1).1)
    (hj : j.1 = t.1 % 8 * 128 + (y 2).1) :
    ((cfg0.win 9).blk t).view.emb y = (ix3 b r j : S16x2048x1024.Idx) := by
  have e := index9 t
  have y0 : (y 0).1 < 1 := (y 0).2
  funext a
  refine Fin.ext ?_
  match a with
  | ⟨0, _⟩ => show win0_9.index t 0 * 1 + 1 * (y 0).1 = b.1; rw [e]; show t.val / 8 * 1 + 1 * (y 0).1 = b.1; omega
  | ⟨1, _⟩ => show win0_9.index t 1 * 2048 + 1 * (y 1).1 = r.1; rw [e]; show 0 * 2048 + 1 * (y 1).1 = r.1; omega
  | ⟨2, _⟩ => show win0_9.index t 2 * 128 + 1 * (y 2).1 = j.1; rw [e]; show t.val % 8 * 128 + 1 * (y 2).1 = j.1; omega

theorem grp_eq (x0 x1 x2 : Vec Ideal S1x2048x128 .bf16) (P : Fin 3 → Fin 2048 → Fin 128 → EReal)
    (h0 : ∀ r d, ent x0 r d = P 0 r d) (h1 : ∀ r d, ent x1 r d = P 1 r d) (h2 : ∀ r d, ent x2 r d = P 2 r d) :
    grp x0 x1 x2 = P := by
  funext g r d
  match g with
  | ⟨0, _⟩ => exact h0 r d
  | ⟨1, _⟩ => exact h1 r d
  | ⟨2, _⟩ => exact h2 r d

/-- One point's block is the block of the whole result. -/
theorem block_eq (y : S1x2048x128.Idx) :
    outsAt0 m c t y = total (m (c, main_arg0)) (((cfg0.win 9).blk t).view.emb y) := by
  have ht : t.val < 128 := t.isLt.trans_eq N_0
  have y1 : (y 1).1 < 2048 := (y 1).2
  have y2 : (y 2).1 < 128 := (y 2).2
  let b : Fin 16 := ⟨t.1 / 8, by omega⟩
  let j : Fin 1024 := ⟨t.1 % 8 * 128 + (y 2).1, by omega⟩
  have hj : j.1 / 128 = t.1 % 8 := by show (t.1 % 8 * 128 + (y 2).1) / 128 = _; omega
  rw [emb9 t y b (y 1) j rfl rfl rfl]
  unfold outsAt0
  rw [out_apply]
  rw [grp_eq _ _ _ (part (m (c, main_arg0)) 2048 (by decide) b j) (win0 m c t b j rfl hj) (win1 m c t b j rfl hj) (win2 m c t b j rfl hj),
    grp_eq _ _ _ (part (m (c, main_arg0)) 5120 (by decide) b j) (win3 m c t b j rfl hj) (win4 m c t b j rfl hj) (win5 m c t b j rfl hj),
    grp_eq _ _ _ (part (m (c, main_arg0)) 8192 (by decide) b j) (win6 m c t b j rfl hj) (win7 m c t b j rfl hj) (win8 m c t b j rfl hj)]
  show _ = headOut (part (m (c, main_arg0)) 2048 _ b j) (part (m (c, main_arg0)) 5120 _ b j) (part (m (c, main_arg0)) 8192 _ b j) (y 1) (lane j)
  have e : lane j = y 2 := Fin.ext (by show (t.1 % 8 * 128 + (y 2).1) % 128 = (y 2).1; omega)
  rw [e]

theorem covered (i : S16x2048x1024.Idx) : ∃ t : Fin cfg0.N, (cfg0.win 9).flush t = true ∧ i ∈ ((cfg0.win 9).blk t).view.set := by
  have h0 : (i 0).1 < 16 := (i 0).2
  have h2 : (i 2).1 < 1024 := (i 2).2
  have hl : 8 * (i 0).1 + (i 2).1 / 128 < cfg0.N := by rw [show cfg0.N = 128 from N_0]; omega
  refine ⟨⟨8 * (i 0).1 + (i 2).1 / 128, hl⟩, flush9 _, Finset.mem_map.mpr ⟨ix3 0 (i 1) (lane (i 2)), Finset.mem_univ _, ?_⟩⟩
  refine Eq.trans ?_ (eq_ix3 (n0 := 16) (n1 := 2048) (n2 := 1024) i).symm
  exact emb9 _ _ _ _ _ (by dsimp only; show (i 0).1 = (8 * (i 0).1 + (i 2).1 / 128) / 8; omega) rfl
    (by show (i 2).1 = (8 * (i 0).1 + (i 2).1 / 128) % 8 * 128 + (i 2).1 % 128; omega)

theorem final : (dats m 0 c).arrAt 9 cfg0.N = total (m (c, main_arg0)) := by
  refine (dats m 0 c).arrAt_eq_of_cover 9 _ (fun t _ => ?_) covered
  rw [Value.flushed9]
  funext y
  exact block_eq m c t y

end Cert.Attn
-- ==== Proof.AttnRef.lean ====
/- The dense attention of the reference read at an index: the mask of a group, the masked scores, their logarithmic
   denominators, the softmax of those over the groups, and the merged values. -/
module

public import proofs.«01_k».proof.Proof.AttnAlgebra
public import proofs.«01_k».proof.Proof.AttnKernel
public import proofs.«01_k».proof.Proof.Gen.ReferenceIdeal.Read
public import Idealize.ShloMosaic.Lib.Routing.Words
public import Idealize.ShloMosaic.Lib.Affine

@[expose] public section

noncomputable section

namespace Cert.Attn.Ref

open Idealize.ShloMosaic Idealize.ShloMosaic.TcCoe
open Cert.ReferenceIdeal Cert.ReferenceIdeal.Gen Cert.ReferenceIdeal.Read
open scoped BigOperators

/-! ### Indices -/

/-- A group, a query and a key. -/
def p3 (g : Fin 3) (t u : Fin 2048) : S3x2048x2048.Idx := fun a => match a with
  | ⟨0, _⟩ => g
  | ⟨1, _⟩ => t
  | ⟨2, _⟩ => u

/-- A sequence, a group, a head and a query. -/
def p4 (b : Fin 16) (g : Fin 3) (h : Fin 8) (t : Fin 2048) : S16x3x8x2048.Idx := fun a => match a with
  | ⟨0, _⟩ => b
  | ⟨1, _⟩ => g
  | ⟨2, _⟩ => h
  | ⟨3, _⟩ => t

/-- A sequence, a group, a head, a query and a key. -/
def p5 (b : Fin 16) (g : Fin 3) (h : Fin 8) (t u : Fin 2048) : S16x3x8x2048x2048.Idx := fun a => match a with
  | ⟨0, _⟩ => b
  | ⟨1, _⟩ => g
  | ⟨2, _⟩ => h
  | ⟨3, _⟩ => t
  | ⟨4, _⟩ => u

/-- A sequence, a group, a head, a query and a column of the head. -/
def p5d (b : Fin 16) (g : Fin 3) (h : Fin 8) (t : Fin 2048) (d : Fin 128) : S16x3x8x2048x128.Idx := fun a => match a with
  | ⟨0, _⟩ => b
  | ⟨1, _⟩ => g
  | ⟨2, _⟩ => h
  | ⟨3, _⟩ => t
  | ⟨4, _⟩ => d

/-- A sequence, a position, a group, a head and a column of the head. -/
def p5r (b : Fin 16) (t : Fin 2048) (g : Fin 3) (h : Fin 8) (d : Fin 128) : S16x2048x3x8x128.Idx := fun a => match a with
  | ⟨0, _⟩ => b
  | ⟨1, _⟩ => t
  | ⟨2, _⟩ => g
  | ⟨3, _⟩ => h
  | ⟨4, _⟩ => d

/-- A sequence, a head and a query. -/
def q3 (b : Fin 16) (h : Fin 8) (t : Fin 2048) : S16x8x2048.Idx := fun a => match a with
  | ⟨0, _⟩ => b
  | ⟨1, _⟩ => h
  | ⟨2, _⟩ => t

/-! ### The mask -/

theorem zero32 : Ideal.ofBits .f32 0x00000000#32 = 0 := by simp [Ideal.ofBits, Ideal.ieee]

theorem toInt_pos {n : ℕ} (h : n < 4096) : (BitVec.ofNat 32 n).toInt = n := by
  rw [BitVec.toInt_ofNat']
  exact Int.bmod_eq_of_le (by omega) (by omega)

theorem toInt_diff {x y : ℕ} (hx : x < 4096) (hy : y < 4096) :
    (IntOp.subi (BitVec.ofNat 32 x) (BitVec.ofNat 32 y)).toInt = (x : ℤ) - y := by
  show (BitVec.ofNat 32 x - BitVec.ofNat 32 y).toInt = _
  rw [BitVec.toInt_sub, toInt_pos hx, toInt_pos hy]
  exact Int.bmod_eq_of_le (by omega) (by omega)

theorem spacing (g : Fin 3) (t u : Fin 2048) : val_main_v18 (F := Ideal) (p3 g t u) = BitVec.ofNat 32 (dil g) := by
  rw [val_main_v18_apply, val_main_v14_apply, val_main_v17_apply, val_main_v16_apply, val_main_v12_apply,
    val_main_v13_apply, val_main_v15_apply, val_main_call0_v0_apply, val_main_call0_v1_apply, val_main_call1_v0_apply,
    val_main_c_apply, val_main_c_0_apply, val_main_c_1_apply, val_main_c_2_apply, val_main_c_3_apply]
  show Scalar.select (IntOp.cmpi .eq (BitVec.ofNat 32 g.1) 0#32) 1#32
    (Scalar.select (IntOp.cmpi .eq (BitVec.ofNat 32 g.1) 1#32) 4#32 16#32) = _
  clear t u
  revert g
  decide

theorem reach (g : Fin 3) (t u : Fin 2048) : val_main_v28 (F := Ideal) (p3 g t u) = BitVec.ofNat 32 (far g) := by
  rw [val_main_v28_apply, val_main_v24_apply, val_main_v20_apply, val_main_v23_apply, val_main_v22_apply, val_main_v12_apply,
    val_main_v19_apply, val_main_v21_apply, val_main_call2_v0_apply, val_main_call2_v1_apply, val_main_call3_v0_apply,
    val_main_c_4_apply, val_main_c_5_apply, val_main_c_6_apply, val_main_c_7_apply, val_main_c_8_apply]
  show Scalar.select (IntOp.cmpi .eq (BitVec.ofNat 32 g.1) 0#32) 128#32
    (Scalar.select (IntOp.cmpi .eq (BitVec.ofNat 32 g.1) 1#32) 512#32 2048#32) = _
  clear t u
  revert g
  decide

theorem dil_pos (g : Fin 3) : 0 < dil g := by revert g; decide

theorem dil_small (g : Fin 3) : dil g < 4096 := by revert g; decide

theorem far_small (g : Fin 3) : far g < 4096 := by revert g; decide

theorem valid (g : Fin 3) (t u : Fin 2048) : val_main_v34 (F := Ideal) (p3 g t u) = 1#1 ↔ Val g t u := by
  rw [val_main_v34_apply, val_main_v30_apply, val_main_v27_apply, val_main_v29_apply, val_main_v33_apply,
    val_main_v31_apply, val_main_v32_apply, val_main_v25_apply, val_main_v26_apply, val_main_c_9_apply,
    val_main_v10_apply, val_main_v11_apply, spacing, reach]
  show IntOp.andi (IntOp.andi
      (IntOp.cmpi .sge (IntOp.subi (BitVec.ofNat 32 t.1) (BitVec.ofNat 32 u.1)) (BitVec.ofNat 32 0))
      (IntOp.cmpi .sle (IntOp.subi (BitVec.ofNat 32 t.1) (BitVec.ofNat 32 u.1)) (BitVec.ofNat 32 (far g))))
    (IntOp.cmpi .eq (IntOp.remsi .host (BitVec.ofNat 32 t.1) (BitVec.ofNat 32 (dil g)))
      (IntOp.remsi .host (BitVec.ofNat 32 u.1) (BitVec.ofNat 32 (dil g)))) = 1#1 ↔ _
  have ht := t.2
  have hu := u.2
  have hd := dil_small g
  have hp := dil_pos g
  have hf := far_small g
  have m1 := Nat.mod_lt t.1 hp
  have m2 := Nat.mod_lt u.1 hp
  rw [Routing.remsi_word _ (by omega) hp (by omega), Routing.remsi_word _ (by omega) hp (by omega),
    WordCmp.cmpi_eq_ofNat (by omega) (by omega), WordCmp.cmpi_sge_eq, WordCmp.cmpi_sle_eq,
    toInt_diff (by omega) (by omega), toInt_pos (by omega), toInt_pos hf, WordCmp.andi_ofBool, WordCmp.andi_ofBool,
    ← Bool.decide_and, ← Bool.decide_and, WordCmp.ofBool_decide_eq_one_iff]
  unfold Val
  omega

/-! ### The rows -/

/-- The rows of one sequence and head. -/
def hpart (U : S16x2048x20480.Idx → EReal) (off : ℕ) (ho : off + 3072 ≤ 20480) (b : Fin 16) (h : Fin 8) (g : Fin 3)
    (t : Fin 2048) (d : Fin 128) : EReal :=
  U (ix3 b t ⟨off + 1024 * g.1 + 128 * h.1 + d.1, by have := g.2; have := h.2; have := d.2; omega⟩)

variable (U : (⟨S16x2048x20480, .bf16⟩ : BufTy).Contents (Elt Ideal))

theorem row_idx (b : Fin 16) (t : Fin 2048) (g : Fin 3) (h : Fin 8) (d : Fin 128) (n : ℕ)
    (hn : n = (((b.1 * 2048 + t.1) * 3 + g.1) * 8 + h.1) * 128 + d.1) :
    n / 6291456 = b.1 ∧ n / 3072 % 2048 = t.1 ∧ n % 3072 = 1024 * g.1 + 128 * h.1 + d.1 := by
  have := b.2; have := t.2; have := g.2; have := h.2; have := d.2
  omega

theorem query (b : Fin 16) (t : Fin 2048) (g : Fin 3) (h : Fin 8) (d : Fin 128) :
    val_main_v7 (F := Ideal) U (p5r b t g h d) = hpart U 2048 (by decide) b h g t d := by
  rw [val_main_v7_apply, val_main_v2_apply, val_main_v0_apply]
  obtain ⟨e0, e1, e2⟩ := row_idx b t g h d _ rfl
  refine congrArg U (funext fun a => Fin.ext ?_)
  match a with
  | ⟨0, _⟩ => exact e0
  | ⟨1, _⟩ => exact e1
  | ⟨2, _⟩ => exact (congrArg (2048 + ·) e2).trans (by show _ = 2048 + 1024 * g.1 + 128 * h.1 + d.1; omega)

theorem key (b : Fin 16) (t : Fin 2048) (g : Fin 3) (h : Fin 8) (d : Fin 128) :
    val_main_v8 (F := Ideal) U (p5r b t g h d) = hpart U 5120 (by decide) b h g t d := by
  rw [val_main_v8_apply, val_main_v3_apply, val_main_v0_apply]
  obtain ⟨e0, e1, e2⟩ := row_idx b t g h d _ rfl
  refine congrArg U (funext fun a => Fin.ext ?_)
  match a with
  | ⟨0, _⟩ => exact e0
  | ⟨1, _⟩ => exact e1
  | ⟨2, _⟩ => exact (congrArg (5120 + ·) e2).trans (by show _ = 5120 + 1024 * g.1 + 128 * h.1 + d.1; omega)

theorem value (b : Fin 16) (t : Fin 2048) (g : Fin 3) (h : Fin 8) (d : Fin 128) :
    val_main_v9 (F := Ideal) U (p5r b t g h d) = hpart U 8192 (by decide) b h g t d := by
  rw [val_main_v9_apply, val_main_v4_apply, val_main_v0_apply]
  obtain ⟨e0, e1, e2⟩ := row_idx b t g h d _ rfl
  refine congrArg U (funext fun a => Fin.ext ?_)
  match a with
  | ⟨0, _⟩ => exact e0
  | ⟨1, _⟩ => exact e1
  | ⟨2, _⟩ => exact (congrArg (8192 + ·) e2).trans (by show _ = 8192 + 1024 * g.1 + 128 * h.1 + d.1; omega)

/-- The masked scores of one sequence, head and query. -/
def sc (b : Fin 16) (h : Fin 8) (t : Fin 2048) (g : Fin 3) (u : Fin 2048) : EReal :=
  msc g (hpart U 2048 (by decide) b h g) (hpart U 5120 (by decide) b h g) t u

theorem score (b : Fin 16) (g : Fin 3) (h : Fin 8) (t u : Fin 2048) :
    val_main_v39 (F := Ideal) U (p5 b g h t u) = sc U b h t g u := by
  rw [val_main_v39_apply, val_main_call4_v1_apply, val_main_v38_apply, val_main_call4_v2_apply, val_main_call4_v0_apply,
    val_main_cst_10_apply, val_main_v37_apply, val_main_v36_apply, val_main_cst_apply, val_main_v35_apply]
  have e : idx_main_v38 (idx_main_call4_v1 (p5 b g h t u)) = p3 g t u := funext fun a => match a with
    | ⟨0, _⟩ => rfl
    | ⟨1, _⟩ => rfl
    | ⟨2, _⟩ => rfl
  rw [e]
  refine if_congr (valid g t u) ?_ ninf
  refine congrArg (· * scl) (Finset.sum_congr rfl fun d _ => ?_)
  have el : lidx_main_v35 (p5 b g h t u) d = p5r b t g h d := funext fun a => match a with
    | ⟨0, _⟩ => rfl
    | ⟨1, _⟩ => rfl
    | ⟨2, _⟩ => rfl
    | ⟨3, _⟩ => rfl
    | ⟨4, _⟩ => rfl
  have er : ridx_main_v35 (p5 b g h t u) d = p5r b u g h d := funext fun a => match a with
    | ⟨0, _⟩ => rfl
    | ⟨1, _⟩ => rfl
    | ⟨2, _⟩ => rfl
    | ⟨3, _⟩ => rfl
    | ⟨4, _⟩ => rfl
  rw [el, er, query, key]

theorem rowMax (b : Fin 16) (g : Fin 3) (h : Fin 8) (t : Fin 2048) :
    val_main_v40 (F := Ideal) U (p4 b g h t) = top (sc U b h t g) := by
  unfold val_main_v40
  rw [Host.reduce_eq_fold_single _ _ _ reducesTo_S16x3x8x2048x2048_S16x3x8x2048_d4 (by decide)]
  show Finset.fold max (Ideal.ofBits .f32 0xFF800000#32) _ Finset.univ = _
  rw [ninf]
  refine (fold_top _).trans (congrArg top (funext fun u => ?_))
  refine Eq.trans (congrArg (val_main_v39 (F := Ideal) U) (funext fun a => ?_)) (score U b g h t u)
  match a with
  | ⟨0, _⟩ => rfl
  | ⟨1, _⟩ => rfl
  | ⟨2, _⟩ => rfl
  | ⟨3, _⟩ => rfl
  | ⟨4, _⟩ => rfl

theorem rowTot (b : Fin 16) (g : Fin 3) (h : Fin 8) (t : Fin 2048) :
    val_main_v45 (F := Ideal) U (p4 b g h t) = tot (sc U b h t g) := by
  rw [val_main_v45_apply, val_main_cst_12_apply]
  show (Ideal.ofBits .f32 0x00000000#32 : EReal) + _ = _
  rw [zero32, zero_add]
  refine Finset.sum_congr rfl fun u _ => ?_
  rw [val_main_v44_apply, val_main_v43_apply, val_main_v42_apply, val_main_v41_apply]
  have e : idx_main_v45 (p4 b g h t) u = p5 b g h t u := funext fun a => match a with
    | ⟨0, _⟩ => rfl
    | ⟨1, _⟩ => rfl
    | ⟨2, _⟩ => rfl
    | ⟨3, _⟩ => rfl
    | ⟨4, _⟩ => rfl
  have e' : idx_main_v41 (idx_main_v42 (p5 b g h t u)) = p4 b g h t := funext fun a => match a with
    | ⟨0, _⟩ => rfl
    | ⟨1, _⟩ => rfl
    | ⟨2, _⟩ => rfl
    | ⟨3, _⟩ => rfl
  rw [e, e', score, rowMax]
  rfl

theorem rowLse (b : Fin 16) (g : Fin 3) (h : Fin 8) (t : Fin 2048) :
    val_main_v48 (F := Ideal) U (p4 b g h t) = lse (sc U b h t g) := by
  rw [val_main_v48_apply, val_main_v46_apply, val_main_v47_apply, val_main_v41_apply, rowTot]
  have e : idx_main_v41 (idx_main_v47 (p4 b g h t)) = p4 b g h t := by
    have hb := b.2; have hg := g.2; have hh := h.2; have ht := t.2
    refine funext fun a => Fin.ext ?_
    match a with
    | ⟨0, _⟩ => show (((b.1 * 3 + g.1) * 8 + h.1) * 2048 + t.1) / 49152 = b.1; omega
    | ⟨1, _⟩ => show (((b.1 * 3 + g.1) * 8 + h.1) * 2048 + t.1) / 16384 % 3 = g.1; omega
    | ⟨2, _⟩ => show (((b.1 * 3 + g.1) * 8 + h.1) * 2048 + t.1) / 2048 % 8 = h.1; omega
    | ⟨3, _⟩ => show (((b.1 * 3 + g.1) * 8 + h.1) * 2048 + t.1) / 1 % 2048 = t.1; omega
  rw [e, rowMax]
  rfl

theorem rowVal (b : Fin 16) (g : Fin 3) (h : Fin 8) (t : Fin 2048) (d : Fin 128) :
    val_main_v53 (F := Ideal) U (p5d b g h t d)
      = ∑ u, Ideal.exp (sc U b h t g u - lse (sc U b h t g)) * hpart U 8192 (by decide) b h g u d := by
  rw [val_main_v53_apply]
  refine Finset.sum_congr rfl fun u _ => ?_
  have el : lidx_main_v53 (p5d b g h t d) u = p5 b g h t u := funext fun a => match a with
    | ⟨0, _⟩ => rfl
    | ⟨1, _⟩ => rfl
    | ⟨2, _⟩ => rfl
    | ⟨3, _⟩ => rfl
    | ⟨4, _⟩ => rfl
  have er : ridx_main_v53 (p5d b g h t d) u = p5r b u g h d := funext fun a => match a with
    | ⟨0, _⟩ => rfl
    | ⟨1, _⟩ => rfl
    | ⟨2, _⟩ => rfl
    | ⟨3, _⟩ => rfl
    | ⟨4, _⟩ => rfl
  have e : idx_main_v49 (idx_main_v50 (p5 b g h t u)) = p4 b g h t := funext fun a => match a with
    | ⟨0, _⟩ => rfl
    | ⟨1, _⟩ => rfl
    | ⟨2, _⟩ => rfl
    | ⟨3, _⟩ => rfl
  rw [el, er, value, val_main_v52_apply, val_main_v51_apply, val_main_v50_apply, val_main_v49_apply, e, score, rowLse]
  rfl

/-! ### The merge -/

theorem grpMax (b : Fin 16) (h : Fin 8) (t : Fin 2048) :
    val_main_v56 (F := Ideal) U (q3 b h t) = top fun g => lse (sc U b h t g) := by
  rw [val_main_v56_apply, val_main_v55_apply, val_main_cst_14_apply]
  unfold val_main_v54
  rw [Host.reduce_eq_fold_single _ _ _ reducesTo_S16x3x8x2048_S16x8x2048_d1 (by decide)]
  show max (Ideal.ofBits .f32 0xFF800000#32) (Finset.fold max (Ideal.ofBits .f32 0xFF800000#32) _ Finset.univ) = _
  rw [ninf, bot_sup_eq]
  refine (fold_top _).trans (congrArg top (funext fun g => ?_))
  refine Eq.trans (congrArg (val_main_v48 (F := Ideal) U) (funext fun a => ?_)) (rowLse U b g h t)
  match a with
  | ⟨0, _⟩ => rfl
  | ⟨1, _⟩ => rfl
  | ⟨2, _⟩ => rfl
  | ⟨3, _⟩ => rfl

theorem grpExp (b : Fin 16) (g : Fin 3) (h : Fin 8) (t : Fin 2048) :
    val_main_v60 (F := Ideal) U (p4 b g h t)
      = Ideal.exp (lse (sc U b h t g) - top fun g => lse (sc U b h t g)) := by
  rw [val_main_v60_apply, val_main_v59_apply, val_main_v58_apply, val_main_v57_apply, rowLse]
  have e : idx_main_v57 (idx_main_v58 (p4 b g h t)) = q3 b h t := funext fun a => match a with
    | ⟨0, _⟩ => rfl
    | ⟨1, _⟩ => rfl
    | ⟨2, _⟩ => rfl
  rw [e, grpMax]
  rfl

theorem grpSum (b : Fin 16) (h : Fin 8) (t : Fin 2048) :
    val_main_v61 (F := Ideal) U (q3 b h t)
      = ∑ g, Ideal.exp (lse (sc U b h t g) - top fun g => lse (sc U b h t g)) := by
  rw [val_main_v61_apply, val_main_cst_15_apply]
  show (Ideal.ofBits .f32 0x00000000#32 : EReal) + _ = _
  rw [zero32, zero_add]
  refine Finset.sum_congr rfl fun g _ => ?_
  have e : idx_main_v61 (q3 b h t) g = p4 b g h t := funext fun a => match a with
    | ⟨0, _⟩ => rfl
    | ⟨1, _⟩ => rfl
    | ⟨2, _⟩ => rfl
    | ⟨3, _⟩ => rfl
  rw [e, grpExp]

theorem weight (b : Fin 16) (g : Fin 3) (h : Fin 8) (t : Fin 2048) :
    val_main_v64 (F := Ideal) U (p4 b g h t)
      = Ideal.div (Ideal.exp (lse (sc U b h t g) - top fun g => lse (sc U b h t g)))
          (∑ g, Ideal.exp (lse (sc U b h t g) - top fun g => lse (sc U b h t g))) := by
  rw [val_main_v64_apply, val_main_v63_apply, val_main_v62_apply, grpExp]
  have e : idx_main_v62 (idx_main_v63 (p4 b g h t)) = q3 b h t := funext fun a => match a with
    | ⟨0, _⟩ => rfl
    | ⟨1, _⟩ => rfl
    | ⟨2, _⟩ => rfl
  rw [e, grpSum]
  rfl

theorem merged (b : Fin 16) (h : Fin 8) (t : Fin 2048) (d : Fin 128) :
    ∑ g, val_main_v64 (F := Ideal) U (p4 b g h t) * val_main_v53 (F := Ideal) U (p5d b g h t d)
      = softMerge (sc U b h t) fun g u => hpart U 8192 (by decide) b h g u d := by
  refine Finset.sum_congr rfl fun g _ => ?_
  rw [weight, rowVal]

/-- The head of a column. -/
def hd (j : Fin 1024) : Fin 8 := ⟨j.1 / 128, by have := j.2; omega⟩

theorem result (i : S16x2048x1024.Idx) :
    val_main_v67 (F := Ideal) U i
      = softMerge (fun g => msc g (part U 2048 (by decide) (i 0) (i 2) g) (part U 5120 (by decide) (i 0) (i 2) g) (i 1))
          fun g u => part U 8192 (by decide) (i 0) (i 2) g u (lane (i 2)) := by
  rw [val_main_v67_apply, val_main_v66_apply]
  refine (val_main_v65_apply U _).trans ((Finset.sum_congr rfl fun g _ => ?_).trans
    (merged U (i 0) (hd (i 2)) (i 1) (lane (i 2))))
  have h0 : (i 0).val < 16 := (i 0).isLt
  have h1 : (i 1).val < 2048 := (i 1).isLt
  have h2 : (i 2).val < 1024 := (i 2).isLt
  have e0 : (((i 0).val * 2048 + (i 1).val) * 1024 + (i 2).val) / 2097152 = (i 0).val := by omega
  have e1 : (((i 0).val * 2048 + (i 1).val) * 1024 + (i 2).val) / 1024 % 2048 = (i 1).val := by omega
  have e2 : (((i 0).val * 2048 + (i 1).val) * 1024 + (i 2).val) / 128 % 8 = (i 2).val / 128 := by omega
  have e3 : (((i 0).val * 2048 + (i 1).val) * 1024 + (i 2).val) % 128 = (i 2).val % 128 := by omega
  have el : lidx_main_v65 (idx_main_v66 i) g = p4 (i 0) g (hd (i 2)) (i 1) := funext fun a => Fin.ext (match a with
    | ⟨0, _⟩ => e0
    | ⟨1, _⟩ => rfl
    | ⟨2, _⟩ => e2
    | ⟨3, _⟩ => e1)
  have er : ridx_main_v65 (idx_main_v66 i) g = p5d (i 0) g (hd (i 2)) (i 1) (lane (i 2)) :=
    funext fun a => Fin.ext (match a with
    | ⟨0, _⟩ => e0
    | ⟨1, _⟩ => rfl
    | ⟨2, _⟩ => e2
    | ⟨3, _⟩ => e1
    | ⟨4, _⟩ => e3)
  rw [el, er]

end Cert.Attn.Ref

end
-- ==== Proof.Attn.lean ====
/- The dilated attention against its reference: equal results at the extended reals where the queries and the keys are
   reals. -/
module

public import proofs.«01_k».proof.Defs
public import proofs.«01_k».proof.Proof.AttnRef
public import proofs.«01_k».proof.Proof.Gen.KernelIdeal.Value

@[expose] public section

noncomputable section

namespace Cert.Attn

open Idealize.ShloMosaic Idealize.ShloMosaic.TcCoe Idealize.SL.Sem
open Idealize.ShloMosaic.Pipeline (Dat)
open Cert.KernelIdeal Cert.KernelIdeal.Gen
open scoped BigOperators

/-- The side conditions of the precondition. -/
instance finiteFacts : Cert.Pre_finite.Facts where
  slices_S16x2048x20480_S16x2048x6144_0_0_2048 := by decide
  bitsLt_bf16_f32 := by decide
  bcast_S_S16x2048x6144 := by decide

theorem pinf : Ideal.ofBits .f32 0x7F800000#32 = ⊤ := by simp [Ideal.ofBits, Ideal.ieee]

theorem and_one {a b : BitVec 1} (h : IntOp.andi a b = 1#1) : a = 1#1 ∧ b = 1#1 := by
  revert a b
  decide

/-- Under the precondition every entry of the queries' and the keys' columns is a real. -/
theorem entry_real (U : FVec Ideal S16x2048x20480 .bf16) (h : Cert.Pre_finite.fn (F := Ideal) U = fun _ => 1#1)
    (b : Fin 16) (t : Fin 2048) (c : Fin 20480) (h1 : 2048 ≤ c.1) (h2 : c.1 < 8192) :
    ∃ r : ℝ, (U (ix3 b t c) : EReal) = r := by
  have hc : c.1 - 2048 < 6144 := by omega
  have hi : IntOp.andi
      (BitVec.ofBool (decide ((U (ix3 b t c) : EReal) < Ideal.ofBits .f32 0x7F800000#32)))
      (BitVec.ofBool (decide (Ideal.ofBits .f32 0xFF800000#32 < (U (ix3 b t c) : EReal)))) = 1#1 := by
    have e : ix3 b t c = fun a => ⟨(![0, 0, 2048] : Fin 3 → Nat) a + ((ix3 b t (⟨c.1 - 2048, hc⟩ : Fin 6144) : Cert.Pre_finite.S16x2048x6144.Idx) a).1,
        by fin_cases a <;> simp [ix3] <;> omega⟩ := by
      funext a
      fin_cases a <;> apply Fin.ext <;> simp [ix3]
      omega
    rw [e]
    exact congrFun h (ix3 b t (⟨c.1 - 2048, hc⟩ : Fin 6144))
  obtain ⟨ha, hb⟩ := and_one hi
  rw [WordCmp.ofBool_decide_eq_one_iff, pinf] at ha
  rw [WordCmp.ofBool_decide_eq_one_iff, ninf] at hb
  exact ⟨(U (ix3 b t c) : EReal).toReal, (EReal.coe_toReal ha.ne hb.ne').symm⟩

theorem algebraic : Cert.algebraic_KernelIdeal_ReferenceIdeal_pre_finite := by
  intro m ρ m' ρ' hpre hagree
  refine ⟨fun c => (dats m 0 c).arrAt 9 cfg0.N, Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v67_eq (F := Ideal) _ _).trans ?_
  rw [hagree c]
  show _ = (dats m 0 c).arrAt 9 cfg0.N
  rw [final]
  have hr : ∀ (off : ℕ) (ho : off + 3072 ≤ 20480), 2048 ≤ off → off + 3072 ≤ 8192 → ∀ (b : Fin 16) (j : Fin 1024)
      (g : Fin 3) (t : Fin 2048) (d : Fin 128), ∃ r : ℝ, part (m (c, main_arg0)) off ho b j g t d = r := by
    intro off ho h1 h2 b j g t d
    refine entry_real _ (hpre c) _ _ _ ?_ ?_
    · simp only [col]
      omega
    · have := g.2
      have := j.2
      have := d.2
      simp only [col]
      omega
  funext i
  refine (Ref.result _ i).trans ?_
  exact (headOut_eq (part (m (c, main_arg0)) 2048 (by decide) (i 0) (i 2)) (part (m (c, main_arg0)) 5120 (by decide) (i 0) (i 2))
    (part (m (c, main_arg0)) 8192 (by decide) (i 0) (i 2)) (hr 2048 (by decide) (by decide) (by decide) (i 0) (i 2))
    (hr 5120 (by decide) (by decide) (by decide) (i 0) (i 2)) (i 1) (lane (i 2))).symm

end Cert.Attn

end
-- ==== Proof.ConvPieces.lean ====
/- The two convolution branches of one block of 512 rows, written once: what the scratch buffers hold, the taps of a
   chunk of 32 rows, and the two output blocks as lists of sixteen such chunks. -/
module

public import proofs.«01_k».proof.Defs
public import proofs.«01_k».proof.Proof.Gen.Kernel5Ideal.Value
public import Idealize.ShloMosaic.Lib.Pointwise
public import Idealize.ShloMosaic.Lib.Pipeline.Value
public import Idealize.ShloMosaic.Lib.Quiescent

@[expose] public section

noncomputable section

namespace Cert.Conv

open Idealize.ShloMosaic Idealize.ShloMosaic.TcCoe
open Idealize.ShloMosaic.Tactic
open Cert.Kernel5Ideal Cert.Kernel5Ideal.Gen

variable {F : FTy → Type} [FloatOps F]

/-! ### Where the chunks read and write -/

/-- Rows of a buffer of 544 rows. -/
theorem inbB (s : ℕ) (h : s + 32 ≤ 544) : ∀ a, (![s, 0] : Fin 2 → ℕ) a + S32x1024.size a ≤ S544x1024.size a
  | ⟨0, _⟩ => h
  | ⟨1, _⟩ => show 0 + 1024 ≤ 1024 from le_refl _

/-- 536 rows of a buffer of 544 rows. -/
theorem inbU (s : ℕ) (h : s + 536 ≤ 544) : ∀ a, (![s, 0] : Fin 2 → ℕ) a + S536x1024.size a ≤ S544x1024.size a
  | ⟨0, _⟩ => h
  | ⟨1, _⟩ => show 0 + 1024 ≤ 1024 from le_refl _

/-- 536 rows of one of the seven shifted copies. -/
theorem inbV (j : ℕ) (h : j + 1 ≤ 7) :
    ∀ a, (![j, 0, 0] : Fin 3 → ℕ) a + S1x536x1024.size a ≤ S7x544x1024.size a
  | ⟨0, _⟩ => h
  | ⟨1, _⟩ => show 0 + 536 ≤ 544 by decide
  | ⟨2, _⟩ => show 0 + 1024 ≤ 1024 from le_refl _

/-- 32 rows of one of the seven shifted copies. -/
theorem inbS (j s : ℕ) (hj : j + 1 ≤ 7) (h : s + 32 ≤ 544) :
    ∀ a, (![j, s, 0] : Fin 3 → ℕ) a + S1x32x1024.size a ≤ S7x544x1024.size a
  | ⟨0, _⟩ => hj
  | ⟨1, _⟩ => h
  | ⟨2, _⟩ => show 0 + 1024 ≤ 1024 from le_refl _

/-- The eight rows that hold one tap of the long convolution. -/
theorem inbT (s : ℕ) (h : s + 8 ≤ 248) : ∀ a, (![s, 0] : Fin 2 → ℕ) a + S8x1024.size a ≤ S248x1024.size a
  | ⟨0, _⟩ => h
  | ⟨1, _⟩ => show 0 + 1024 ≤ 1024 from le_refl _

/-- The row that holds one tap of the short convolution. -/
theorem inbQ (s : ℕ) (h : s + 1 ≤ 3) : ∀ a, (![s, 0] : Fin 2 → ℕ) a + S1x1024.size a ≤ S3x1024.size a
  | ⟨0, _⟩ => h
  | ⟨1, _⟩ => show 0 + 1024 ≤ 1024 from le_refl _

/-- 32 rows of a block. -/
theorem inbW (s : ℕ) (h : s + 32 ≤ 512) :
    ∀ a, (![0, s, 0] : Fin 3 → ℕ) a + S1x32x1024.size a ≤ S1x512x1024.size a
  | ⟨0, _⟩ => show 0 + 1 ≤ 1 from le_refl _
  | ⟨1, _⟩ => h
  | ⟨2, _⟩ => show 0 + 1024 ≤ 1024 from le_refl _

/-! ### The scratch buffers -/

/-- A window of 32 rows, whole. -/
def winH (w : Memref sig .tc .vmem S1x32x1024 .bf16) (hw : w.IsWhole) (x : Vec F S1x32x1024 .bf16) :
    Vec F S1x32x1024 .bf16 :=
  View.readAt (Elt F) w.view (Rect.unit ![0, 0, 0] S1x32x1024.size inb_S1x32x1024_S1x32x1024_0_0_0).toLoadRect (hw.unread x)

/-- A window of 512 rows, whole. -/
def winB (w : Memref sig .tc .vmem S1x512x1024 .bf16) (hw : w.IsWhole) (x : Vec F S1x512x1024 .bf16) :
    Vec F S1x512x1024 .bf16 :=
  View.readAt (Elt F) w.view (Rect.unit ![0, 0, 0] S1x512x1024.size inb_S1x512x1024_S1x512x1024_0_0_0).toLoadRect (hw.unread x)

/-- A row vector, whole. -/
def winR (w : Memref sig .tc .vmem S1x1024 .f32) (hw : w.IsWhole) (x : Vec F S1x1024 .f32) : Vec F S1x1024 .f32 :=
  View.readAt (Elt F) w.view (Rect.unit ![0, 0] S1x1024.size inb_S1x1024_S1x1024_0_0).toLoadRect (hw.unread x)

/-- A buffer of 544 rows: 32 rows of the block before, then the block's own 512 rows. -/
def bufL (lo : FVec F S32x1024 .f32) (hi : FVec F S512x1024 .f32) : List (View.Piece (Elt F) S544x1024 .f32) :=
  [⟨Rect.unit ![32, 0] S512x1024.size inb_S544x1024_S512x1024_32_0, hi⟩,
    ⟨Rect.unit ![0, 0] S32x1024.size inb_S544x1024_S32x1024_0_0, lo⟩]

/-- The seven copies, last first. -/
def copies : List (Fin 7) := [6, 5, 4, 3, 2, 1, 0]

theorem mem_copies (j : Fin 7) : j ∈ copies := by revert j; decide

/-- Copy `j` holds the buffer's rows from `j + 1` on. -/
def shiftL (b : Memref sig .tc .vmem S544x1024 .f32) (L : List (View.Piece (Elt F) S544x1024 .f32)) :
    List (View.Piece (Elt F) S7x544x1024 .f32) :=
  copies.map fun j => ⟨Rect.unit ![j.1, 0, 0] S1x536x1024.size (inbV _ j.2),
    shapeCast S1x536x1024
      (b.view.readCov L (Rect.unit (s := S544x1024) ![j.1 + 1, 0] S536x1024.size
        (inbU _ (by have := j.2; omega))).toLoadRect) shapeCasts_S536x1024_S1x536x1024⟩

/-! ### One chunk of the long convolution -/

/-- The 32 rows that tap `k` of the chunk from row `s` on meets: from the buffer itself, or from the copy that makes the
    first row a multiple of eight. -/
def rows (b : Memref sig .tc .vmem S544x1024 .f32) (L : List (View.Piece (Elt F) S544x1024 .f32))
    (bs : Memref sig .tc .vmem S7x544x1024 .f32) (LS : List (View.Piece (Elt F) S7x544x1024 .f32))
    (s : ℕ) (hs : s + 32 ≤ 512) (k : Fin 31) : FVec F S32x1024 .f32 :=
  if h : (2 + k.1) % 8 = 0 then
    b.view.readCov L (Rect.unit (s := S544x1024) ![s + (2 + k.1) / 8 * 8, 0] S32x1024.size
      (inbB _ (by have := k.2; omega))).toLoadRect
  else
    shapeCast S32x1024
      (bs.view.readCov LS (Rect.unit (s := S7x544x1024) ![(2 + k.1) % 8 - 1, s + (2 + k.1) / 8 * 8, 0] S1x32x1024.size
        (inbS _ _ (by omega) (by have := k.2; omega))).toLoadRect) shapeCasts_S1x32x1024_S32x1024

/-- Tap `k`, eight equal rows. -/
def tap (w : Memref sig .tc .vmem S248x1024 .f32) (hw : w.IsWhole) (x : Vec F S248x1024 .f32) (k : Fin 31) :
    FVec F S4x8x1024 .f32 :=
  broadcastTo S4x8x1024
    (shapeCast S1x8x1024
      (shapeCast S8x1024
        (View.readAt (Elt F) w.view (Rect.unit (s := S248x1024) ![8 * k.1, 0] S8x1024.size
          (inbT _ (by have := k.2; omega))).toLoadRect (hw.unread x)) shapeCasts_S8x1024_S8x1024)
      shapeCasts_S8x1024_S1x8x1024) broadcasts_S1x8x1024_S4x8x1024

/-- The taps in their order. -/
def ks : List (Fin 31) :=
  [0, 1, 2, 3, 4, 5, 6, 7, 8, 9, 10, 11, 12, 13, 14, 15, 16, 17, 18, 19, 20, 21, 22, 23, 24, 25, 26, 27, 28, 29, 30]

/-- The sum of taps times rows. -/
def sums (R : Fin 31 → FVec F S32x1024 .f32) (W : Fin 31 → FVec F S4x8x1024 .f32) : FVec F S4x8x1024 .f32 :=
  ks.foldl (fun acc k => addf acc (mulf (W k) (shapeCast S4x8x1024 (R k) shapeCasts_S32x1024_S4x8x1024)))
    (broadcast S4x8x1024 (Scalar.ofBits .f32 0x00000000#32))

/-- The sum with its bias. -/
def biased (x : FVec F S4x8x1024 .f32) (b : FVec F S1x1024 .f32) : FVec F S32x1024 .f32 :=
  addf (shapeCast S32x1024 x shapeCasts_S4x8x1024_S32x1024)
    (broadcastTo S32x1024 (shapeCast S1x1024 b shapeCasts_S1x1024_S1x1024) broadcasts_S1x1024_S32x1024)

/-- The rows' means. -/
def means (x : FVec F S32x1024 .f32) : FVec F S32x1 .f32 :=
  divf (shapeCast S32x1 (multiReduction .add [1] S32 x 0x00000000#32 reduces_S32x1024_S32 (.inl rfl) rfl)
    shapeCasts_S32_S32x1) (broadcast S32x1 (Scalar.ofBits .f32 0x44800000#32))

/-- The rows without their means. -/
def cents (x : FVec F S32x1024 .f32) : FVec F S32x1024 .f32 :=
  subf x (broadcastTo S32x1024 (means x) broadcasts_S32x1_S32x1024)

/-- The normalised rows, scaled and shifted. -/
def norms (x : FVec F S32x1024 .f32) (g b : FVec F S1x1024 .f32) : FVec F S32x1024 .f32 :=
  addf (mulf (mulf (cents x) (broadcastTo S32x1024
      (rsqrt (addf (means (mulf (cents x) (cents x))) (broadcast S32x1 (Scalar.ofBits .f32 0x3727C5AC#32))))
      broadcasts_S32x1_S32x1024))
    (broadcastTo S32x1024 (shapeCast S1x1024 g shapeCasts_S1x1024_S1x1024) broadcasts_S1x1024_S32x1024))
    (broadcastTo S32x1024 (shapeCast S1x1024 b shapeCasts_S1x1024_S1x1024) broadcasts_S1x1024_S32x1024)

/-- Each entry times its logistic value. -/
def silus (x : FVec F S32x1024 .f32) : FVec F S32x1024 .f32 :=
  mulf x (divf (broadcast S32x1024 (Scalar.ofBits .f32 0x3F800000#32))
    (addf (broadcast S32x1024 (Scalar.ofBits .f32 0x3F800000#32))
      (exp (subf (broadcast S32x1024 (Scalar.ofBits .f32 0x00000000#32)) x))))

/-- What a chunk of the long convolution stores. -/
def chunkA (x : FVec F S4x8x1024 .f32) (b g h : FVec F S1x1024 .f32) : FVec F S1x32x1024 .bf16 :=
  shapeCast S1x32x1024 (truncf .bf16 (silus (norms (biased x b) g h)) bitsLt_bf16_f32) shapeCasts_S32x1024_S1x32x1024

/-! ### One chunk of the short convolution -/

/-- Tap `k` of the short convolution on the rows from `s + 30 + k` on. -/
def prod3 (b : Memref sig .tc .vmem S544x1024 .f32) (L : List (View.Piece (Elt F) S544x1024 .f32))
    (w : Memref sig .tc .vmem S3x1024 .f32) (hw : w.IsWhole) (x : Vec F S3x1024 .f32) (s : ℕ) (hs : s + 32 ≤ 512)
    (k : Fin 3) : FVec F S32x1024 .f32 :=
  mulf (broadcastTo S32x1024
      (shapeCast S1x1024 (View.readAt (Elt F) w.view (Rect.unit (s := S3x1024) ![k.1, 0] S1x1024.size
        (inbQ _ k.2)).toLoadRect (hw.unread x)) shapeCasts_S1x1024_S1x1024) broadcasts_S1x1024_S32x1024)
    (b.view.readCov L (Rect.unit (s := S544x1024) ![s + (30 + k.1), 0] S32x1024.size
      (inbB _ (by have := k.2; omega))).toLoadRect)

/-- What a chunk of the short convolution stores. -/
def chunkC (P : Fin 3 → FVec F S32x1024 .f32) (g : Vec F S1x32x1024 .bf16) : FVec F S1x32x1024 .bf16 :=
  shapeCast S1x32x1024 (truncf .bf16
    (mulf (extf .f32 (shapeCast S32x1024 g shapeCasts_S1x32x1024_S32x1024) bitsLt_bf16_f32)
      (addf (addf (addf (broadcast S32x1024 (Scalar.ofBits .f32 0x00000000#32)) (P 0)) (P 1)) (P 2)))
    bitsLt_bf16_f32) shapeCasts_S32x1024_S1x32x1024

/-- The sixteen chunks, last first. -/
def chunks : List (Fin 16) := [15, 14, 13, 12, 11, 10, 9, 8, 7, 6, 5, 4, 3, 2, 1, 0]

theorem mem_chunks (b : Fin 16) : b ∈ chunks := by revert b; decide

theorem rowC (b : Fin 16) : 32 * b.1 + 32 ≤ 512 := by have := b.2; omega

/-- Sixteen chunks of 32 rows as the pieces of a block. -/
def outL (f : Fin 16 → FVec F S1x32x1024 .bf16) : List (View.Piece (Elt F) S1x512x1024 .bf16) :=
  chunks.map fun b => ⟨Rect.unit ![0, 32 * b.1, 0] S1x32x1024.size (inbW _ (rowC b)), f b⟩

variable (c : Dev nD) (i : grid0.Coords)
  (arg2 : Memref sig .tc .vmem S1x512x1024 .bf16) (harg2 : arg2.IsWhole)
  (arg3 : Memref sig .tc .vmem S1x512x1024 .bf16) (harg3 : arg3.IsWhole)
  (arg4 : Memref sig .tc .vmem S1x32x1024 .bf16) (harg4 : arg4.IsWhole)
  (arg5 : Memref sig .tc .vmem S1x32x1024 .bf16) (harg5 : arg5.IsWhole)
  (arg6 : Memref sig .tc .vmem S1x512x1024 .bf16) (harg6 : arg6.IsWhole)
  (arg7 : Memref sig .tc .vmem S1x512x1024 .bf16) (harg7 : arg7.IsWhole)
  (arg8 : Memref sig .tc .vmem S1x512x1024 .bf16) (harg8 : arg8.IsWhole)
  (arg9 : Memref sig .tc .vmem S1x32x1024 .bf16) (harg9 : arg9.IsWhole)
  (arg10 : Memref sig .tc .vmem S1x32x1024 .bf16) (harg10 : arg10.IsWhole)
  (arg11 : Memref sig .tc .vmem S248x1024 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S1x1024 .f32) (harg14 : arg14.IsWhole)
  (arg15 : Memref sig .tc .vmem S3x1024 .f32) (harg15 : arg15.IsWhole)
  (arg16 : Memref sig .tc .vmem S1x512x1024 .bf16) (harg16 : arg16.IsWhole)
  (arg17 : Memref sig .tc .vmem S1x512x1024 .bf16) (harg17 : arg17.IsWhole)
  (arg18 : Memref sig .tc .vmem S544x1024 .f32) (harg18 : arg18.IsWhole)
  (arg19 : Memref sig .tc .vmem S544x1024 .f32) (harg19 : arg19.IsWhole)
  (arg20 : Memref sig .tc .vmem S7x544x1024 .f32) (harg20 : arg20.IsWhole)
  (x0 : Vec F S1x512x1024 .bf16)
  (x1 : Vec F S1x512x1024 .bf16)
  (x2 : Vec F S1x32x1024 .bf16)
  (x3 : Vec F S1x32x1024 .bf16)
  (x4 : Vec F S1x512x1024 .bf16)
  (x5 : Vec F S1x512x1024 .bf16)
  (x6 : Vec F S1x512x1024 .bf16)
  (x7 : Vec F S1x32x1024 .bf16)
  (x8 : Vec F S1x32x1024 .bf16)
  (x9 : Vec F S248x1024 .f32)
  (x10 : Vec F S1x1024 .f32)
  (x11 : Vec F S1x1024 .f32)
  (x12 : Vec F S1x1024 .f32)
  (x13 : Vec F S3x1024 .f32)

/-- The buffer of the gated rows. -/
def gateL : List (View.Piece (Elt F) S544x1024 .f32) :=
  bufL (k0_pay2 i (winH arg4 harg4 x2) (winH arg5 harg5 x3))
    (k0_pay4 (k0_pay3 (winB arg2 harg2 x0) (winB arg3 harg3 x1)))

/-- The buffer of the short convolution's products. -/
def prodL : List (View.Piece (Elt F) S544x1024 .f32) :=
  bufL (k0_pay5 (Scalar.cmpi .eq (BitVec.ofNat 32 (i 1).val) 0#32) (winH arg9 harg9 x7) (winH arg10 harg10 x8))
    (k0_pay6 (winB arg7 harg7 x5) (winB arg8 harg8 x6))

/-- The block of the long convolution. -/
def listA : List (View.Piece (Elt F) S1x512x1024 .bf16) :=
  outL fun b => chunkA
    (sums (rows arg18 (gateL i arg2 harg2 arg3 harg3 arg4 harg4 arg5 harg5 x0 x1 x2 x3) arg20
        (shiftL arg18 (gateL i arg2 harg2 arg3 harg3 arg4 harg4 arg5 harg5 x0 x1 x2 x3)) (32 * b.1) (rowC b))
      (tap arg11 harg11 x9))
    (winR arg12 harg12 x10) (winR arg13 harg13 x11) (winR arg14 harg14 x12)

/-- The block of the short convolution. -/
def listC : List (View.Piece (Elt F) S1x512x1024 .bf16) :=
  outL fun b => chunkC
    (prod3 arg19 (prodL i arg7 harg7 arg8 harg8 arg9 harg9 arg10 harg10 x5 x6 x7 x8) arg15 harg15 x13 (32 * b.1) (rowC b))
    (View.readAt (Elt F) arg6.view (Rect.unit (s := S1x512x1024) ![0, 32 * b.1, 0] S1x32x1024.size (inbW _ (rowC b))).toLoadRect
      (harg6.unread x4))

theorem out15_eq : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13
    = View.canon (listC i arg6 harg6 arg7 harg7 arg8 harg8 arg9 harg9 arg10 harg10 arg15 harg15 arg19 x4 x5 x6 x7 x8 x13) := by
  unfold out0_A_15
  rw [View.read_writes_eq_canon _ _ _ (cover0_A_15 c _ _ _ _ _ _ _ _ _ _ _ _ _ _ _ _ _ _ _ _ _ _ _ _ _ _ _ _ _ _ _ _ _ _ _ _ _ _ _ _ _ _ _ _ _ _ _ _ _ _ _ _ _)]
  refine congrArg View.canon ?_
  sl_kernel_rfl

theorem out14_eq : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13
    = View.canon (listA i arg2 harg2 arg3 harg3 arg4 harg4 arg5 harg5 arg11 harg11 arg12 harg12 arg13 harg13 arg14 harg14 arg18 arg20 x0 x1 x2 x3 x9 x10 x11 x12) := by
  unfold out0_A_14
  rw [View.read_writes_eq_canon _ _ _ (cover0_A_14 c _ _ _ _ _ _ _ _ _ _ _ _ _ _ _ _ _ _ _ _ _ _ _ _ _ _ _ _ _ _ _ _ _ _ _ _ _ _ _ _ _ _ _ _ _ _ _ _ _ _ _ _ _)]
  refine congrArg View.canon ?_
  sl_kernel_rfl

end Cert.Conv
-- ==== Proof.ConvRows.lean ====
/- The two convolution branches read at a row and a column: what the scratch buffers hold, and what a chunk stores. -/
module

public import proofs.«01_k».proof.Proof.ConvPieces
public import Idealize.ShloMosaic.Lib.ValueLayout
public import Idealize.ShloMosaic.Lib.WholeRead

@[expose] public section

noncomputable section

namespace Cert.Conv

open Idealize.ShloMosaic Idealize.ShloMosaic.TcCoe
open Cert.Kernel5Ideal Cert.Kernel5Ideal.Gen
open Idealize.ShloMosaic.ValueIdx (shapeCast_ab_1ab_apply shapeCast_1ab_ab_apply)
open scoped BigOperators

/-! ## The mathematics of a row -/

/-- The logistic function. -/
def gate (x : EReal) : EReal := Ideal.div 1 (1 + Ideal.exp (-x))

/-- A sequence with 32 zero rows ahead. -/
def src (f : Fin 2048 → EReal) (n : ℕ) : EReal := if h : 32 ≤ n ∧ n < 2080 then f ⟨n - 32, by omega⟩ else 0

/-- The long convolution at row `n`, from the rows with 32 zero rows ahead. -/
def taps (w : Fin 31 → EReal) (f : ℕ → EReal) (n : ℕ) : EReal :=
  ks.foldl (fun acc k => acc + w k * f (n + 2 + k.1)) 0

/-- The short convolution at row `n`. -/
def taps3 (w : Fin 3 → EReal) (f : ℕ → EReal) (n : ℕ) : EReal :=
  0 + w 0 * f (n + 30) + w 1 * f (n + 31) + w 2 * f (n + 32)

/-- The mean of a row's entries. -/
def mean (f : Fin 1024 → EReal) : EReal :=
  Ideal.div (∑ k : Fin 1024, f k) (FloatOps.ofBits (F := Ideal) .f32 0x44800000#32)

/-- A row less its mean. -/
def centered (f : Fin 1024 → EReal) (k : Fin 1024) : EReal := f k - mean f

/-- The reciprocal root of a row's variance, a small constant added. -/
def spread (f : Fin 1024 → EReal) : EReal :=
  Ideal.rsqrt (mean (fun k => centered f k * centered f k) + FloatOps.ofBits (F := Ideal) .f32 0x3727C5AC#32)

/-- The normalized row, with a gain and a shift. -/
def norm (f g b : Fin 1024 → EReal) (k : Fin 1024) : EReal := centered f k * spread f * g k + b k

/-- The row after the norm, times its logistic values. -/
def act (f g b : Fin 1024 → EReal) (k : Fin 1024) : EReal := norm f g b k * gate (norm f g b k)

/-! ## The buffers -/

/-- A matrix as one plane. -/
theorem plane {α : Type} {a b : ℕ} (x : (⟨2, ![a, b]⟩ : Shape).Idx → α) (h : (⟨2, ![a, b]⟩ : Shape).ShapeCasts ⟨3, ![1, a, b]⟩)
    (u : Fin 1) (i : Fin a) (j : Fin b) : shapeCast ⟨3, ![1, a, b]⟩ x h (ix3 u i j) = x (ix2 i j) :=
  shapeCast_ab_1ab_apply x h u i j

theorem canon_bufL (lo : FVec Ideal S32x1024 .f32) (hi : FVec Ideal S512x1024 .f32) (f : ℕ → Fin 1024 → EReal)
    (hlo : ∀ r d, lo (ix2 r d) = f r.1 d) (hhi : ∀ r d, hi (ix2 r d) = f (32 + r.1) d) (y : S544x1024.Idx) :
    View.canon (bufL lo hi) y = f (y 0).1 (y 1) := by
  refine View.canon_apply_of_pieces (Val := Elt Ideal) (e := .f32)
    (fun y : S544x1024.Idx => f (y 0).1 (y 1)) _ ?_ _ ?_
  · intro p hp
    unfold bufL at hp
    rw [List.mem_cons, List.mem_singleton] at hp
    rcases hp with rfl | rfl
    · intro x
      obtain ⟨r, d, rfl⟩ : ∃ (r : Fin 512) (d : Fin 1024), x = ix2 r d := ⟨x 0, x 1, eq_ix2 x⟩
      refine (hhi r d).trans (congrArg₂ f ?_ (Fin.ext ?_))
      · show 32 + r.1 = 32 + 1 * r.1; omega
      · show d.1 = 0 + 1 * d.1; omega
    · intro x
      obtain ⟨r, d, rfl⟩ : ∃ (r : Fin 32) (d : Fin 1024), x = ix2 r d := ⟨x 0, x 1, eq_ix2 x⟩
      refine (hlo r d).trans (congrArg₂ f ?_ (Fin.ext ?_))
      · show r.1 = 0 + 1 * r.1; omega
      · show d.1 = 0 + 1 * d.1; omega
  · have h0 : (y 0).1 < 544 := (y 0).2
    by_cases h : (y 0).1 < 32
    · refine ⟨_, List.mem_cons_of_mem _ (List.mem_singleton.mpr rfl), (LoadRect.mem_set _).mpr fun a => ?_⟩
      match a with
      | ⟨0, _⟩ => exact ⟨(y 0).1, h, show (y 0).1 = 0 + 1 * (y 0).1 by omega⟩
      | ⟨1, _⟩ => exact ⟨(y 1).1, (y 1).2, show (y 1).1 = 0 + 1 * (y 1).1 by omega⟩
    · refine ⟨_, List.mem_cons_self, (LoadRect.mem_set _).mpr fun a => ?_⟩
      match a with
      | ⟨0, _⟩ =>
        exact ⟨(y 0).1 - 32, show (y 0).1 - 32 < 512 by omega, show (y 0).1 = 32 + 1 * ((y 0).1 - 32) by omega⟩
      | ⟨1, _⟩ => exact ⟨(y 1).1, (y 1).2, show (y 1).1 = 0 + 1 * (y 1).1 by omega⟩

section Buffers

variable (b : Memref sig .tc .vmem S544x1024 .f32) (L : List (View.Piece (Elt Ideal) S544x1024 .f32))
  (bs : Memref sig .tc .vmem S7x544x1024 .f32) (f : ℕ → Fin 1024 → EReal)
  (hL : ∀ y : S544x1024.Idx, View.canon L y = f (y 0).1 (y 1))

include hL

theorem canon_shiftL (y : S7x544x1024.Idx) (hy : (y 1).1 < 536) :
    View.canon (shiftL b L) y = f ((y 1).1 + (y 0).1 + 1) (y 2) := by
  refine View.canon_apply_of_pieces (Val := Elt Ideal) (e := .f32)
    (fun y : S7x544x1024.Idx => f ((y 1).1 + (y 0).1 + 1) (y 2)) _ ?_ _ ?_
  · intro p hp
    unfold shiftL at hp
    rw [List.mem_map] at hp
    obtain ⟨j, _, rfl⟩ := hp
    intro x
    obtain ⟨u, r, d, rfl⟩ : ∃ (u : Fin 1) (r : Fin 536) (d : Fin 1024), x = ix3 u r d := ⟨x 0, x 1, x 2, eq_ix3 x⟩
    have hu : u.1 = 0 := by omega
    refine (plane (b.view.readCov L (Rect.unit (s := S544x1024) ![j.1 + 1, 0] S536x1024.size
      (inbU _ (by have := j.2; omega))).toLoadRect) shapeCasts_S536x1024_S1x536x1024 u r d).trans ?_
    rw [View.readCov_eq_canon']
    refine (hL _).trans (congrArg₂ f ?_ (Fin.ext ?_))
    · show j.1 + 1 + 1 * r.1 = 0 + 1 * r.1 + (j.1 + 1 * u.1) + 1; omega
    · show 0 + 1 * d.1 = 0 + 1 * d.1; rfl
  · refine ⟨_, List.mem_map_of_mem (mem_copies (y 0)), (LoadRect.mem_set _).mpr fun a => ?_⟩
    match a with
    | ⟨0, _⟩ => exact ⟨0, Nat.one_pos, show (y 0).1 = (y 0).1 + 1 * 0 by omega⟩
    | ⟨1, _⟩ => exact ⟨(y 1).1, hy, show (y 1).1 = 0 + 1 * (y 1).1 by omega⟩
    | ⟨2, _⟩ => exact ⟨(y 2).1, (y 2).2, show (y 2).1 = 0 + 1 * (y 2).1 by omega⟩

theorem rows_apply (s : ℕ) (hs : s + 32 ≤ 512) (k : Fin 31) (r : Fin 32) (d : Fin 1024) :
    rows b L bs (shiftL b L) s hs k (ix2 r d) = f (s + r.1 + 2 + k.1) d := by
  have hk := k.2
  have hr := r.2
  unfold rows
  split
  · rename_i h
    rw [View.readCov_eq_canon']
    refine (hL _).trans (congrArg₂ f ?_ (Fin.ext ?_))
    · show s + (2 + k.1) / 8 * 8 + 1 * r.1 = s + r.1 + 2 + k.1; omega
    · show 0 + 1 * d.1 = d.1; omega
  · rename_i h
    refine (shapeCast_1ab_ab_apply _ _ r d).trans ?_
    rw [View.readCov_eq_canon']
    refine (canon_shiftL b L f hL _ ?_).trans (congrArg₂ f ?_ (Fin.ext ?_))
    · show s + (2 + k.1) / 8 * 8 + 1 * r.1 < 536; omega
    · show s + (2 + k.1) / 8 * 8 + 1 * r.1 + ((2 + k.1) % 8 - 1 + 1 * 0) + 1 = s + r.1 + 2 + k.1; omega
    · show 0 + 1 * d.1 = d.1; omega

theorem prod3_apply (w : Memref sig .tc .vmem S3x1024 .f32) (hw : w.IsWhole) (x : Vec Ideal S3x1024 .f32) (s : ℕ)
    (hs : s + 32 ≤ 512) (k : Fin 3) (r : Fin 32) (d : Fin 1024) :
    prod3 b L w hw x s hs k (ix2 r d) = x (ix2 k d) * f (s + r.1 + (30 + k.1)) d := by
  unfold prod3
  simp only [pointwise, Nat.reduceEqDiff, ↓reduceDIte, OfNat.ofNat_ne_one]
  rw [View.readCov_eq_canon', Memref.IsWhole.readAt_unread]
  refine congrArg₂ (· * ·) (congrArg x (funext fun a => Fin.ext ?_)) ((hL _).trans (congrArg₂ f ?_ (Fin.ext ?_)))
  · match a with
    | ⟨0, _⟩ => show k.1 + 1 * 0 = k.1; omega
    | ⟨1, _⟩ => show 0 + 1 * d.1 = d.1; omega
  · show s + (30 + k.1) + 1 * r.1 = s + r.1 + (30 + k.1); omega
  · show 0 + 1 * d.1 = d.1; omega

end Buffers

theorem tap_apply (w : Memref sig .tc .vmem S248x1024 .f32) (hw : w.IsWhole) (x : Vec Ideal S248x1024 .f32)
    (k : Fin 31) (a : Fin 4) (e : Fin 8) (d : Fin 1024) :
    tap w hw x k (ix3 a e d) = x (ix2 ⟨8 * k.1 + e.1, by have := k.2; have := e.2; omega⟩ d) := by
  unfold tap
  simp only [pointwise, Nat.reduceEqDiff, ↓reduceDIte, OfNat.ofNat_ne_one]
  rw [Memref.IsWhole.readAt_unread]
  refine congrArg x (funext fun a => Fin.ext ?_)
  match a with
  | ⟨0, _⟩ => show 8 * k.1 + 1 * e.1 = 8 * k.1 + e.1; omega
  | ⟨1, _⟩ => show 0 + 1 * d.1 = d.1; omega

/-! ## A chunk of the long convolution -/

theorem fold_apply (R : Fin 31 → FVec Ideal S32x1024 .f32) (W : Fin 31 → FVec Ideal S4x8x1024 .f32)
    (g : Fin 31 → EReal) (j : S4x8x1024.Idx)
    (hg : ∀ k, W k j * shapeCast S4x8x1024 (R k) shapeCasts_S32x1024_S4x8x1024 j = g k) :
    ∀ (l : List (Fin 31)) (acc : FVec Ideal S4x8x1024 .f32) (z : EReal), acc j = z →
      l.foldl (fun acc k => addf acc (mulf (W k) (shapeCast S4x8x1024 (R k) shapeCasts_S32x1024_S4x8x1024))) acc j
        = l.foldl (fun acc k => acc + g k) z
  | [], _, _, h => h
  | k :: l, acc, z, h => by
    refine fold_apply R W g j hg l _ _ ?_
    show acc j + W k j * shapeCast S4x8x1024 (R k) shapeCasts_S32x1024_S4x8x1024 j = z + g k
    rw [h, hg]

theorem biased_apply (R : Fin 31 → FVec Ideal S32x1024 .f32) (W : Fin 31 → FVec Ideal S4x8x1024 .f32)
    (b : FVec Ideal S1x1024 .f32) (w : Fin 31 → Fin 1024 → EReal) (f : ℕ → Fin 1024 → EReal) (n : ℕ)
    (r : Fin 32) (d : Fin 1024) (hW : ∀ k a e, W k (ix3 a e d) = w k d) (hR : ∀ k, R k (ix2 r d) = f (n + 2 + k.1) d) :
    biased (sums R W) b (ix2 r d) = taps (fun k => w k d) (fun n => f n d) n + b (ix2 0 d) := by
  have hr := r.2
  have hc : shapeCast S32x1024 (sums R W) shapeCasts_S4x8x1024_S32x1024 (ix2 r d)
      = sums R W (ix3 (⟨r.1 / 8, by omega⟩ : Fin 4) (⟨r.1 % 8, by omega⟩ : Fin 8) d) :=
    shapeCast_apply _ _ _ _ (by
      rw [Shape.rowMajor_val_three, Shape.rowMajor_val_two]
      show (r.1 / 8 * 8 + r.1 % 8) * 1024 + d.1 = r.1 * 1024 + d.1
      rw [Nat.div_add_mod'])
  unfold biased
  refine congrArg₂ (· + ·) (hc.trans ?_) ?_
  · unfold sums taps
    refine fold_apply R W (fun k => w k d * f (n + 2 + k.1) d) _ (fun k => ?_) ks _ _ ?_
    · rw [hW, ← hR]
      refine congrArg (_ * ·) (shapeCast_apply _ _ _ _ ?_)
      rw [Shape.rowMajor_val_three, Shape.rowMajor_val_two]
      show r.1 * 1024 + d.1 = (r.1 / 8 * 8 + r.1 % 8) * 1024 + d.1
      rw [Nat.div_add_mod']
    · simp only [pointwise]
  · simp only [pointwise, Nat.reduceEqDiff, ↓reduceDIte, OfNat.ofNat_ne_one]

theorem means_apply (x : FVec Ideal S32x1024 .f32) (r : Fin 32) : means x (ix2 r 0) = mean fun q => x (ix2 r q) := by
  unfold means mean
  simp only [pointwise, zero_add]

theorem cents_apply (x : FVec Ideal S32x1024 .f32) (r : Fin 32) (d : Fin 1024) :
    cents x (ix2 r d) = centered (fun q => x (ix2 r q)) d := by
  unfold cents centered
  simp only [pointwise, Nat.reduceEqDiff, ↓reduceDIte, means_apply]

theorem norms_apply (x : FVec Ideal S32x1024 .f32) (g b : FVec Ideal S1x1024 .f32) (r : Fin 32) (d : Fin 1024) :
    norms x g b (ix2 r d) = norm (fun q => x (ix2 r q)) (fun q => g (ix2 0 q)) (fun q => b (ix2 0 q)) d := by
  unfold norms norm spread
  simp only [pointwise, cents_apply, Nat.reduceEqDiff, ↓reduceDIte, OfNat.ofNat_ne_one, means_apply]

theorem silus_apply (x : FVec Ideal S32x1024 .f32) (j : S32x1024.Idx) : silus x j = x j * gate (x j) := by
  unfold silus gate
  simp only [pointwise, zero_sub]

theorem chunkA_apply (x : FVec Ideal S4x8x1024 .f32) (b g h : FVec Ideal S1x1024 .f32) (u : Fin 1) (r : Fin 32) (d : Fin 1024) :
    chunkA x b g h (ix3 u r d)
      = act (fun q => biased x b (ix2 r q)) (fun q => g (ix2 0 q)) (fun q => h (ix2 0 q)) d := by
  unfold chunkA act
  refine (plane (truncf (F := Ideal) .bf16 (silus (norms (biased x b) g h)) bitsLt_bf16_f32) _ u r d).trans ?_
  show silus (norms (biased x b) g h) (ix2 r d) = _
  rw [silus_apply, norms_apply]

theorem chunkC_apply (P : Fin 3 → FVec Ideal S32x1024 .f32) (g : Vec Ideal S1x32x1024 .bf16) (u : Fin 1) (r : Fin 32) (d : Fin 1024) :
    chunkC P g (ix3 u r d) = g (ix3 0 r d) * (0 + P 0 (ix2 r d) + P 1 (ix2 r d) + P 2 (ix2 r d)) := by
  unfold chunkC
  refine (plane (truncf (F := Ideal) .bf16 _ bitsLt_bf16_f32) _ u r d).trans ?_
  simp only [pointwise]

theorem canon_outL (f : Fin 16 → FVec Ideal S1x32x1024 .bf16) (G : S1x512x1024.Idx → EReal)
    (h : ∀ b r d, f b (ix3 0 r d) = G (ix3 0 ⟨32 * b.1 + r.1, by have := b.2; have := r.2; omega⟩ d)) (y : S1x512x1024.Idx) :
    View.canon (outL f) y = G y := by
  refine View.canon_apply_of_pieces (Val := Elt Ideal) (e := .bf16) G _ ?_ _ ?_
  · intro p hp
    unfold outL at hp
    rw [List.mem_map] at hp
    obtain ⟨b, _, rfl⟩ := hp
    intro x
    obtain ⟨u, r, d, rfl⟩ : ∃ (u : Fin 1) (r : Fin 32) (d : Fin 1024), x = ix3 u r d := ⟨x 0, x 1, x 2, eq_ix3 x⟩
    have hu : u = 0 := Fin.ext (by omega)
    subst hu
    refine (h b r d).trans (congrArg G (funext fun a => Fin.ext ?_))
    match a with
    | ⟨0, _⟩ => rfl
    | ⟨1, _⟩ => show 32 * b.1 + r.1 = 32 * b.1 + 1 * r.1; omega
    | ⟨2, _⟩ => show d.1 = 0 + 1 * d.1; omega
  · have h0 : (y 0).1 < 1 := (y 0).2
    have h1 : (y 1).1 < 512 := (y 1).2
    refine ⟨_, List.mem_map_of_mem (mem_chunks ⟨(y 1).1 / 32, by omega⟩), (LoadRect.mem_set _).mpr fun a => ?_⟩
    match a with
    | ⟨0, _⟩ => exact ⟨0, Nat.one_pos, show (y 0).1 = 0 + 1 * 0 by omega⟩
    | ⟨1, _⟩ =>
      exact ⟨(y 1).1 % 32, Nat.mod_lt _ (by decide), show (y 1).1 = 32 * ((y 1).1 / 32) + 1 * ((y 1).1 % 32) by omega⟩
    | ⟨2, _⟩ => exact ⟨(y 2).1, (y 2).2, show (y 2).1 = 0 + 1 * (y 2).1 by omega⟩

end Cert.Conv
-- ==== Proof.ConvBlock.lean ====
/- One block of the two convolution branches, as a function of its inputs' blocks. -/
module

public import proofs.«01_k».proof.Proof.ConvRows

@[expose] public section

noncomputable section

namespace Cert.Conv

open Idealize.ShloMosaic Idealize.ShloMosaic.TcCoe
open Cert.Kernel5Ideal Cert.Kernel5Ideal.Gen
open Idealize.ShloMosaic.ValueIdx (shapeCast_1ab_ab_apply)
open scoped BigOperators

/-! ## Whole windows -/

theorem winH_eq (w : Memref sig .tc .vmem S1x32x1024 .bf16) (hw : w.IsWhole) (x : Vec Ideal S1x32x1024 .bf16) :
    winH w hw x = x := by
  funext y
  unfold winH
  rw [Memref.IsWhole.readAt_unread]
  refine congrArg x (funext fun a => Fin.ext ?_)
  match a with
  | ⟨0, _⟩ => show 0 + 1 * (y 0).1 = (y 0).1; omega
  | ⟨1, _⟩ => show 0 + 1 * (y 1).1 = (y 1).1; omega
  | ⟨2, _⟩ => show 0 + 1 * (y 2).1 = (y 2).1; omega

theorem winB_eq (w : Memref sig .tc .vmem S1x512x1024 .bf16) (hw : w.IsWhole) (x : Vec Ideal S1x512x1024 .bf16) :
    winB w hw x = x := by
  funext y
  unfold winB
  rw [Memref.IsWhole.readAt_unread]
  refine congrArg x (funext fun a => Fin.ext ?_)
  match a with
  | ⟨0, _⟩ => show 0 + 1 * (y 0).1 = (y 0).1; omega
  | ⟨1, _⟩ => show 0 + 1 * (y 1).1 = (y 1).1; omega
  | ⟨2, _⟩ => show 0 + 1 * (y 2).1 = (y 2).1; omega

theorem winR_eq (w : Memref sig .tc .vmem S1x1024 .f32) (hw : w.IsWhole) (x : Vec Ideal S1x1024 .f32) : winR w hw x = x := by
  funext y
  unfold winR
  rw [Memref.IsWhole.readAt_unread]
  refine congrArg x (funext fun a => Fin.ext ?_)
  match a with
  | ⟨0, _⟩ => show 0 + 1 * (y 0).1 = (y 0).1; omega
  | ⟨1, _⟩ => show 0 + 1 * (y 1).1 = (y 1).1; omega

/-! ## What the buffers are filled with -/

theorem first_block : ∀ n : Fin 4, (Scalar.cmpi .eq (BitVec.ofNat 32 n.1) 0#32 = 1) ↔ n.1 = 0 := by decide

/-- A plane as a matrix. -/
theorem flat {α : Type} {a b : ℕ} (x : (⟨3, ![1, a, b]⟩ : Shape).Idx → α) (h : (⟨3, ![1, a, b]⟩ : Shape).ShapeCasts ⟨2, ![a, b]⟩)
    (i : Fin a) (j : Fin b) : shapeCast ⟨2, ![a, b]⟩ x h (ix2 i j) = x (ix3 0 i j) := shapeCast_1ab_ab_apply x h i j

theorem select_apply {α : Type} (s : Shape) (b : BitVec 1) (x y : s.Idx → α) (j : s.Idx) :
    Scalar.select b x y j = if b = 1 then x j else y j := by
  unfold Scalar.select
  split <;> rfl

theorem pay2_apply (i : grid0.Coords) (v w : Vec Ideal S1x32x1024 .bf16) (r : Fin 32) (d : Fin 1024) :
    k0_pay2 i v w (ix2 r d) = if (i 1).1 = 0 then 0 else v (ix3 0 r d) * gate (w (ix3 0 r d)) := by
  unfold k0_pay2 gate
  refine (congrFun (shapeCast_self _ _) _).trans ?_
  rw [select_apply]
  refine if_congr (first_block (i 1)) ?_ ?_
  · simp only [pointwise]
  · simp only [pointwise, zero_sub]

theorem pay4_apply (v w : Vec Ideal S1x512x1024 .bf16) (r : Fin 512) (d : Fin 1024) :
    k0_pay4 (k0_pay3 v w) (ix2 r d) = v (ix3 0 r d) * gate (w (ix3 0 r d)) := by
  unfold k0_pay4 k0_pay3 gate
  refine (congrFun (shapeCast_self _ _) _).trans ?_
  simp only [pointwise, zero_sub]

theorem pay5_apply (i : grid0.Coords) (v w : Vec Ideal S1x32x1024 .bf16) (r : Fin 32) (d : Fin 1024) :
    k0_pay5 (Scalar.cmpi .eq (BitVec.ofNat 32 (i 1).val) 0#32) v w (ix2 r d)
      = if (i 1).1 = 0 then 0 else v (ix3 0 r d) * w (ix3 0 r d) := by
  unfold k0_pay5
  refine (congrFun (shapeCast_self _ _) _).trans ?_
  rw [select_apply]
  refine if_congr (first_block (i 1)) ?_ ?_
  · simp only [pointwise]
  · simp only [pointwise]

theorem pay6_apply (v w : Vec Ideal S1x512x1024 .bf16) (r : Fin 512) (d : Fin 1024) :
    k0_pay6 v w (ix2 r d) = v (ix3 0 r d) * w (ix3 0 r d) := by
  unfold k0_pay6
  refine (congrFun (shapeCast_self _ _) _).trans ?_
  simp only [pointwise]

/-- Row `r` of block `q`, and row `r` of the 32 rows before it. -/
def own (q : Fin 4) (r : Fin 512) : Fin 2048 := ⟨512 * q.1 + r.1, by have := q.2; have := r.2; omega⟩
def ahead (q : Fin 4) (r : Fin 32) : Fin 2048 := ⟨512 * q.1 - 32 + r.1, by have := q.2; have := r.2; omega⟩

theorem filled (q : Fin 4) (g : Fin 2048 → Fin 1024 → EReal) (lo : FVec Ideal S32x1024 .f32) (hi : FVec Ideal S512x1024 .f32)
    (hlo : ∀ r d, lo (ix2 r d) = if q.1 = 0 then 0 else g (ahead q r) d) (hhi : ∀ r d, hi (ix2 r d) = g (own q r) d)
    (y : S544x1024.Idx) : View.canon (bufL lo hi) y = src (fun n => g n (y 1)) (512 * q.1 + (y 0).1) := by
  refine canon_bufL lo hi (fun n d => src (fun n => g n d) (512 * q.1 + n)) (fun r d => ?_) (fun r d => ?_) y
  · rw [hlo]
    have hr := r.2
    have hq := q.2
    unfold src ahead
    split
    · rw [dif_neg (by omega)]
    · rw [dif_pos (by omega)]
      exact congrArg (fun n => g n d) (Fin.ext (by show 512 * q.1 - 32 + r.1 = 512 * q.1 + r.1 - 32; omega))
  · rw [hhi]
    have hr := r.2
    have hq := q.2
    unfold src own
    rw [dif_pos (by omega)]
    exact congrArg (fun n => g n d) (Fin.ext (by show 512 * q.1 + r.1 = 512 * q.1 + (32 + r.1) - 32; omega))

/-! ## The blocks -/

variable (i : grid0.Coords) (q : Fin 4) (hq : (i 1).1 = q.1)

include hq

theorem blockA (arg2 : Memref sig .tc .vmem S1x512x1024 .bf16) (harg2 : arg2.IsWhole) (arg3 : Memref sig .tc .vmem S1x512x1024 .bf16) (harg3 : arg3.IsWhole)
    (arg4 : Memref sig .tc .vmem S1x32x1024 .bf16) (harg4 : arg4.IsWhole) (arg5 : Memref sig .tc .vmem S1x32x1024 .bf16) (harg5 : arg5.IsWhole)
    (arg11 : Memref sig .tc .vmem S248x1024 .f32) (harg11 : arg11.IsWhole) (arg12 : Memref sig .tc .vmem S1x1024 .f32) (harg12 : arg12.IsWhole)
    (arg13 : Memref sig .tc .vmem S1x1024 .f32) (harg13 : arg13.IsWhole) (arg14 : Memref sig .tc .vmem S1x1024 .f32) (harg14 : arg14.IsWhole)
    (arg18 : Memref sig .tc .vmem S544x1024 .f32) (arg20 : Memref sig .tc .vmem S7x544x1024 .f32)
    (x0 x1 : Vec Ideal S1x512x1024 .bf16) (x2 x3 : Vec Ideal S1x32x1024 .bf16) (x9 : Vec Ideal S248x1024 .f32) (x10 x11 x12 : Vec Ideal S1x1024 .f32)
    (v w : Fin 2048 → Fin 1024 → EReal) (t : Fin 31 → Fin 1024 → EReal)
    (h0 : ∀ r d, x0 (ix3 0 r d) = v (own q r) d) (h1 : ∀ r d, x1 (ix3 0 r d) = w (own q r) d)
    (h2 : ∀ r d, x2 (ix3 0 r d) = v (ahead q r) d) (h3 : ∀ r d, x3 (ix3 0 r d) = w (ahead q r) d)
    (h9 : ∀ (k : Fin 31) (e : Fin 8) d, x9 (ix2 ⟨8 * k.1 + e.1, by have := k.2; have := e.2; omega⟩ d) = t k d) (y : S1x512x1024.Idx) :
    View.canon (listA i arg2 harg2 arg3 harg3 arg4 harg4 arg5 harg5 arg11 harg11 arg12 harg12 arg13 harg13 arg14 harg14 arg18 arg20 x0 x1 x2 x3 x9 x10 x11 x12) y
      = act (fun p => taps (fun k => t k p) (src fun n => v n p * gate (w n p)) (own q (y 1)).1 + x10 (ix2 0 p))
          (fun p => x11 (ix2 0 p)) (fun p => x12 (ix2 0 p)) (y 2) := by
  unfold listA
  refine canon_outL _ (fun y => act (fun p => taps (fun k => t k p) (src fun n => v n p * gate (w n p)) (own q (y 1)).1 + x10 (ix2 0 p))
          (fun p => x11 (ix2 0 p)) (fun p => x12 (ix2 0 p)) (y 2)) (fun b r d => ?_) y
  have hL : ∀ y, View.canon (gateL i arg2 harg2 arg3 harg3 arg4 harg4 arg5 harg5 x0 x1 x2 x3) y
      = src (fun n => v n (y 1) * gate (w n (y 1))) (512 * q.1 + (y 0).1) := by
    intro y
    unfold gateL
    rw [winH_eq, winH_eq, winB_eq, winB_eq]
    refine filled q (fun n d => v n d * gate (w n d)) _ _ (fun r d => ?_) (fun r d => ?_) y
    · rw [pay2_apply, h2, h3, hq]
    · rw [pay4_apply, h0, h1]
  rw [chunkA_apply, winR_eq, winR_eq, winR_eq]
  refine congrArg (fun f => act f (fun p => x11 (ix2 0 p)) (fun p => x12 (ix2 0 p)) d) (funext fun p => ?_)
  refine (biased_apply _ _ _ t (fun n d => src (fun n => v n d * gate (w n d)) (512 * q.1 + n)) (32 * b.1 + r.1) r p
    (fun k a e => (tap_apply arg11 harg11 x9 k a e p).trans (h9 k e p))
    (fun k => rows_apply arg18 _ arg20 (fun n d => src (fun n => v n d * gate (w n d)) (512 * q.1 + n)) hL _ _ k r p)).trans ?_
  refine congrArg (· + x10 (ix2 0 p)) ?_
  unfold taps own
  simp only [Nat.add_assoc]
  rfl

theorem blockC (arg6 : Memref sig .tc .vmem S1x512x1024 .bf16) (harg6 : arg6.IsWhole) (arg7 : Memref sig .tc .vmem S1x512x1024 .bf16) (harg7 : arg7.IsWhole)
    (arg8 : Memref sig .tc .vmem S1x512x1024 .bf16) (harg8 : arg8.IsWhole)
    (arg9 : Memref sig .tc .vmem S1x32x1024 .bf16) (harg9 : arg9.IsWhole) (arg10 : Memref sig .tc .vmem S1x32x1024 .bf16) (harg10 : arg10.IsWhole)
    (arg15 : Memref sig .tc .vmem S3x1024 .f32) (harg15 : arg15.IsWhole) (arg19 : Memref sig .tc .vmem S544x1024 .f32)
    (x4 x5 x6 : Vec Ideal S1x512x1024 .bf16) (x7 x8 : Vec Ideal S1x32x1024 .bf16) (x13 : Vec Ideal S3x1024 .f32)
    (v w : Fin 2048 → Fin 1024 → EReal)
    (h5 : ∀ r d, x5 (ix3 0 r d) = v (own q r) d) (h6 : ∀ r d, x6 (ix3 0 r d) = w (own q r) d)
    (h7 : ∀ r d, x7 (ix3 0 r d) = v (ahead q r) d) (h8 : ∀ r d, x8 (ix3 0 r d) = w (ahead q r) d) (y : S1x512x1024.Idx) :
    View.canon (listC i arg6 harg6 arg7 harg7 arg8 harg8 arg9 harg9 arg10 harg10 arg15 harg15 arg19 x4 x5 x6 x7 x8 x13) y
      = x4 (ix3 0 (y 1) (y 2)) * taps3 (fun k => x13 (ix2 k (y 2))) (src fun n => v n (y 2) * w n (y 2)) (own q (y 1)).1 := by
  unfold listC
  refine canon_outL _ (fun y => x4 (ix3 0 (y 1) (y 2)) * taps3 (fun k => x13 (ix2 k (y 2))) (src fun n => v n (y 2) * w n (y 2)) (own q (y 1)).1)
    (fun b r d => ?_) y
  have hL : ∀ y, View.canon (prodL i arg7 harg7 arg8 harg8 arg9 harg9 arg10 harg10 x5 x6 x7 x8) y
      = src (fun n => v n (y 1) * w n (y 1)) (512 * q.1 + (y 0).1) := by
    intro y
    unfold prodL
    rw [winH_eq, winH_eq, winB_eq, winB_eq]
    refine filled q (fun n d => v n d * w n d) _ _ (fun r d => ?_) (fun r d => ?_) y
    · rw [pay5_apply, h7, h8, hq]
    · rw [pay6_apply, h5, h6]
  rw [chunkC_apply, Memref.IsWhole.readAt_unread]
  have hP := fun k => prod3_apply arg19 _ (fun n d => src (fun n => v n d * w n d) (512 * q.1 + n)) hL arg15 harg15 x13 (32 * b.1) (rowC b) k r d
  rw [hP, hP, hP]
  refine congrArg₂ (· * ·) (congrArg x4 (funext fun a => Fin.ext ?_)) ?_
  · match a with
    | ⟨0, _⟩ => rfl
    | ⟨1, _⟩ => show 32 * b.1 + 1 * r.1 = 32 * b.1 + r.1; omega
    | ⟨2, _⟩ => show 0 + 1 * d.1 = d.1; omega
  · have e : ∀ k : ℕ, 512 * q.1 + (32 * b.1 + r.1 + (30 + k)) = 512 * q.1 + (32 * b.1 + r.1) + (30 + k) := fun k => by omega
    simp only [e]
    rfl

end Cert.Conv
-- ==== Proof.ConvKernel.lean ====
/- The arrays the two convolution branches write over the whole grid: sixteen sequences times four blocks of 512 rows. -/
module

public import proofs.«01_k».proof.Proof.ConvBlock
public import proofs.«01_k».proof.Proof.Gen.Kernel5Ideal.Value

@[expose] public section

noncomputable section

namespace Cert.Conv

open Idealize.ShloMosaic Idealize.ShloMosaic.TcCoe Idealize.SL.Sem
open Idealize.ShloMosaic.Pipeline (Dat)
open Cert.Kernel5Ideal Cert.Kernel5Ideal.Gen
open scoped BigOperators

/-- Column `d` of the `o`-th run of 1024 columns. -/
def col (o : Fin 20) (d : Fin 1024) : Fin 20480 := ⟨1024 * o.1 + d.1, by have := o.2; have := d.2; omega⟩

/-- A run of 1024 columns of one sequence. -/
def part (U : S16x2048x20480.Idx → EReal) (b : Fin 16) (o : Fin 20) (n : Fin 2048) (d : Fin 1024) : EReal := U (ix3 b n (col o d))

/-- The first branch: the gated rows through the long convolution, its bias, the norm, and the logistic product. -/
def totalA (U : S16x2048x20480.Idx → EReal) (w : S4x31x1024.Idx → EReal) (b g h : S4x1024.Idx → EReal) : S16x2048x1024.Idx → EReal :=
  fun i => act
    (fun p => taps (fun k => w (ix3 0 k p)) (src fun n => part U (i 0) 0 n p * gate (part U (i 0) 1 n p)) (i 1).1 + b (ix2 0 p))
    (fun p => g (ix2 0 p)) (fun p => h (ix2 0 p)) (i 2)

/-- The second branch: a product of columns through the short convolution, times another column. -/
def totalC (U : S16x2048x20480.Idx → EReal) (w : S4x3x1024.Idx → EReal) : S16x2048x1024.Idx → EReal := fun i =>
  part U (i 0) 11 (i 1) (i 2)
    * taps3 (fun k => w (ix3 0 k (i 2))) (src fun n => part U (i 0) 12 n (i 2) * part U (i 0) 13 n (i 2)) (i 1).1

variable (m : (ℓ : Loc nD τ sig) → Buf (Elt Ideal) ℓ)

/-! ## Which blocks a point reads -/

theorem index0 : ∀ t : Fin grid0.N, win0_0.index t = ![t.val / 4, t.val % 4, 0] := by decide +kernel
theorem index1 : ∀ t : Fin grid0.N, win0_1.index t = ![t.val / 4, t.val % 4, 1] := by decide +kernel
theorem index2 : ∀ t : Fin grid0.N, win0_2.index t = ![t.val / 4, 16 * (t.val % 4) - 1, 0] := by decide +kernel
theorem index3 : ∀ t : Fin grid0.N, win0_3.index t = ![t.val / 4, 16 * (t.val % 4) - 1, 1] := by decide +kernel
theorem index4 : ∀ t : Fin grid0.N, win0_4.index t = ![t.val / 4, t.val % 4, 11] := by decide +kernel
theorem index5 : ∀ t : Fin grid0.N, win0_5.index t = ![t.val / 4, t.val % 4, 12] := by decide +kernel
theorem index6 : ∀ t : Fin grid0.N, win0_6.index t = ![t.val / 4, t.val % 4, 13] := by decide +kernel
theorem index7 : ∀ t : Fin grid0.N, win0_7.index t = ![t.val / 4, 16 * (t.val % 4) - 1, 12] := by decide +kernel
theorem index8 : ∀ t : Fin grid0.N, win0_8.index t = ![t.val / 4, 16 * (t.val % 4) - 1, 13] := by decide +kernel
theorem index_whole : ∀ t : Fin grid0.N, win0_9.index t = ![0, 0] ∧ win0_10.index t = ![0, 0] ∧ win0_11.index t = ![0, 0]
    ∧ win0_12.index t = ![0, 0] ∧ win0_13.index t = ![0, 0] := by decide +kernel
theorem index14 : ∀ t : Fin grid0.N, win0_14.index t = ![t.val / 4, t.val % 4, 0] ∧ win0_14.flush t = true := by decide +kernel
theorem index15 : ∀ t : Fin grid0.N, win0_15.index t = ![t.val / 4, t.val % 4, 0] ∧ win0_15.flush t = true := by decide +kernel
theorem coord : ∀ t : Fin grid0.N, ((grid0.coords t) 1).val = t.val % 4 := by decide +kernel

section Blocks

variable (U : S16x2048x20480.Idx → EReal) (t : ℕ) (b : Fin 16) (q : Fin 4) (hb : b.1 = t / 4) (hq : q.1 = t % 4) (o : Fin 20)

include hb hq

/-- A block of 512 rows, by where its window lies. -/
theorem own_block (e : S1x512x1024.Idx → S16x2048x20480.Idx) (n : Fin 3 → ℕ) (hn : n = ![t / 4, t % 4, o.1])
    (he : ∀ y a, (e y a).1 = n a * S1x512x1024.size a + 1 * (y a).1) (r : Fin 512) (d : Fin 1024) :
    U (e (ix3 0 r d)) = part U b o (own q r) d := by
  subst hn
  refine congrArg U (funext fun a => Fin.ext ((he _ a).trans ?_))
  match a with
  | ⟨0, _⟩ => show t / 4 * 1 + 1 * 0 = b.1; omega
  | ⟨1, _⟩ => show t % 4 * 512 + 1 * r.1 = 512 * q.1 + r.1; omega
  | ⟨2, _⟩ => show o.1 * 1024 + 1 * d.1 = 1024 * o.1 + d.1; omega

/-- The 32 rows before a block, by where their window lies. -/
theorem ahead_block (e : S1x32x1024.Idx → S16x2048x20480.Idx) (n : Fin 3 → ℕ) (hn : n = ![t / 4, 16 * (t % 4) - 1, o.1])
    (he : ∀ y a, (e y a).1 = n a * S1x32x1024.size a + 1 * (y a).1) (r : Fin 32) (d : Fin 1024) :
    U (e (ix3 0 r d)) = part U b o (ahead q r) d := by
  subst hn
  refine congrArg U (funext fun a => Fin.ext ((he _ a).trans ?_))
  match a with
  | ⟨0, _⟩ => show t / 4 * 1 + 1 * 0 = b.1; omega
  | ⟨1, _⟩ => show (16 * (t % 4) - 1) * 32 + 1 * r.1 = 512 * q.1 - 32 + r.1; omega
  | ⟨2, _⟩ => show o.1 * 1024 + 1 * d.1 = 1024 * o.1 + d.1; omega

end Blocks

/-- A window over a whole matrix. -/
theorem whole_block {n0 n1 : ℕ} (x : (⟨2, ![n0, n1]⟩ : Shape).Idx → EReal) (e : (⟨2, ![n0, n1]⟩ : Shape).Idx → (⟨2, ![n0, n1]⟩ : Shape).Idx)
    (n : Fin 2 → ℕ) (hn : n = ![0, 0]) (he : ∀ y a, (e y a).1 = n a * (⟨2, ![n0, n1]⟩ : Shape).size a + 1 * (y a).1)
    (y : (⟨2, ![n0, n1]⟩ : Shape).Idx) : x (e y) = x y := by
  subst hn
  refine congrArg x (funext fun a => Fin.ext ((he _ a).trans ?_))
  match a with
  | ⟨0, _⟩ => show 0 * n0 + 1 * (y 0).1 = (y 0).1; omega
  | ⟨1, _⟩ => show 0 * n1 + 1 * (y 1).1 = (y 1).1; omega

/-- Where an output's block lies. -/
theorem out_block (t : ℕ) (b : Fin 16) (q : Fin 4) (hb : b.1 = t / 4) (hq : q.1 = t % 4) (e : S1x512x1024.Idx → S16x2048x1024.Idx)
    (n : Fin 3 → ℕ) (hn : n = ![t / 4, t % 4, 0]) (he : ∀ y a, (e y a).1 = n a * S1x512x1024.size a + 1 * (y a).1) (y : S1x512x1024.Idx) :
    e y = (ix3 b (own q (y 1)) (y 2) : S16x2048x1024.Idx) := by
  subst hn
  have y0 : (y 0).1 < 1 := (y 0).2
  refine funext fun a => Fin.ext ((he _ a).trans ?_)
  match a with
  | ⟨0, _⟩ => show t / 4 * 1 + 1 * (y 0).1 = b.1; omega
  | ⟨1, _⟩ => show t % 4 * 512 + 1 * (y 1).1 = 512 * q.1 + (y 1).1; omega
  | ⟨2, _⟩ => show 0 * 1024 + 1 * (y 2).1 = (y 2).1; omega

/-! ## What the host operations before the call make of the taps and vectors -/

variable (c : Dev nD)

/-- The first layer's row of a per-layer vector, laid out as the call takes it. -/
theorem first_row (x : Vec Ideal S4x1024 .f32) (p : Fin 1024) :
    shapeCast S1x1024 (shapeCast S1024 (extractStridedSlice S1x1024 ![0, 0] x slices_S4x1024_S1x1024_0_0) shapeCasts_S1x1024_S1024)
        shapeCasts_S1024_S1x1024 (ix2 0 p) = x (ix2 0 p) := by
  rw [shapeCast_apply _ shapeCasts_S1024_S1x1024 (ix2 0 p) (ix1 p) (by
      rewrite [Shape.rowMajor_val_one, Shape.rowMajor_val_two]; show p.val = 0 * 1024 + p.val; omega),
    shapeCast_apply _ shapeCasts_S1x1024_S1024 (ix1 p) (ix2 0 p) (by
      rewrite [Shape.rowMajor_val_one, Shape.rowMajor_val_two]; show 0 * 1024 + p.val = p.val; omega)]
  exact extractStridedSlice_apply ![0, 0] x slices_S4x1024_S1x1024_0_0 (ix2 0 p) (ix2 0 p) (fun a => match a with
    | ⟨0, _⟩ => rfl
    | ⟨1, _⟩ => (Nat.zero_add _).symm)

theorem V_bias (p : Fin 1024) : (V m c main_v12 : S1x1024.Idx → EReal) (ix2 0 p) = (m (c, main_arg2) : S4x1024.Idx → EReal) (ix2 0 p) := by
  refine Eq.trans (congrFun ?_ _) (first_row (m (c, main_arg2)) p)
  show StableHlo.after hostOps0 (fun b => m (c, b)) _ = _
  after_results <;> rfl

theorem V_gain (p : Fin 1024) : (V m c main_v13 : S1x1024.Idx → EReal) (ix2 0 p) = (m (c, main_arg3) : S4x1024.Idx → EReal) (ix2 0 p) := by
  refine Eq.trans (congrFun ?_ _) (first_row (m (c, main_arg3)) p)
  show StableHlo.after hostOps0 (fun b => m (c, b)) _ = _
  after_results <;> rfl

theorem V_shift (p : Fin 1024) : (V m c main_v14 : S1x1024.Idx → EReal) (ix2 0 p) = (m (c, main_arg4) : S4x1024.Idx → EReal) (ix2 0 p) := by
  refine Eq.trans (congrFun ?_ _) (first_row (m (c, main_arg4)) p)
  show StableHlo.after hostOps0 (fun b => m (c, b)) _ = _
  after_results <;> rfl

/-- The first layer of per-layer taps, as a matrix. -/
theorem first_layer {n : ℕ} (x : (⟨3, ![4, n, 1024]⟩ : Shape).Idx → EReal) (hs : (⟨3, ![4, n, 1024]⟩ : Shape).Slices ![0, 0, 0] ⟨3, ![1, n, 1024]⟩)
    (hc : (⟨3, ![1, n, 1024]⟩ : Shape).ShapeCasts ⟨2, ![n, 1024]⟩) (k : Fin n) (p : Fin 1024) :
    shapeCast ⟨2, ![n, 1024]⟩ (extractStridedSlice ⟨3, ![1, n, 1024]⟩ ![0, 0, 0] x hs) hc (ix2 k p) = x (ix3 0 k p) :=
  (flat _ _ _ _).trans (extractStridedSlice_apply ![0, 0, 0] x hs (ix3 0 k p) (ix3 0 k p) (fun a => match a with
    | ⟨0, _⟩ => rfl
    | ⟨1, _⟩ => (Nat.zero_add _).symm
    | ⟨2, _⟩ => (Nat.zero_add _).symm))

theorem V_taps (k : Fin 31) (e : Fin 8) (p : Fin 1024) :
    (V m c main_v11 : S248x1024.Idx → EReal) (ix2 ⟨8 * k.1 + e.1, by have := k.2; have := e.2; omega⟩ p)
      = (m (c, main_arg1) : S4x31x1024.Idx → EReal) (ix3 0 k p) := by
  have h : (V m c main_v11 : S248x1024.Idx → EReal) = shapeCast S248x1024 (broadcastInDim S31x8x1024 ![0, 2] bcast_S31x1024_S31x8x1024_0_2
      (shapeCast S31x1024 (extractStridedSlice S1x31x1024 ![0, 0, 0] (m (c, main_arg1) : S4x31x1024.Idx → EReal) slices_S4x31x1024_S1x31x1024_0_0_0)
        shapeCasts_S1x31x1024_S31x1024)) shapeCasts_S31x8x1024_S248x1024 := by
    show StableHlo.after hostOps0 (fun b => m (c, b)) _ = _
    after_results <;> rfl
  rw [h, shapeCast_apply _ shapeCasts_S31x8x1024_S248x1024 _ (ix3 k e p) (by
    rewrite [Shape.rowMajor_val_three, Shape.rowMajor_val_two]
    show (k.1 * 8 + e.1) * 1024 + p.1 = (8 * k.1 + e.1) * 1024 + p.1
    omega)]
  refine Eq.trans ?_ (first_layer (m (c, main_arg1) : S4x31x1024.Idx → EReal) slices_S4x31x1024_S1x31x1024_0_0_0 shapeCasts_S1x31x1024_S31x1024 k p)
  unfold broadcastInDim
  refine congrArg _ (funext fun a => Fin.ext ?_)
  match a with
  | ⟨0, _⟩ => rfl
  | ⟨1, _⟩ => rfl

theorem V_short (k : Fin 3) (p : Fin 1024) :
    (V m c main_v9 : S3x1024.Idx → EReal) (ix2 k p) = (m (c, main_arg5) : S4x3x1024.Idx → EReal) (ix3 0 k p) := by
  refine Eq.trans (congrFun ?_ _) (first_layer (m (c, main_arg5) : S4x3x1024.Idx → EReal) slices_S4x3x1024_S1x3x1024_0_0_0 shapeCasts_S1x3x1024_S3x1024 k p)
  show StableHlo.after hostOps0 (fun b => m (c, b)) _ = _
  after_results <;> rfl

/-! ## The blocks of the results -/

variable (t : Fin cfg0.N) (b : Fin 16) (q : Fin 4) (hb : b.1 = t.1 / 4) (hq : q.1 = t.1 % 4)

section Windows

include hb hq

theorem win0 (r : Fin 512) (d : Fin 1024) :
    (iblk m c 0 t : Vec Ideal S1x512x1024 .bf16) (ix3 0 r d) = part (m (c, main_arg0)) b 0 (own q r) d := by
  show V m c main_arg0 (((cfg0.win 0).blk t).view.emb _) = _
  rw [V_main_arg0]
  exact own_block _ t.1 b q hb hq 0 _ _ (index0 t) (fun _ _ => rfl) r d

theorem win1 (r : Fin 512) (d : Fin 1024) :
    (iblk m c 1 t : Vec Ideal S1x512x1024 .bf16) (ix3 0 r d) = part (m (c, main_arg0)) b 1 (own q r) d := by
  show V m c main_arg0 (((cfg0.win 1).blk t).view.emb _) = _
  rw [V_main_arg0]
  exact own_block _ t.1 b q hb hq 1 _ _ (index1 t) (fun _ _ => rfl) r d

theorem win2 (r : Fin 32) (d : Fin 1024) :
    (iblk m c 2 t : Vec Ideal S1x32x1024 .bf16) (ix3 0 r d) = part (m (c, main_arg0)) b 0 (ahead q r) d := by
  show V m c main_arg0 (((cfg0.win 2).blk t).view.emb _) = _
  rw [V_main_arg0]
  exact ahead_block _ t.1 b q hb hq 0 _ _ (index2 t) (fun _ _ => rfl) r d

theorem win3 (r : Fin 32) (d : Fin 1024) :
    (iblk m c 3 t : Vec Ideal S1x32x1024 .bf16) (ix3 0 r d) = part (m (c, main_arg0)) b 1 (ahead q r) d := by
  show V m c main_arg0 (((cfg0.win 3).blk t).view.emb _) = _
  rw [V_main_arg0]
  exact ahead_block _ t.1 b q hb hq 1 _ _ (index3 t) (fun _ _ => rfl) r d

theorem win4 (r : Fin 512) (d : Fin 1024) :
    (iblk m c 4 t : Vec Ideal S1x512x1024 .bf16) (ix3 0 r d) = part (m (c, main_arg0)) b 11 (own q r) d := by
  show V m c main_arg0 (((cfg0.win 4).blk t).view.emb _) = _
  rw [V_main_arg0]
  exact own_block _ t.1 b q hb hq 11 _ _ (index4 t) (fun _ _ => rfl) r d

theorem win5 (r : Fin 512) (d : Fin 1024) :
    (iblk m c 5 t : Vec Ideal S1x512x1024 .bf16) (ix3 0 r d) = part (m (c, main_arg0)) b 12 (own q r) d := by
  show V m c main_arg0 (((cfg0.win 5).blk t).view.emb _) = _
  rw [V_main_arg0]
  exact own_block _ t.1 b q hb hq 12 _ _ (index5 t) (fun _ _ => rfl) r d

theorem win6 (r : Fin 512) (d : Fin 1024) :
    (iblk m c 6 t : Vec Ideal S1x512x1024 .bf16) (ix3 0 r d) = part (m (c, main_arg0)) b 13 (own q r) d := by
  show V m c main_arg0 (((cfg0.win 6).blk t).view.emb _) = _
  rw [V_main_arg0]
  exact own_block _ t.1 b q hb hq 13 _ _ (index6 t) (fun _ _ => rfl) r d

theorem win7 (r : Fin 32) (d : Fin 1024) :
    (iblk m c 7 t : Vec Ideal S1x32x1024 .bf16) (ix3 0 r d) = part (m (c, main_arg0)) b 12 (ahead q r) d := by
  show V m c main_arg0 (((cfg0.win 7).blk t).view.emb _) = _
  rw [V_main_arg0]
  exact ahead_block _ t.1 b q hb hq 12 _ _ (index7 t) (fun _ _ => rfl) r d

theorem win8 (r : Fin 32) (d : Fin 1024) :
    (iblk m c 8 t : Vec Ideal S1x32x1024 .bf16) (ix3 0 r d) = part (m (c, main_arg0)) b 13 (ahead q r) d := by
  show V m c main_arg0 (((cfg0.win 8).blk t).view.emb _) = _
  rw [V_main_arg0]
  exact ahead_block _ t.1 b q hb hq 13 _ _ (index8 t) (fun _ _ => rfl) r d

end Windows

theorem win9 (y : S248x1024.Idx) : (iblk m c 9 t : Vec Ideal S248x1024 .f32) y = (V m c main_v11 : S248x1024.Idx → EReal) y :=
  whole_block (V m c main_v11) (fun y => ((cfg0.win 9).blk t).view.emb y) _ (index_whole t).1 (fun _ _ => rfl) y

theorem win10 (y : S1x1024.Idx) : (iblk m c 10 t : Vec Ideal S1x1024 .f32) y = (V m c main_v12 : S1x1024.Idx → EReal) y :=
  whole_block (V m c main_v12) (fun y => ((cfg0.win 10).blk t).view.emb y) _ (index_whole t).2.1 (fun _ _ => rfl) y

theorem win11 (y : S1x1024.Idx) : (iblk m c 11 t : Vec Ideal S1x1024 .f32) y = (V m c main_v13 : S1x1024.Idx → EReal) y :=
  whole_block (V m c main_v13) (fun y => ((cfg0.win 11).blk t).view.emb y) _ (index_whole t).2.2.1 (fun _ _ => rfl) y

theorem win12 (y : S1x1024.Idx) : (iblk m c 12 t : Vec Ideal S1x1024 .f32) y = (V m c main_v14 : S1x1024.Idx → EReal) y :=
  whole_block (V m c main_v14) (fun y => ((cfg0.win 12).blk t).view.emb y) _ (index_whole t).2.2.2.1 (fun _ _ => rfl) y

theorem win13 (y : S3x1024.Idx) : (iblk m c 13 t : Vec Ideal S3x1024 .f32) y = (V m c main_v9 : S3x1024.Idx → EReal) y :=
  whole_block (V m c main_v9) (fun y => ((cfg0.win 13).blk t).view.emb y) _ (index_whole t).2.2.2.2 (fun _ _ => rfl) y

theorem block_a (y : S1x512x1024.Idx) : (outsAt0 m c t).1 y
    = totalA (m (c, main_arg0)) (m (c, main_arg1)) (m (c, main_arg2)) (m (c, main_arg3)) (m (c, main_arg4)) (((cfg0.win 14).blk t).view.emb y) := by
  have ht : t.val < 64 := t.isLt.trans_eq N_0
  have hb : (⟨t.1 / 4, by omega⟩ : Fin 16).1 = t.1 / 4 := rfl
  have hq : (⟨t.1 % 4, by omega⟩ : Fin 4).1 = t.1 % 4 := rfl
  generalize (⟨t.1 / 4, by omega⟩ : Fin 16) = b at hb
  generalize (⟨t.1 % 4, by omega⟩ : Fin 4) = q at hq
  rw [out_block t.1 b q hb hq (fun y => ((cfg0.win 14).blk t).view.emb y) _ (index14 t).1 (fun _ _ => rfl) y]
  unfold outsAt0
  dsimp only
  rw [out14_eq]
  refine (blockA (grid0.coords t) q ((coord t).trans hq.symm)
    (v := part (m (c, main_arg0)) b 0) (w := part (m (c, main_arg0)) b 1) (t := fun k p => (m (c, main_arg1) : S4x31x1024.Idx → EReal) (ix3 0 k p))
    (h0 := win0 m c t b q hb hq) (h1 := win1 m c t b q hb hq) (h2 := win2 m c t b q hb hq) (h3 := win3 m c t b q hb hq)
    (h9 := fun k e d => (win9 m c t _).trans (V_taps m c k e d)) (y := y) ..).trans ?_
  have h10 := fun p => (win10 m c t (ix2 0 p)).trans (V_bias m c p)
  have h11 := fun p => (win11 m c t (ix2 0 p)).trans (V_gain m c p)
  have h12 := fun p => (win12 m c t (ix2 0 p)).trans (V_shift m c p)
  simp only [h10, h11, h12]
  rfl

theorem block_c (y : S1x512x1024.Idx) : (outsAt0 m c t).2 y
    = totalC (m (c, main_arg0)) (m (c, main_arg5)) (((cfg0.win 15).blk t).view.emb y) := by
  have ht : t.val < 64 := t.isLt.trans_eq N_0
  have hb : (⟨t.1 / 4, by omega⟩ : Fin 16).1 = t.1 / 4 := rfl
  have hq : (⟨t.1 % 4, by omega⟩ : Fin 4).1 = t.1 % 4 := rfl
  generalize (⟨t.1 / 4, by omega⟩ : Fin 16) = b at hb
  generalize (⟨t.1 % 4, by omega⟩ : Fin 4) = q at hq
  rw [out_block t.1 b q hb hq (fun y => ((cfg0.win 15).blk t).view.emb y) _ (index15 t).1 (fun _ _ => rfl) y]
  unfold outsAt0
  dsimp only
  rw [out15_eq]
  refine (blockC (grid0.coords t) q ((coord t).trans hq.symm)
    (v := part (m (c, main_arg0)) b 12) (w := part (m (c, main_arg0)) b 13)
    (h5 := win5 m c t b q hb hq) (h6 := win6 m c t b q hb hq) (h7 := win7 m c t b q hb hq) (h8 := win8 m c t b q hb hq) (y := y) ..).trans ?_
  have h13 := fun k => (win13 m c t (ix2 k (y 2))).trans (V_short m c k (y 2))
  exact congrArg₂ (· * ·) (win4 m c t b q hb hq (y 1) (y 2)) (congrArg (fun w => taps3 w _ _) (funext h13))

/-! ## The arrays -/

theorem at_point (i : S16x2048x1024.Idx) : ∃ (t : Fin cfg0.N) (y : S1x512x1024.Idx), ∀ (b : Fin 16) (q : Fin 4), b.1 = t.1 / 4 → q.1 = t.1 % 4 →
    (ix3 b (own q (y 1)) (y 2) : S16x2048x1024.Idx) = i := by
  have h0 : (i 0).1 < 16 := (i 0).2
  have h1 : (i 1).1 < 2048 := (i 1).2
  have hl : 4 * (i 0).1 + (i 1).1 / 512 < cfg0.N := by rw [show cfg0.N = 64 from N_0]; omega
  refine ⟨⟨4 * (i 0).1 + (i 1).1 / 512, hl⟩, ix3 0 ⟨(i 1).1 % 512, by omega⟩ (i 2), fun b q hb hq => ?_⟩
  dsimp only at hb hq
  refine Eq.trans ?_ (eq_ix3 (n0 := 16) (n1 := 2048) (n2 := 1024) i).symm
  have eb : b = i 0 := Fin.ext (by show b.1 = (i 0).1; omega)
  have eq : own q ⟨(i 1).1 % 512, by omega⟩ = i 1 := Fin.ext (by show 512 * q.1 + (i 1).1 % 512 = (i 1).1; omega)
  subst eb
  exact congrArg (fun n => (ix3 (i 0) n (i 2) : S16x2048x1024.Idx)) eq

theorem covered14 (i : S16x2048x1024.Idx) : ∃ t : Fin cfg0.N, (cfg0.win 14).flush t = true ∧ i ∈ ((cfg0.win 14).blk t).view.set := by
  obtain ⟨t, y, h⟩ := at_point i
  have ht : t.val < 64 := t.isLt.trans_eq N_0
  refine ⟨t, (index14 t).2, Finset.mem_map.mpr ⟨y, Finset.mem_univ _, ?_⟩⟩
  exact (out_block t.1 ⟨t.1 / 4, by omega⟩ ⟨t.1 % 4, by omega⟩ rfl rfl (fun y => ((cfg0.win 14).blk t).view.emb y) _ (index14 t).1
    (fun _ _ => rfl) y).trans (h _ _ rfl rfl)

theorem covered15 (i : S16x2048x1024.Idx) : ∃ t : Fin cfg0.N, (cfg0.win 15).flush t = true ∧ i ∈ ((cfg0.win 15).blk t).view.set := by
  obtain ⟨t, y, h⟩ := at_point i
  have ht : t.val < 64 := t.isLt.trans_eq N_0
  refine ⟨t, (index15 t).2, Finset.mem_map.mpr ⟨y, Finset.mem_univ _, ?_⟩⟩
  exact (out_block t.1 ⟨t.1 / 4, by omega⟩ ⟨t.1 % 4, by omega⟩ rfl rfl (fun y => ((cfg0.win 15).blk t).view.emb y) _ (index15 t).1
    (fun _ _ => rfl) y).trans (h _ _ rfl rfl)

theorem final_a : (dats m 0 c).arrAt 14 cfg0.N
    = totalA (m (c, main_arg0)) (m (c, main_arg1)) (m (c, main_arg2)) (m (c, main_arg3)) (m (c, main_arg4)) := by
  refine (dats m 0 c).arrAt_eq_of_cover 14 _ (fun t _ => ?_) covered14
  rw [Value.flushed14]
  funext y
  exact block_a m c t y

theorem final_c : (dats m 0 c).arrAt 15 cfg0.N = totalC (m (c, main_arg0)) (m (c, main_arg5)) := by
  refine (dats m 0 c).arrAt_eq_of_cover 15 _ (fun t _ => ?_) covered15
  rw [Value.flushed15]
  funext y
  exact block_c m c t y

end Cert.Conv
-- ==== Proof.ConvRef.lean ====
/- The reference of the two convolution branches, and the equality of the call and the reference. -/
module

public import proofs.«01_k».proof.Defs
public import proofs.«01_k».proof.Proof.ConvKernel
public import proofs.«01_k».proof.Proof.Gen.Reference5Ideal.Read
public import Idealize.ShloMosaic.Lib.KernelVsHost

@[expose] public section

noncomputable section

namespace Cert.Conv

open Idealize.ShloMosaic Idealize.ShloMosaic.TcCoe Idealize.SL.Sem
open scoped BigOperators

section Ref

open Cert.Reference5Ideal Cert.Reference5Ideal.Gen Cert.Reference5Ideal.Read

/-! ## One tap -/

/-- A sequence with `p` rows of zeros ahead. -/
theorem pad_at (p L : ℕ) (hL : L = 2048 + p) (hp : p ≤ 32) (g : S16x2048x1024.Idx → EReal) (z : S_.Idx → EReal) (hz : ∀ j, z j = 0)
    (h : S16x2048x1024.Pads ![0, p, 0] ![0, 0, 0] ![0, 0, 0] ⟨3, ![16, L, 1024]⟩) (hu : 0 < S_.numel) (b : Fin 16) (n : Fin L) (d : Fin 1024) :
    pad ⟨3, ![16, L, 1024]⟩ ![0, p, 0] ![0, 0, 0] ![0, 0, 0] g z h hu (ix3 b n d) = src (fun r => g (ix3 b r d)) (n.1 + 32 - p) := by
  have hn := n.2
  unfold src
  by_cases hlt : n.1 < p
  · rw [dif_neg (by omega)]
    refine (pad_apply_of_not_inside _ _ _ g z h hu _ (1 : Fin 3) (fun hin => ?_)).trans (hz _)
    have e : p ≤ n.1 := hin.1
    omega
  · rw [dif_pos (by omega)]
    refine pad_apply_of_inside _ _ _ g z h hu _ (ix3 b (⟨n.1 + 32 - p - 32, by omega⟩ : Fin 2048) d) (fun a => ?_)
    match a with
    | ⟨0, _⟩ => show b.1 = 0 + b.1 * (0 + 1); omega
    | ⟨1, _⟩ => show n.1 = p + (n.1 + 32 - p - 32) * (0 + 1); omega
    | ⟨2, _⟩ => show d.1 = 0 + d.1 * (0 + 1); omega

/-- Tap `k` times the padded rows from row `k` on. -/
def tapped {K L : ℕ} (w : FVec Ideal ⟨2, ![K, 1024]⟩ .f32) (P : FVec Ideal ⟨3, ![16, L, 1024]⟩ .f32) (k : ℕ)
    (h1 : (⟨2, ![K, 1024]⟩ : Shape).Slices ![k, 0] S1x1024) (h2 : (⟨3, ![16, L, 1024]⟩ : Shape).Slices ![0, k, 0] S16x2048x1024) :
    FVec Ideal S16x2048x1024 .f32 :=
  mulf (broadcastInDim S16x2048x1024 ![0, 1, 2] bcast_S1x1x1024_S16x2048x1024_0_1_2
      (broadcastInDim S1x1x1024 ![2] bcast_S1024_S1x1x1024_2
        (shapeCast S1024 (extractStridedSlice S1x1024 ![k, 0] w h1) shapeCasts_S1x1024_S1024)))
    (extractStridedSlice S16x2048x1024 ![0, k, 0] P h2)

theorem tapped_apply {K L : ℕ} (w : FVec Ideal ⟨2, ![K, 1024]⟩ .f32) (P : FVec Ideal ⟨3, ![16, L, 1024]⟩ .f32) (k : Fin K) (hL : 2048 + k.1 ≤ L)
    (h1 : (⟨2, ![K, 1024]⟩ : Shape).Slices ![k.1, 0] S1x1024) (h2 : (⟨3, ![16, L, 1024]⟩ : Shape).Slices ![0, k.1, 0] S16x2048x1024)
    (b : Fin 16) (r : Fin 2048) (d : Fin 1024) :
    tapped w P k.1 h1 h2 (ix3 b r d) = w (ix2 k d) * P (ix3 b ⟨r.1 + k.1, by have := r.2; omega⟩ d) := by
  unfold tapped
  refine congrArg₂ (· * ·) ?_ ?_
  · rw [broadcastInDim_apply _ _ _ (ix3 b r d) (ix3 0 0 d) (fun a => match a with
        | ⟨0, _⟩ => rfl
        | ⟨1, _⟩ => rfl
        | ⟨2, _⟩ => rfl),
      broadcastInDim_apply _ _ _ (ix3 0 0 d) (ix1 d) (fun a => match a with
        | ⟨0, _⟩ => rfl),
      shapeCast_apply _ shapeCasts_S1x1024_S1024 (ix1 d) (ix2 0 d) (by
        rewrite [Shape.rowMajor_val_one, Shape.rowMajor_val_two]; show 0 * 1024 + d.val = d.val; omega)]
    exact extractStridedSlice_apply ![k.1, 0] w h1 (ix2 0 d) (ix2 k d) (fun a => match a with
      | ⟨0, _⟩ => rfl
      | ⟨1, _⟩ => (Nat.zero_add _).symm)
  · exact extractStridedSlice_apply ![0, k.1, 0] P h2 (ix3 b r d) (ix3 b ⟨r.1 + k.1, by have := r.2; omega⟩ d) (fun a => match a with
      | ⟨0, _⟩ => (Nat.zero_add _).symm
      | ⟨1, _⟩ => Nat.add_comm _ _
      | ⟨2, _⟩ => (Nat.zero_add _).symm)

theorem slice_row : ∀ k : Fin 31, S31x1024.Slices ![k.1, 0] S1x1024 := by decide
theorem slice_rows : ∀ k : Fin 31, S16x2078x1024.Slices ![0, k.1, 0] S16x2048x1024 := by decide

theorem fold_at {s : Shape} (T : Fin 31 → FVec Ideal s .f32) (g : Fin 31 → EReal) (j : s.Idx) (hg : ∀ k, T k j = g k) :
    ∀ (l : List (Fin 31)) (acc : FVec Ideal s .f32) (z : EReal), acc j = z →
      l.foldl (fun acc k => addf acc (T k)) acc j = l.foldl (fun acc k => acc + g k) z
  | [], _, _, h => h
  | k :: l, acc, z, h => by
    refine fold_at T g j hg l _ _ ?_
    show acc j + T k j = z + g k
    rw [h, hg]

variable (x0 : Vec Ideal S16x2048x20480 .bf16) (x1 : Vec Ideal S4x31x1024 .f32) (x2 x3 x4 : Vec Ideal S4x1024 .f32) (x5 : Vec Ideal S4x3x1024 .f32)

/-! ## The long convolution -/

theorem ref_fold : val_main_v230 (F := Ideal) x0 x1
    = ks.foldl (fun acc k => addf acc (tapped (val_main_v11 (F := Ideal) x1) (val_main_v12 (F := Ideal) x0) k.1 (slice_row k) (slice_rows k)))
        (val_main_v19 (F := Ideal)) := by
  sl_kernel_rfl

theorem ref_gated (b : Fin 16) (n : Fin 2048) (d : Fin 1024) :
    val_main_v9 (F := Ideal) x0 (ix3 b n d) = part x0 b 0 n d * gate (part x0 b 1 n d) := by
  have h1 : val_main_v1 (F := Ideal) x0 (ix3 b n d) = part x0 b 0 n d := by
    rw [val_main_v1_apply, val_main_v0_apply]
    exact congrArg x0 (funext fun a => Fin.ext (by
      match a with
      | ⟨0, _⟩ => rfl
      | ⟨1, _⟩ => rfl
      | ⟨2, _⟩ => show d.1 = 1024 * 0 + d.1; omega))
  have h2 : val_main_v2 (F := Ideal) x0 (ix3 b n d) = part x0 b 1 n d := by
    rw [val_main_v2_apply, val_main_v0_apply]
    exact congrArg x0 (funext fun a => Fin.ext (by
      match a with
      | ⟨0, _⟩ => rfl
      | ⟨1, _⟩ => rfl
      | ⟨2, _⟩ => show 1024 + d.1 = 1024 * 1 + d.1; omega))
  rw [val_main_v9_apply, val_main_v8_apply, val_main_v7_apply, val_main_cst_0_apply, val_main_v6_apply, val_main_v5_apply, val_main_cst_apply,
    val_main_v4_apply, val_main_v3_apply, h1, h2]
  unfold gate
  simp only [pointwise]

/-- A row of the reference after the long convolution and its bias. -/
def refRow (b : Fin 16) (r : Fin 2048) (p : Fin 1024) : EReal :=
  taps (fun k => x1 (ix3 0 k p)) (src fun n => part x0 b 0 n p * gate (part x0 b 1 n p)) r.1 + x2 (ix2 0 p)

theorem ref_taps (b : Fin 16) (r : Fin 2048) (d : Fin 1024) : val_main_v230 (F := Ideal) x0 x1 (ix3 b r d)
    = taps (fun k => x1 (ix3 0 k d)) (src fun n => part x0 b 0 n d * gate (part x0 b 1 n d)) r.1 := by
  have hr := r.2
  rw [ref_fold]
  unfold taps
  refine fold_at _ (fun k => x1 (ix3 0 k d) * src (fun n => part x0 b 0 n d * gate (part x0 b 1 n d)) (r.1 + 2 + k.1)) _ (fun k => ?_) ks _ _ ?_
  · have hk := k.2
    rw [tapped_apply _ _ k (by omega)]
    refine congrArg₂ (· * ·) (first_layer x1 _ _ k d) ?_
    refine (pad_at 30 2078 rfl (by decide) _ _ (fun j => ?_) _ _ b ⟨r.1 + k.1, by omega⟩ d).trans ?_
    · exact sitofp_zero (φ := .f32)
    · refine congrArg₂ src (funext fun n => ref_gated x0 b n d) ?_
      show r.1 + k.1 + 32 - 30 = r.1 + 2 + k.1
      omega
  · rw [val_main_v19_apply, val_main_cst_1_apply]
    exact Ideal.ofBits_zero_f32

theorem ref_row (b : Fin 16) (r : Fin 2048) (d : Fin 1024) : val_main_v235 (F := Ideal) x0 x1 x2 (ix3 b r d) = refRow x0 x1 x2 b r d := by
  have hd := d.isLt
  rw [val_main_v235_apply, ref_taps, val_main_v234_apply, val_main_v233_apply, val_main_v232_apply, val_main_v231_apply]
  refine congrArg (_ + ·) (congrArg x2 (funext fun a => Fin.ext (by
    match a with
    | ⟨0, _⟩ => rfl
    | ⟨1, _⟩ => show d.val % 1024 = d.val; omega)))

theorem ref_mean (b : Fin 16) (r : Fin 2048) : val_main_v239 (F := Ideal) x0 x1 x2 (ix3 b r 0) = mean (refRow x0 x1 x2 b r) := by
  rw [val_main_v239_apply, val_main_v238_apply, val_main_cst_3_apply, val_main_v237_apply, val_main_v236_apply, val_main_cst_2_apply]
  unfold mean
  refine congrArg (Ideal.div · _) ?_
  refine (congrArg (· + _) Ideal.ofBits_zero_f32).trans ((zero_add _).trans (Finset.sum_congr rfl fun q _ => ?_))
  exact (congrArg (val_main_v235 (F := Ideal) x0 x1 x2) (eq_ix3 _)).trans (ref_row x0 x1 x2 b r q)

theorem ref_centered (b : Fin 16) (r : Fin 2048) (d : Fin 1024) :
    val_main_v241 (F := Ideal) x0 x1 x2 (ix3 b r d) = centered (refRow x0 x1 x2 b r) d := by
  have h : idx_main_v240 (ix3 b r d) = ix3 b r 0 := funext fun a => match a with
    | ⟨0, _⟩ => rfl
    | ⟨1, _⟩ => rfl
    | ⟨2, _⟩ => rfl
  rw [val_main_v241_apply, val_main_v240_apply, ref_row, h, ref_mean]
  rfl

theorem ref_spread (b : Fin 16) (r : Fin 2048) : val_main_v249 (F := Ideal) x0 x1 x2 (ix3 b r 0) = spread (refRow x0 x1 x2 b r) := by
  rw [val_main_v249_apply, val_main_v248_apply, val_main_v247_apply, val_main_cst_6_apply, val_main_v246_apply, val_main_v245_apply, val_main_cst_5_apply,
    val_main_v244_apply, val_main_v243_apply, val_main_cst_4_apply]
  unfold spread mean
  refine congrArg (fun z => Ideal.rsqrt (Ideal.div z _ + _)) ?_
  refine (congrArg (· + _) Ideal.ofBits_zero_f32).trans ((zero_add _).trans (Finset.sum_congr rfl fun q _ => ?_))
  rw [val_main_v242_apply]
  have h : val_main_v241 (F := Ideal) x0 x1 x2 (idx_main_v243 (idx_main_v244 (ix3 b r 0)) q) = centered (refRow x0 x1 x2 b r) q :=
    (congrArg (val_main_v241 (F := Ideal) x0 x1 x2) (eq_ix3 _)).trans (ref_centered x0 x1 x2 b r q)
  rw [h]
  rfl

theorem ref_norm (b : Fin 16) (r : Fin 2048) (d : Fin 1024) : val_main_v261 (F := Ideal) x0 x1 x2 x3 x4 (ix3 b r d)
    = norm (refRow x0 x1 x2 b r) (fun p => x3 (ix2 0 p)) (fun p => x4 (ix2 0 p)) d := by
  have hd := d.isLt
  rw [val_main_v261_apply, val_main_v260_apply, val_main_v259_apply, val_main_v258_apply, val_main_v257_apply, val_main_v256_apply, val_main_v255_apply,
    val_main_v254_apply, val_main_v253_apply, val_main_v252_apply, val_main_v251_apply, val_main_v250_apply, ref_centered]
  have hs : val_main_v249 (F := Ideal) x0 x1 x2 (idx_main_v250 (ix3 b r d)) = spread (refRow x0 x1 x2 b r) :=
    (congrArg (val_main_v249 (F := Ideal) x0 x1 x2) (eq_ix3 _)).trans (ref_spread x0 x1 x2 b r)
  have hg : x3 (idx_main_v252 (idx_main_v253 (idx_main_v254 (idx_main_v255 (ix3 b r d))))) = x3 (ix2 0 d) := congrArg x3 (funext fun a => Fin.ext (by
    match a with
    | ⟨0, _⟩ => rfl
    | ⟨1, _⟩ => show d.val % 1024 = d.val; omega))
  have hb : x4 (idx_main_v257 (idx_main_v258 (idx_main_v259 (idx_main_v260 (ix3 b r d))))) = x4 (ix2 0 d) := congrArg x4 (funext fun a => Fin.ext (by
    match a with
    | ⟨0, _⟩ => rfl
    | ⟨1, _⟩ => show d.val % 1024 = d.val; omega))
  rw [hs, hg, hb]
  rfl

theorem reference_a : (val_main_v294 (F := Ideal) x0 x1 x2 x3 x4 : S16x2048x1024.Idx → EReal) = totalA x0 x1 x2 x3 x4 := by
  funext i
  obtain ⟨b, r, d, rfl⟩ : ∃ (b : Fin 16) (r : Fin 2048) (d : Fin 1024), i = ix3 b r d := ⟨i 0, i 1, i 2, eq_ix3 i⟩
  rw [val_main_v294_apply, val_main_v262_apply, val_main_call1_v5_apply, val_main_call1_v4_apply, val_main_call1_cst_0_apply, val_main_call1_v3_apply,
    val_main_call1_v2_apply, val_main_call1_cst_apply, val_main_call1_v1_apply, val_main_call1_v0_apply, ref_norm]
  unfold totalA act gate
  simp only [pointwise]
  rfl

/-! ## The short convolution -/

theorem ref_columns (b : Fin 16) (n : Fin 2048) (d : Fin 1024) : val_main_v264 (F := Ideal) x0 (ix3 b n d) = part x0 b 11 n d
    ∧ val_main_v265 (F := Ideal) x0 (ix3 b n d) = part x0 b 12 n d ∧ val_main_v266 (F := Ideal) x0 (ix3 b n d) = part x0 b 13 n d := by
  rw [val_main_v264_apply, val_main_v265_apply, val_main_v266_apply, val_main_v263_apply, val_main_v263_apply, val_main_v263_apply,
    val_main_v0_apply, val_main_v0_apply, val_main_v0_apply]
  refine ⟨congrArg x0 (funext fun a => Fin.ext ?_), congrArg x0 (funext fun a => Fin.ext ?_), congrArg x0 (funext fun a => Fin.ext ?_)⟩
  · match a with
    | ⟨0, _⟩ => rfl
    | ⟨1, _⟩ => rfl
    | ⟨2, _⟩ => show 11264 + d.1 = 1024 * 11 + d.1; omega
  · match a with
    | ⟨0, _⟩ => rfl
    | ⟨1, _⟩ => rfl
    | ⟨2, _⟩ => show 11264 + (1024 + d.1) = 1024 * 12 + d.1; omega
  · match a with
    | ⟨0, _⟩ => rfl
    | ⟨1, _⟩ => rfl
    | ⟨2, _⟩ => show 11264 + (2048 + d.1) = 1024 * 13 + d.1; omega

theorem slice_row3 : ∀ k : Fin 3, S3x1024.Slices ![k.1, 0] S1x1024 := by decide
theorem slice_rows3 : ∀ k : Fin 3, S16x2050x1024.Slices ![0, k.1, 0] S16x2048x1024 := by decide

theorem ref_short (k : Fin 3) (b : Fin 16) (r : Fin 2048) (d : Fin 1024) :
    tapped (val_main_v269 (F := Ideal) x5) (val_main_v270 (F := Ideal) x0) k.1 (slice_row3 k) (slice_rows3 k) (ix3 b r d)
      = x5 (ix3 0 k d) * src (fun n => part x0 b 12 n d * part x0 b 13 n d) (r.1 + (30 + k.1)) := by
  have hr := r.2
  have hk := k.2
  rw [tapped_apply _ _ k (by omega)]
  refine congrArg₂ (· * ·) (first_layer x5 _ _ k d) ?_
  refine (pad_at 2 2050 rfl (by decide) _ _ (fun j => ?_) _ _ b ⟨r.1 + k.1, by omega⟩ d).trans ?_
  · exact sitofp_zero (φ := .f32)
  · refine congrArg₂ src (funext fun n => ?_) ?_
    · rw [val_main_v267_apply, (ref_columns x0 b n d).2.1, (ref_columns x0 b n d).2.2]
      rfl
    · show r.1 + k.1 + 32 - 2 = r.1 + (30 + k.1)
      omega

theorem reference_c : (val_main_v295 (F := Ideal) x0 x5 : S16x2048x1024.Idx → EReal) = totalC x0 x5 := by
  funext i
  obtain ⟨b, r, d, rfl⟩ : ∃ (b : Fin 16) (r : Fin 2048) (d : Fin 1024), i = ix3 b r d := ⟨i 0, i 1, i 2, eq_ix3 i⟩
  have h : ∀ k, _ := fun k => ref_short x0 x5 k b r d
  have h0 : val_main_v276 (F := Ideal) x0 x5 (ix3 b r d) = _ := h 0
  have h1 : val_main_v284 (F := Ideal) x0 x5 (ix3 b r d) = _ := h 1
  have h2 : val_main_v291 (F := Ideal) x0 x5 (ix3 b r d) = _ := h 2
  rw [val_main_v295_apply, val_main_v293_apply, val_main_v292_apply, val_main_v285_apply, val_main_v278_apply, val_main_v277_apply, val_main_cst_8_apply,
    (ref_columns x0 b r d).1, h0, h1, h2]
  unfold totalC taps3
  refine congrArg (_ * ·) ?_
  refine congrArg (· + _) (congrArg (· + _) (congrArg (· + _) Ideal.ofBits_zero_f32))

end Ref

open Cert.Kernel5Ideal Cert.Kernel5Ideal.Gen

theorem algebraic : Cert.algebraic_Kernel5Ideal_Reference5Ideal := by
  intro m ρ m' ρ' _ hagree
  refine ⟨fun c => (dats m 0 c).arrAt 14 cfg0.N, fun c => (dats m 0 c).arrAt 15 cfg0.N, Value.run_blocks (F := Ideal) m ρ, ?_⟩
  refine (θ_run Cert.Reference5Ideal.defs _ _).mono (fun _ h c => ⟨(h c).1.trans ?_, (h c).2.1.trans ?_, (h c).2.2⟩)
    (Cert.Reference5Ideal.Value.run (F := Ideal) m' ρ')
  · refine (Cert.Reference5Ideal.Read.val_main_v294_eq (F := Ideal) _).trans ?_
    refine (reference_a _ _ _ _ _).trans ?_
    show _ = (dats m 0 c).arrAt 14 cfg0.N
    rw [final_a]
    obtain ⟨e0, e1, e2, e3, e4, e5⟩ := hagree c
    exact congr (congr (congr (congr (congrArg totalA e0) e1) e2) e3) e4
  · refine (Cert.Reference5Ideal.Read.val_main_v295_eq (F := Ideal) _).trans ?_
    refine (reference_c _ _).trans ?_
    show _ = (dats m 0 c).arrAt 15 cfg0.N
    rw [final_c]
    obtain ⟨e0, e1, e2, e3, e4, e5⟩ := hagree c
    exact congr (congrArg totalC e0) e5

end Cert.Conv
-- ==== Proof.Pick.lean ====
/- Repeated choice of a column's first greatest entry, and the stable descending sort: the choices are the sort's first
   positions. -/
module

public import proofs.«01_k».proof.Defs
public import Idealize.ShloMosaic.Lib.SortPrefix
public import Idealize.ShloMosaic.Lib.WordCmp
public import Idealize.ShloMosaic.PureOps.Ideal.Laws

@[expose] public section

noncomputable section

namespace Cert.Route

open Idealize.ShloMosaic

variable {n : ℕ}

/-! ### One choice -/

/-- `e` is the first position of the greatest entry. -/
def IsTop (f : Fin n → EReal) (e : Fin n) : Prop := (∀ x, f x ≤ f e) ∧ ∀ x, x < e → f x < f e

theorem exists_top [NeZero n] (f : Fin n → EReal) : ∃ e, IsTop f e := by
  classical
  obtain ⟨m, hm⟩ := Finite.exists_max f
  have hne : (Finset.univ.filter fun e => f e = f m).Nonempty := ⟨m, by simp⟩
  refine ⟨(Finset.univ.filter fun e => f e = f m).min' hne, ?_⟩
  have h1 : f ((Finset.univ.filter fun e => f e = f m).min' hne) = f m := by
    have := Finset.min'_mem _ hne
    simpa using this
  refine ⟨fun x => (hm x).trans_eq h1.symm, fun x hx => ?_⟩
  rw [h1]
  refine lt_of_le_of_ne (hm x) fun h => ?_
  exact absurd hx (not_lt.mpr (Finset.min'_le _ _ (by simpa using h)))

/-- The first position of the greatest entry. -/
def top [NeZero n] (f : Fin n → EReal) : Fin n := (exists_top f).choose

theorem top_spec [NeZero n] (f : Fin n → EReal) : IsTop f (top f) := (exists_top f).choose_spec

theorem fold_max_top [NeZero n] (f : Fin n → EReal) : Finset.univ.fold max ⊥ f = f (top f) := by
  apply le_antisymm
  · exact (Finset.fold_max_le _).mpr ⟨bot_le, fun x _ => (top_spec f).1 x⟩
  · exact (Finset.le_fold_max _).mpr (.inr ⟨top f, Finset.mem_univ _, le_rfl⟩)

theorem fold_minsi {ι : Type} [DecidableEq ι] (s : Finset ι) (b : BitVec 32) (g : ι → BitVec 32) :
    (s.fold IntOp.minsi b g = b ∨ ∃ x ∈ s, s.fold IntOp.minsi b g = g x)
      ∧ ∀ x ∈ s, (s.fold IntOp.minsi b g).toInt ≤ (g x).toInt := by
  induction s using Finset.induction_on with
  | empty => simp
  | insert a s ha ih =>
    rw [Finset.fold_insert ha]
    obtain ⟨h1, h2⟩ := ih
    generalize s.fold IntOp.minsi b g = r at h1 h2 ⊢
    unfold IntOp.minsi
    by_cases h : (g a).slt r
    · have h' : (g a).toInt < r.toInt := by simpa [BitVec.slt] using h
      rw [if_pos h]
      refine ⟨.inr ⟨a, by simp, rfl⟩, fun x hx => ?_⟩
      rcases Finset.mem_insert.mp hx with rfl | hx
      · exact le_rfl
      · exact h'.le.trans (h2 x hx)
    · have h' : ¬ (g a).toInt < r.toInt := by simpa [BitVec.slt] using h
      rw [if_neg h]
      refine ⟨h1.imp_right fun ⟨x, hx, e⟩ => ⟨x, by simp [hx], e⟩, fun x hx => ?_⟩
      rcases Finset.mem_insert.mp hx with rfl | hx
      · exact not_lt.mp h'
      · exact h2 x hx

/-- The least marked position is the first greatest one. -/
theorem fold_min_top [NeZero n] (hn : n ≤ 64) (f : Fin n → EReal) :
    Finset.univ.fold IntOp.minsi 2147483647#32
        (fun x : Fin n => if f x = f (top f) then BitVec.ofNat 32 x.1 else BitVec.ofNat 32 n)
      = BitVec.ofNat 32 (top f).1 := by
  classical
  have ht : ∀ k : ℕ, k ≤ 64 → (BitVec.ofNat 32 k).toInt = k := by
    intro k hk
    exact WordCmp.toInt_ofNat_of_lt (by omega)
  obtain ⟨h1, h2⟩ := fold_minsi Finset.univ 2147483647#32
    (fun x : Fin n => if f x = f (top f) then BitVec.ofNat 32 x.1 else BitVec.ofNat 32 n)
  have h3 := h2 (top f) (Finset.mem_univ _)
  have hlt := (top f).2
  rw [if_pos rfl, ht _ (by omega)] at h3
  rcases h1 with h1 | ⟨x, -, h1⟩
  · rw [h1] at h3
    exact absurd h3 (by have : (2147483647#32 : BitVec 32).toInt = 2147483647 := by decide
                        omega)
  · rw [h1] at h3 ⊢
    have hx := x.2
    by_cases hfx : f x = f (top f)
    · simp only [if_pos hfx] at h3 ⊢
      rw [ht _ (by omega)] at h3
      have : ¬ x < top f := fun h => absurd hfx ((top_spec f).2 x h).ne
      have : x = top f := by
        apply Fin.ext
        have h4 : (top f).1 ≤ x.1 := not_lt.mp this
        omega
      rw [this]
    · simp only [if_neg hfx] at h3
      rw [ht _ hn] at h3
      omega

/-! ### Repeated choice -/

/-- The entries with the first greatest one taken out. -/
def next [NeZero n] (f : Fin n → EReal) : Fin n → EReal := fun x => if x = top f then ⊥ else f x

/-- The entries after `r` choices. -/
def nexts [NeZero n] (f : Fin n → EReal) : ℕ → Fin n → EReal
  | 0 => f
  | r + 1 => next (nexts f r)

/-- Choice number `r`. -/
def sel [NeZero n] (f : Fin n → EReal) (r : ℕ) : Fin n := top (nexts f r)

theorem nexts_apply [NeZero n] (f : Fin n → EReal) (r : ℕ) (x : Fin n) :
    nexts f r x = if ∃ i < r, sel f i = x then ⊥ else f x := by
  induction r with
  | zero => simp [nexts]
  | succ r ih =>
    show (if x = sel f r then ⊥ else nexts f r x) = _
    rw [ih]
    by_cases h : x = sel f r
    · rw [if_pos h, if_pos ⟨r, by omega, h.symm⟩]
    · rw [if_neg h]
      refine if_congr ⟨fun ⟨i, hi, e⟩ => ⟨i, by omega, e⟩, fun ⟨i, hi, e⟩ => ⟨i, ?_, e⟩⟩ rfl rfl
      have : i ≠ r := fun hr => h (by rw [← e, hr])
      omega

theorem exists_left (f : ℕ → Fin n) (r : ℕ) (hr : r < n) : ∃ x, ∀ i < r, f i ≠ x := by
  classical
  by_contra hc
  push Not at hc
  have h : (Finset.univ : Finset (Fin n)) ⊆ (Finset.range r).image f := by
    intro x _
    obtain ⟨i, hi, e⟩ := hc x
    exact Finset.mem_image.mpr ⟨i, Finset.mem_range.mpr hi, e⟩
  have := (Finset.card_le_card h).trans Finset.card_image_le
  simp at this
  omega

section
variable [NeZero n] (f : Fin n → EReal) (hf : ∀ x, ⊥ < f x)
include hf

theorem sel_new (r : ℕ) (hr : r < n) (i : ℕ) (hi : i < r) : sel f i ≠ sel f r := by
  intro he
  obtain ⟨x, hx⟩ := exists_left (sel f) r hr
  have h1 := (top_spec (nexts f r)).1 x
  have h2 : nexts f r (top (nexts f r)) = ⊥ := by
    rw [nexts_apply]
    exact if_pos ⟨i, hi, he⟩
  rw [h2, nexts_apply, if_neg (fun ⟨j, hj, e⟩ => hx j hj e)] at h1
  exact absurd (hf x) (not_lt.mpr h1)

theorem nexts_sel (r : ℕ) (hr : r < n) : nexts f r (sel f r) = f (sel f r) := by
  rw [nexts_apply, if_neg]
  rintro ⟨i, hi, e⟩
  exact sel_new f hf r hr i hi e

theorem sel_inj (i j : ℕ) (hi : i < n) (hj : j < n) (h : sel f i = sel f j) : i = j := by
  rcases lt_trichotomy i j with h1 | h1 | h1
  · exact absurd h (sel_new f hf j hj i h1)
  · exact h1
  · exact absurd h.symm (sel_new f hf i hi j h1)

/-- What is left is not before a choice. -/
theorem sel_le (r : ℕ) (hr : r < n) (p : Fin n) (hp : ∀ i < r, sel f i ≠ p) :
    f p ≤ f (sel f r) ∧ (p < sel f r → f p < f (sel f r)) := by
  have h := top_spec (nexts f r)
  have e1 : nexts f r p = f p := by
    rw [nexts_apply, if_neg (fun ⟨j, hj, e⟩ => hp j hj e)]
  have e2 : nexts f r (top (nexts f r)) = f (sel f r) := nexts_sel f hf r hr
  refine ⟨?_, fun hlt => ?_⟩
  · have := h.1 p
    rwa [e1, e2] at this
  · have := h.2 p hlt
    rwa [e1, e2] at this
end

/-! ### The stable sort -/

theorem insertBefore_congr {ι : Type} (B B' : ι → ι → Bool) (a : ι) (l : List ι) (h : ∀ b ∈ l, B b a = B' b a) :
    insertBefore B a l = insertBefore B' a l := by
  induction l with
  | nil => rfl
  | cons b l ih =>
    unfold insertBefore
    rw [h b (by simp), ih fun c hc => h c (by simp [hc])]

theorem stableSort_congr {ι : Type} (B B' : ι → ι → Bool) (l : List ι) (h : l.Pairwise fun a b => B b a = B' b a) :
    stableSort B l = stableSort B' l := by
  induction l with
  | nil => rfl
  | cons a l ih =>
    obtain ⟨h1, h2⟩ := List.pairwise_cons.mp h
    unfold stableSort
    rw [ih h2]
    exact insertBefore_congr _ _ _ _ fun b hb => h1 b ((perm_stableSort B' l).mem_iff.mp hb)

theorem sortedFrom_of_positions (B B' : Fin n → Fin n → Bool) (h : sortPositions n B = sortPositions n B') (r : Fin n) :
    sortedFrom B r = sortedFrom B' r := by
  unfold sortedFrom
  simp only [List.get_eq_getElem, h, Fin.val_cast]

/-- Sorted by greatest entry first, equal ones by position: the sort's first positions are the repeated choices. -/
theorem sortedFrom_sel [NeZero n] (f : Fin n → EReal) (hf : ∀ x, ⊥ < f x) (B : Fin n → Fin n → Bool)
    (hB : ∀ a b, B a b = decide (f b < f a)) (r : Fin n) : sortedFrom B r = sel f r.1 := by
  classical
  have hst : StrictTotalBefore fun k k' : Fin n =>
      (fun a b : EReal => decide (b < a)) (f k) (f k') || (decide (f k = f k') && decide (k < k')) :=
    StrictTotalBefore.of_key_then_position (fun a b : EReal => decide (b < a)) f (by simp)
      (fun a b c => by simp only [decide_eq_true_eq]; exact fun h1 h2 => h2.trans h1)
      (fun a b => by
        simp only [decide_eq_true_eq]
        rcases lt_trichotomy a b with h | h | h
        · exact .inr (.inr h)
        · exact .inr (.inl h)
        · exact .inl h)
  have hs : sortedFrom B r = sortedFrom (fun k k' : Fin n =>
      (fun a b : EReal => decide (b < a)) (f k) (f k') || (decide (f k = f k') && decide (k < k'))) r := by
    have : sortPositions n B = sortPositions n (fun k k' : Fin n =>
        (fun a b : EReal => decide (b < a)) (f k) (f k') || (decide (f k = f k') && decide (k < k'))) := by
      refine stableSort_congr _ _ _ ((List.pairwise_lt_finRange n).imp fun {a b} hab => ?_)
      rw [hB]
      simp [not_lt.mpr hab.le]
    exact sortedFrom_of_positions _ _ this r
  have hneg : ∀ (p : Fin n) (i : ℕ) (hi : i < n), (∀ j < i, sel f j ≠ p) →
      ((fun a b : EReal => decide (b < a)) (f p) (f (sel f i)) || (decide (f p = f (sel f i)) && decide (p < sel f i))) = false := by
    intro p i hi hp
    obtain ⟨h1, h2⟩ := sel_le f hf i hi p hp
    simp only [Bool.or_eq_false_iff, Bool.and_eq_false_imp, decide_eq_true_eq, decide_eq_false_iff_not]
    exact ⟨not_lt.mpr h1, fun he hlt => absurd he (h2 hlt).ne⟩
  rw [hs]
  exact hst.sortedFrom_eq_of_prefix le_rfl (fun i : Fin n => sel f i.1)
    (fun i j h => Fin.ext (sel_inj f hf _ _ i.2 j.2 h))
    (fun i j hij => hneg _ _ i.2 fun k hk => sel_new f hf j.1 j.2 k (lt_trans hk hij) |> fun _ h =>
      absurd (sel_inj f hf k j.1 (by omega) j.2 h) (by have : i.1 < j.1 := hij; omega))
    (fun i p hp => hneg _ _ i.2 fun k hk => hp ⟨k, by omega⟩) r

end Cert.Route

end
-- ==== Proof.RoutePieces.lean ====
/- The router's rounds, written once: a round takes the first greatest entry of every column, and marks it. -/
module

public import proofs.«01_k».proof.Defs
public import proofs.«01_k».proof.Proof.Pick
public import proofs.«01_k».proof.Proof.Gen.Kernel6Ideal.Value
public import Idealize.ShloMosaic.Lib.Pointwise
public import Idealize.ShloMosaic.Lib.Pipeline.Value
public import Idealize.ShloMosaic.Lib.Quiescent

@[expose] public section

noncomputable section

namespace Cert.Route

open Idealize.ShloMosaic Idealize.ShloMosaic.TcCoe
open Idealize.ShloMosaic.Tactic
open Cert.Kernel6Ideal Cert.Kernel6Ideal.Gen

theorem ninf : Ideal.ofBits .f32 0xFF800000#32 = ⊥ := by simp [Ideal.ofBits, Ideal.ieee]

/-! ### Rounds over the first axis of a matrix of 512 columns -/

abbrev Cols (n : ℕ) : Shape := ⟨2, ![n, 512]⟩

section
variable {n : ℕ} (hi : (Cols n).Iotas .tc 32 [0]) (hr : (Cols n).Reduces [0] S512) (hb : S1x512.Broadcasts (Cols n))

/-- The row number of every column's first greatest entry. -/
def rowOf (v : FVec Ideal (Cols n) .f32) : IVec S1x512 32 :=
  shapeCast S1x512 (multiReductionI .minsi [0] S512
    (select (cmpf .oeq v (broadcastTo (Cols n) (shapeCast S1x512
        (multiReduction .maximumf [0] S512 v 0xFF800000#32 hr (.inl rfl) rfl) shapeCasts_S512_S1x512) hb))
      (iota .tc (Cols n) 32 [0] hi) (broadcast (Cols n) (BitVec.ofNat 32 n)))
    2147483647#32 hr rfl) shapeCasts_S512_S1x512

/-- The mark of every column's first greatest entry. -/
def hit (v : FVec Ideal (Cols n) .f32) : IVec (Cols n) 1 :=
  cmpi .eq (iota .tc (Cols n) 32 [0] hi) (broadcastTo (Cols n) (rowOf hi hr hb v) hb)

/-- The entries after a round. -/
def drop (v : FVec Ideal (Cols n) .f32) : FVec Ideal (Cols n) .f32 :=
  select (hit hi hr hb v) (broadcast (Cols n) (Scalar.ofBits .f32 0xFF800000#32)) v

/-- The entries after `r` rounds. -/
def drops (v : FVec Ideal (Cols n) .f32) : ℕ → FVec Ideal (Cols n) .f32
  | 0 => v
  | r + 1 => drop hi hr hb (drops v r)

/-- A column. -/
def colOf (v : FVec Ideal (Cols n) .f32) (j : Fin 512) : Fin n → EReal := fun e => v (ix2 e j)

theorem lift_eq (j : Fin 512) (k : Fin n) : hr.lift (ix1 j) k = (ix2 k j : (Cols n).Idx) := by
  funext a
  match a with
  | ⟨0, _⟩ => rfl
  | ⟨1, _⟩ => rfl

theorem row_cast {α : Type} (x : S512.Idx → α) (j : Fin 512) : shapeCast S1x512 x shapeCasts_S512_S1x512 (ix2 0 j) = x (ix1 j) :=
  shapeCast_apply _ _ _ _ (by
    rewrite [Shape.rowMajor_val_one, Shape.rowMajor_val_two]; show j.val = 0 * 512 + j.val; omega)

theorem row_bcast {α : Type} (x : S1x512.Idx → α) (e : Fin n) (j : Fin 512) : broadcastTo (Cols n) x hb (ix2 e j) = x (ix2 0 j) := by
  unfold broadcastTo
  refine congrArg x (funext fun a => Fin.ext ?_)
  match a with
  | ⟨0, _⟩ => rfl
  | ⟨1, _⟩ => rfl

theorem iota_col (e : Fin n) (j : Fin 512) : iota .tc (Cols n) 32 [0] hi (ix2 e j) = BitVec.ofNat 32 e.1 := by
  show BitVec.ofNat 32 (0 * n + e.1) = _
  rw [Nat.zero_mul, Nat.zero_add]

theorem max_col [NeZero n] (v : FVec Ideal (Cols n) .f32) (j : Fin 512) :
    multiReduction .maximumf [0] S512 v 0xFF800000#32 hr (.inl rfl) rfl (ix1 j) = colOf v j (top (colOf v j)) := by
  refine (Ideal.multiReduction_maximumf_single v 0xFF800000#32 hr _ _ (ix1 j)).trans (Eq.trans ?_ (fold_max_top (colOf v j)))
  refine congrArg₂ (fun b f => Finset.fold max b f Finset.univ) ninf (funext fun k => ?_)
  exact congrArg v (lift_eq hr j k)

theorem min_col (w : IVec (Cols n) 32) (j : Fin 512) :
    multiReductionI .minsi [0] S512 w 2147483647#32 hr rfl (ix1 j)
      = Finset.univ.fold IntOp.minsi 2147483647#32 fun k : Fin n => w (ix2 k j) := by
  refine (multiReductionI_eq_fold .minsi w _ hr rfl (ix1 j)).trans ((hr.fold_filter_drop_single _ _ w (ix1 j)).trans ?_)
  exact congrArg (fun f => Finset.fold IntOp.minsi 2147483647#32 f Finset.univ) (funext fun k => congrArg w (lift_eq hr j k))

theorem select_oeq {α : Type} (a b : EReal) (x y : α) :
    Scalar.select (FloatOps.cmpf (F := Ideal) (φ := .f32) .oeq a b) x y = if a = b then x else y := by
  show (if BitVec.ofBool (decide (a = b)) = 1#1 then x else y) = _
  by_cases h : a = b <;> simp [h]

theorem rowOf_apply [NeZero n] (hn : n ≤ 64) (v : FVec Ideal (Cols n) .f32) (j : Fin 512) :
    rowOf hi hr hb v (ix2 0 j) = BitVec.ofNat 32 (top (colOf v j)).1 := by
  refine (row_cast _ j).trans ((min_col hr _ j).trans (Eq.trans ?_ (fold_min_top hn (colOf v j))))
  refine congrArg (fun f => Finset.fold IntOp.minsi 2147483647#32 f Finset.univ) (funext fun k => ?_)
  refine (select_oeq _ _ _ _).trans ?_
  rw [row_bcast, row_cast, max_col hr v j, iota_col]
  rfl

theorem hit_apply [NeZero n] (hn : n ≤ 64) (v : FVec Ideal (Cols n) .f32) (e : Fin n) (j : Fin 512) :
    hit hi hr hb v (ix2 e j) = BitVec.ofBool (decide (e = top (colOf v j))) := by
  show IntOp.cmpi .eq _ _ = _
  rw [iota_col, row_bcast, rowOf_apply hi hr hb hn]
  show BitVec.ofBool (BitVec.ofNat 32 e.1 == BitVec.ofNat 32 (top (colOf v j)).1) = _
  refine congrArg BitVec.ofBool ?_
  have h1 := e.2
  have h2 := (top (colOf v j)).2
  rw [Bool.eq_iff_iff, beq_iff_eq, decide_eq_true_eq]
  refine ⟨fun h => ?_, fun h => by rw [h]⟩
  have h3 := congrArg BitVec.toNat h
  rw [WordCmp.toNat_ofNat_of_lt (by omega), WordCmp.toNat_ofNat_of_lt (by omega)] at h3
  exact Fin.ext h3

theorem drops_apply [NeZero n] (hn : n ≤ 64) (v : FVec Ideal (Cols n) .f32) (r : ℕ) (j : Fin 512) :
    colOf (drops hi hr hb v r) j = nexts (colOf v j) r := by
  induction r with
  | zero => rfl
  | succ r ih =>
    funext e
    show Scalar.select (hit hi hr hb (drops hi hr hb v r) (ix2 e j)) (Ideal.ofBits .f32 0xFF800000#32) (drops hi hr hb v r (ix2 e j))
      = next (nexts (colOf v j) r) e
    rw [hit_apply hi hr hb hn, ih, ninf]
    unfold next
    rw [← ih]
    by_cases h : e = top (colOf (drops hi hr hb v r) j) <;> simp [h, Scalar.select, colOf]

/-- The mark of choice number `r`. -/
theorem hit_drops [NeZero n] (hn : n ≤ 64) (v : FVec Ideal (Cols n) .f32) (r : ℕ) (e : Fin n) (j : Fin 512) :
    hit hi hr hb (drops hi hr hb v r) (ix2 e j) = BitVec.ofBool (decide (e = sel (colOf v j) r)) := by
  rw [hit_apply hi hr hb hn, drops_apply hi hr hb hn]
  rfl

theorem rowOf_drops [NeZero n] (hn : n ≤ 64) (v : FVec Ideal (Cols n) .f32) (r : ℕ) (j : Fin 512) :
    rowOf hi hr hb (drops hi hr hb v r) (ix2 0 j) = BitVec.ofNat 32 (sel (colOf v j) r).1 := by
  rw [rowOf_apply hi hr hb hn, drops_apply hi hr hb hn]
  rfl

end

/-! ### The two greatest entries of each group -/

/-- The entries of a group of eight rows. -/
def grpOf (u : FVec Ideal S8x8x512 .f32) (g : Fin 8) (j : Fin 512) : Fin 8 → EReal := fun e => u (ix3 g e j)

def mx3 (u : FVec Ideal S8x8x512 .f32) : FVec Ideal S8x1x512 .f32 :=
  shapeCast S8x1x512 (multiReduction .maximumf [1] S8x512 u 0xFF800000#32 reduces_S8x8x512_S8x512 (.inl rfl) rfl)
    shapeCasts_S8x512_S8x1x512

def row3 (u : FVec Ideal S8x8x512 .f32) : IVec S8x8x512 32 :=
  broadcastTo S8x8x512 (shapeCast S8x1x512 (multiReductionI .minsi [1] S8x512
    (select (cmpf .oeq u (broadcastTo S8x8x512 (mx3 u) broadcasts_S8x1x512_S8x8x512))
      (iota .tc S8x8x512 32 [1] iota_S8x8x512_d1_w32) (broadcast S8x8x512 8#32)) 2147483647#32 reduces_S8x8x512_S8x512 rfl)
    shapeCasts_S8x512_S8x1x512) broadcasts_S8x1x512_S8x8x512

/-- The entries with each group's first greatest one taken out. -/
def drop3 (u : FVec Ideal S8x8x512 .f32) : FVec Ideal S8x8x512 .f32 :=
  select (cmpi .eq (iota .tc S8x8x512 32 [1] iota_S8x8x512_d1_w32) (row3 u))
    (broadcast S8x8x512 (Scalar.ofBits .f32 0xFF800000#32)) u

/-- The sum of each group's two greatest entries. -/
def score (u : FVec Ideal S8x8x512 .f32) : FVec Ideal S8x512 .f32 :=
  shapeCast S8x512 (addf (mx3 u) (mx3 (drop3 u))) shapeCasts_S8x1x512_S8x512

theorem lift3_eq (g : Fin 8) (j : Fin 512) (k : Fin 8) :
    (reduces_S8x8x512_S8x512 : S8x8x512.Reduces [1] S8x512).lift (ix2 g j) k = (ix3 g k j : S8x8x512.Idx) := by
  funext a
  match a with
  | ⟨0, _⟩ => rfl
  | ⟨1, _⟩ => rfl
  | ⟨2, _⟩ => rfl

theorem mid_cast {α : Type} (x : S8x512.Idx → α) (g : Fin 8) (j : Fin 512) :
    shapeCast S8x1x512 x shapeCasts_S8x512_S8x1x512 (ix3 g 0 j) = x (ix2 g j) :=
  shapeCast_apply _ _ _ _ (by
    rewrite [Shape.rowMajor_val_two, Shape.rowMajor_val_three]
    show g.val * 512 + j.val = (g.val * 1 + 0) * 512 + j.val
    omega)

theorem mid_bcast {α : Type} (x : S8x1x512.Idx → α) (g e : Fin 8) (j : Fin 512) :
    broadcastTo S8x8x512 x broadcasts_S8x1x512_S8x8x512 (ix3 g e j) = x (ix3 g 0 j) := by
  unfold broadcastTo
  refine congrArg x (funext fun a => Fin.ext ?_)
  match a with
  | ⟨0, _⟩ => rfl
  | ⟨1, _⟩ => rfl
  | ⟨2, _⟩ => rfl

theorem mx3_apply (u : FVec Ideal S8x8x512 .f32) (g : Fin 8) (j : Fin 512) :
    mx3 u (ix3 g 0 j) = grpOf u g j (top (grpOf u g j)) := by
  refine (mid_cast _ g j).trans ((Ideal.multiReduction_maximumf_single u 0xFF800000#32 reduces_S8x8x512_S8x512 _ _ (ix2 g j)).trans
    (Eq.trans ?_ (fold_max_top (grpOf u g j))))
  refine congrArg₂ (fun b f => Finset.fold max b f Finset.univ) ninf (funext fun k => ?_)
  exact congrArg u (lift3_eq g j k)

theorem min_mid (w : IVec S8x8x512 32) (g : Fin 8) (j : Fin 512) :
    multiReductionI .minsi [1] S8x512 w 2147483647#32 reduces_S8x8x512_S8x512 rfl (ix2 g j)
      = Finset.univ.fold IntOp.minsi 2147483647#32 fun k : Fin 8 => w (ix3 g k j) := by
  refine (multiReductionI_eq_fold .minsi w _ reduces_S8x8x512_S8x512 rfl (ix2 g j)).trans
    ((reduces_S8x8x512_S8x512.fold_filter_drop_single _ _ w (ix2 g j)).trans ?_)
  exact congrArg (fun f => Finset.fold IntOp.minsi 2147483647#32 f Finset.univ) (funext fun k => congrArg w (lift3_eq g j k))

theorem iota_mid (g e : Fin 8) (j : Fin 512) : iota .tc S8x8x512 32 [1] iota_S8x8x512_d1_w32 (ix3 g e j) = BitVec.ofNat 32 e.1 := by
  show BitVec.ofNat 32 (0 * 8 + e.1) = _
  rw [Nat.zero_mul, Nat.zero_add]

theorem row3_apply (u : FVec Ideal S8x8x512 .f32) (g e : Fin 8) (j : Fin 512) :
    row3 u (ix3 g e j) = BitVec.ofNat 32 (top (grpOf u g j)).1 := by
  refine (mid_bcast _ g e j).trans ((mid_cast _ g j).trans ((min_mid _ g j).trans
    (Eq.trans ?_ (fold_min_top (by decide) (grpOf u g j)))))
  refine congrArg (fun f => Finset.fold IntOp.minsi 2147483647#32 f Finset.univ) (funext fun k => ?_)
  refine (select_oeq _ _ _ _).trans ?_
  rw [mid_bcast, mx3_apply, iota_mid]
  rfl

theorem word_eq (a b : ℕ) (ha : a < 64) (hb : b < 64) :
    IntOp.cmpi .eq (BitVec.ofNat 32 a) (BitVec.ofNat 32 b) = BitVec.ofBool (decide (a = b)) := by
  show BitVec.ofBool (BitVec.ofNat 32 a == BitVec.ofNat 32 b) = _
  refine congrArg BitVec.ofBool ?_
  rw [Bool.eq_iff_iff, beq_iff_eq, decide_eq_true_eq]
  refine ⟨fun h => ?_, fun h => by rw [h]⟩
  have h3 := congrArg BitVec.toNat h
  rwa [WordCmp.toNat_ofNat_of_lt (by omega), WordCmp.toNat_ofNat_of_lt (by omega)] at h3

theorem select_bool {α : Type} (p : Prop) [Decidable p] (x y : α) : Scalar.select (BitVec.ofBool (decide p)) x y = if p then x else y := by
  by_cases h : p <;> simp [h, Scalar.select]

theorem drop3_apply (u : FVec Ideal S8x8x512 .f32) (g : Fin 8) (j : Fin 512) :
    grpOf (drop3 u) g j = nexts (grpOf u g j) 1 := by
  funext e
  have h : IntOp.cmpi .eq (iota .tc S8x8x512 32 [1] iota_S8x8x512_d1_w32 (ix3 g e j)) (row3 u (ix3 g e j))
      = BitVec.ofBool (decide (e = top (grpOf u g j))) := by
    rw [iota_mid, row3_apply, word_eq _ _ (by omega) (by omega)]
    simp only [Fin.ext_iff]
  refine (congrArg (fun b => Scalar.select b (Ideal.ofBits .f32 0xFF800000#32) (u (ix3 g e j))) h).trans ?_
  rw [select_bool, ninf]
  rfl

theorem score_apply (u : FVec Ideal S8x8x512 .f32) (g : Fin 8) (j : Fin 512) :
    score u (ix2 g j) = grpOf u g j (sel (grpOf u g j) 0) + nexts (grpOf u g j) 1 (sel (grpOf u g j) 1) := by
  refine (shapeCast_apply _ shapeCasts_S8x1x512_S8x512 (ix2 g j) (ix3 g 0 j) (by
    rewrite [Shape.rowMajor_val_two, Shape.rowMajor_val_three]
    show (g.val * 1 + 0) * 512 + j.val = g.val * 512 + j.val
    omega)).trans ?_
  refine (congrArg₂ (fun a b : EReal => a + b) (mx3_apply u g j) (mx3_apply (drop3 u) g j)).trans ?_
  rw [drop3_apply]
  rfl

/-! ### The experts of the best groups -/

abbrev hit8 := hit (n := 8) iota_S8x512_d0_w32 reduces_S8x512_S512 broadcasts_S1x512_S8x512
abbrev drops8 := drops (n := 8) iota_S8x512_d0_w32 reduces_S8x512_S512 broadcasts_S1x512_S8x512
abbrev rowOf64 := rowOf (n := 64) iota_S64x512_d0_w32 reduces_S64x512_S512 broadcasts_S1x512_S64x512
abbrev drops64 := drops (n := 64) iota_S64x512_d0_w32 reduces_S64x512_S512 broadcasts_S1x512_S64x512
abbrev hit64 := hit (n := 64) iota_S64x512_d0_w32 reduces_S64x512_S512 broadcasts_S1x512_S64x512

/-- The marks of the four best groups. -/
def best (s : FVec Ideal S8x512 .f32) : IVec S8x512 1 :=
  ori (ori (ori (ori (broadcast S8x512 0#1) (hit8 (drops8 s 0))) (hit8 (drops8 s 1))) (hit8 (drops8 s 2))) (hit8 (drops8 s 3))

/-- The choices of the best groups' experts, −1e30 elsewhere. -/
def masked (v : FVec Ideal S64x512 .f32) : FVec Ideal S64x512 .f32 :=
  select (shapeCast S64x512 (broadcastTo S8x8x512 (shapeCast S8x1x512 (shapeCast S8x1x512
      (best (score (shapeCast S8x8x512 v shapeCasts_S64x512_S8x8x512))) shapeCasts_S8x512_S8x1x512) shapeCasts_S8x1x512_S8x1x512)
      broadcasts_S8x1x512_S8x8x512) shapeCasts_S8x8x512_S64x512) v (broadcast S64x512 (Scalar.ofBits .f32 0xF149F2CA#32))

/-- The group of an expert. -/
def grp (e : Fin 64) : Fin 8 := ⟨e.1 / 8, by omega⟩

/-- Member `k` of group `g`. -/
def mem (g k : Fin 8) : Fin 64 := ⟨8 * g.1 + k.1, by omega⟩

/-- The score of each group: the sum of its two greatest choices. -/
def scores (f : Fin 64 → EReal) (g : Fin 8) : EReal :=
  (fun k => f (mem g k)) (sel (fun k => f (mem g k)) 0) + nexts (fun k => f (mem g k)) 1 (sel (fun k => f (mem g k)) 1)

/-- The choices of the best groups' experts, −1e30 elsewhere, for one token. -/
def maskedCol (f : Fin 64 → EReal) (e : Fin 64) : EReal :=
  if ∃ r : Fin 4, sel (scores f) r.1 = grp e then f e else Ideal.ofBits .f32 0xF149F2CA#32

theorem best_apply (s : FVec Ideal S8x512 .f32) (g : Fin 8) (j : Fin 512) :
    best s (ix2 g j) = BitVec.ofBool (decide (∃ r : Fin 4, sel (colOf s j) r.1 = g)) := by
  have h : ∀ r, hit8 (drops8 s r) (ix2 g j) = BitVec.ofBool (decide (g = sel (colOf s j) r)) := fun r => hit_drops iota_S8x512_d0_w32 reduces_S8x512_S512 broadcasts_S1x512_S8x512 (by decide) s r g j
  show IntOp.ori (IntOp.ori (IntOp.ori (IntOp.ori 0#1 (hit8 (drops8 s 0) (ix2 g j))) (hit8 (drops8 s 1) (ix2 g j)))
    (hit8 (drops8 s 2) (ix2 g j))) (hit8 (drops8 s 3) (ix2 g j)) = _
  have ho : ∀ p q : Bool, IntOp.ori (BitVec.ofBool p) (BitVec.ofBool q) = BitVec.ofBool (p || q) := by decide
  rw [h 0, h 1, h 2, h 3, show (0#1 : BitVec 1) = BitVec.ofBool false from rfl, ho, ho, ho, ho]
  refine congrArg BitVec.ofBool ?_
  rw [Bool.eq_iff_iff]
  simp only [Bool.or_eq_true, decide_eq_true_eq, Bool.false_eq_true, false_or]
  constructor
  · rintro (((e | e) | e) | e)
    · exact ⟨0, e.symm⟩
    · exact ⟨1, e.symm⟩
    · exact ⟨2, e.symm⟩
    · exact ⟨3, e.symm⟩
  · rintro ⟨r, e⟩
    match r with
    | 0 => exact .inl (.inl (.inl e.symm))
    | 1 => exact .inl (.inl (.inr e.symm))
    | 2 => exact .inl (.inr e.symm)
    | 3 => exact .inr e.symm

theorem masked_apply (v : FVec Ideal S64x512 .f32) (j : Fin 512) : colOf (masked v) j = maskedCol (colOf v j) := by
  funext e
  have hu : ∀ g k, shapeCast S8x8x512 v shapeCasts_S64x512_S8x8x512 (ix3 g k j) = v (ix2 (mem g k) j) := fun g k =>
    shapeCast_apply _ _ _ _ (by
      rewrite [Shape.rowMajor_val_two, Shape.rowMajor_val_three]
      show (8 * g.1 + k.1) * 512 + j.1 = (g.1 * 8 + k.1) * 512 + j.1
      omega)
  have hs : colOf (score (shapeCast S8x8x512 v shapeCasts_S64x512_S8x8x512)) j = scores (colOf v j) := by
    funext g
    refine (score_apply _ g j).trans ?_
    have : grpOf (shapeCast S8x8x512 v shapeCasts_S64x512_S8x8x512) g j = fun k => colOf v j (mem g k) := funext fun k => hu g k
    rw [this]
    rfl
  have hm : shapeCast S64x512 (broadcastTo S8x8x512 (shapeCast S8x1x512 (shapeCast S8x1x512
      (best (score (shapeCast S8x8x512 v shapeCasts_S64x512_S8x8x512))) shapeCasts_S8x512_S8x1x512) shapeCasts_S8x1x512_S8x1x512)
      broadcasts_S8x1x512_S8x8x512) shapeCasts_S8x8x512_S64x512 (ix2 e j)
        = BitVec.ofBool (decide (∃ r : Fin 4, sel (scores (colOf v j)) r.1 = grp e)) := by
    refine (shapeCast_apply _ shapeCasts_S8x8x512_S64x512 (ix2 e j) (ix3 (grp e) ⟨e.1 % 8, by omega⟩ j) (by
      rewrite [Shape.rowMajor_val_two, Shape.rowMajor_val_three]
      show (e.1 / 8 * 8 + e.1 % 8) * 512 + j.1 = e.1 * 512 + j.1
      omega)).trans ((mid_bcast _ _ _ _).trans ?_)
    refine (shapeCast_apply _ shapeCasts_S8x1x512_S8x1x512 (ix3 (grp e) 0 j) (ix3 (grp e) 0 j) rfl).trans ((mid_cast _ _ _).trans ?_)
    rw [best_apply, hs]
  refine (congrArg (fun b => Scalar.select b (v (ix2 e j)) (Ideal.ofBits .f32 0xF149F2CA#32)) hm).trans ?_
  rw [select_bool]
  rfl

end Cert.Route

end
-- ==== Proof.RouteBlock.lean ====
/- The router's block of 512 tokens: the experts it writes, in terms of the choices. -/
module

public import proofs.«01_k».proof.Proof.RoutePieces
public import proofs.«01_k».proof.Proof.Gen.Kernel6Ideal.Frame
public import Idealize.ShloMosaic.Lib.MatmulPlain

@[expose] public section

noncomputable section

namespace Cert.Route

open Idealize.ShloMosaic Idealize.ShloMosaic.TcCoe
open Idealize.ShloMosaic.Tactic
open Cert.Kernel6Ideal Cert.Kernel6Ideal.Gen
open scoped BigOperators

/-- The eight choices of every column, one row each. -/
def rows8 (v : FVec Ideal S64x512 .f32) : IVec S8x512 32 :=
  concatenate S8x512 0 (List.ofFn fun n : Fin 8 => ⟨S1x512, rowOf64 (drops64 v n.1)⟩)
    concatenates_S1x512_S1x512_S1x512_S1x512_S1x512_S1x512_S1x512_S1x512_S8x512_d0

theorem rows8_apply (v : FVec Ideal S64x512 .f32) (r : Fin 8) (j : Fin 512) :
    rows8 v (ix2 r j) = BitVec.ofNat 32 (sel (colOf v j) r.1).1 :=
  (concatenate_ofFn_unit_apply (t := S8x512) (s₁ := S1x512) (0 : Fin 2) (fun n : Fin 8 => rowOf64 (drops64 v n.1))
    concatenates_S1x512_S1x512_S1x512_S1x512_S1x512_S1x512_S1x512_S1x512_S8x512_d0 rfl rfl (ix2 r j) r rfl
    (ix2 (0 : Fin 1) j) (fun q hq => by
      match q with
      | ⟨0, _⟩ => exact absurd rfl hq
      | ⟨1, _⟩ => rfl)).trans
    (rowOf_drops iota_S64x512_d0_w32 reduces_S64x512_S512 broadcasts_S1x512_S64x512 (by decide) v r.1 j)

/-- The entries of `s` at choice number `r` of every column. -/
def picked (v s : FVec Ideal S64x512 .f32) (r : ℕ) : FVec Ideal S1x512 .f32 :=
  shapeCast S1x512 (multiReduction .add [0] S512
    (select (hit64 (drops64 v r)) s (broadcast S64x512 (Scalar.ofBits (F := Ideal) .f32 0x00000000#32)))
    0x00000000#32 reduces_S64x512_S512 (.inl rfl) rfl) shapeCasts_S512_S1x512

theorem picked_apply (v s : FVec Ideal S64x512 .f32) (r : ℕ) (j : Fin 512) : (picked v s r (ix2 0 j) : EReal) = s (ix2 (sel (colOf v j) r) j) := by
  refine (row_cast _ j).trans ((Ideal.multiReduction_add_single _ _ reduces_S64x512_S512 _ _ (ix1 j)).trans ?_)
  refine (Finset.sum_congr (g := fun e : Fin 64 => if e = sel (colOf v j) r then (s (ix2 e j) : EReal) else 0) rfl fun e _ => ?_).trans
    ((Finset.sum_ite_eq' Finset.univ (sel (colOf v j) r) fun e => (s (ix2 e j) : EReal)).trans (if_pos (Finset.mem_univ _)))
  rw [lift_eq reduces_S64x512_S512 j e]
  refine (congrArg (fun w => Scalar.select w (s (ix2 e j) : EReal) (Ideal.ofBits .f32 0x00000000#32))
    (hit_drops iota_S64x512_d0_w32 reduces_S64x512_S512 broadcasts_S1x512_S64x512 (by decide) v r e j)).trans ?_
  rw [select_bool, Ideal.ofBits_zero_f32]

/-- The eight entries of every column, one row each. -/
def pickedRows (v s : FVec Ideal S64x512 .f32) : FVec Ideal S8x512 .f32 :=
  concatenate S8x512 0 (List.ofFn fun n : Fin 8 => ⟨S1x512, picked v s n.1⟩)
    concatenates_S1x512_S1x512_S1x512_S1x512_S1x512_S1x512_S1x512_S1x512_S8x512_d0

theorem pickedRows_apply (v s : FVec Ideal S64x512 .f32) (r : Fin 8) (j : Fin 512) :
    (pickedRows v s (ix2 r j) : EReal) = s (ix2 (sel (colOf v j) r.1) j) :=
  (concatenate_ofFn_unit_apply (t := S8x512) (s₁ := S1x512) (0 : Fin 2) (fun n : Fin 8 => picked v s n.1)
    concatenates_S1x512_S1x512_S1x512_S1x512_S1x512_S1x512_S1x512_S1x512_S8x512_d0 rfl rfl (ix2 r j) r rfl
    (ix2 (0 : Fin 1) j) (fun q hq => by
      match q with
      | ⟨0, _⟩ => exact absurd rfl hq
      | ⟨1, _⟩ => rfl)).trans (picked_apply v s r.1 j)

/-- Each entry's share of its column's eight, scaled. -/
def shares (v s : FVec Ideal S64x512 .f32) : FVec Ideal S8x512 .f32 :=
  mulf (divf (pickedRows v s) (broadcastTo S8x512 (shapeCast S1x512
      (multiReduction .add [0] S512 (pickedRows v s) 0x00000000#32 reduces_S8x512_S512 (.inl rfl) rfl) shapeCasts_S512_S1x512) broadcasts_S1x512_S8x512))
    (broadcast S8x512 (Scalar.ofBits (F := Ideal) .f32 0x40200000#32))

/-- The share of one of eight numbers, as the layer scales it. -/
def share (f : Fin 8 → EReal) (r : Fin 8) : EReal := Ideal.div (f r) (∑ q : Fin 8, f q) * Ideal.ofBits .f32 0x40200000#32

theorem shares_apply (v s : FVec Ideal S64x512 .f32) (r : Fin 8) (j : Fin 512) :
    (shares v s (ix2 r j) : EReal) = share (fun q => s (ix2 (sel (colOf v j) q.1) j)) r := by
  have hs : (multiReduction .add [0] S512 (pickedRows v s) 0x00000000#32 reduces_S8x512_S512 (.inl rfl) rfl (ix1 j) : EReal)
      = ∑ q : Fin 8, s (ix2 (sel (colOf v j) q.1) j) :=
    (Ideal.multiReduction_add_single _ _ reduces_S8x512_S512 _ _ (ix1 j)).trans
      (Finset.sum_congr rfl fun q _ => by rw [lift_eq reduces_S8x512_S512 j q]; exact pickedRows_apply v s q j)
  refine congrArg (fun a : EReal => a * Ideal.ofBits .f32 0x40200000#32) ?_
  refine congrArg₂ Ideal.div (pickedRows_apply v s r j) ?_
  rw [row_bcast broadcasts_S1x512_S8x512, row_cast, hs]

section
variable (c : Dev nD) (i : grid0.Coords) (arg1 : Memref sig .tc .vmem S512x2048 .f32) (harg1 : arg1.IsWhole) (arg2 : Memref sig .tc .vmem S64x2048 .f32) (harg2 : arg2.IsWhole) (arg3 : Memref sig .tc .vmem S64x1 .f32) (harg3 : arg3.IsWhole) (arg4 : Memref sig .tc .vmem S8x512 .i32) (harg4 : arg4.IsWhole) (arg5 : Memref sig .tc .vmem S8x512 .f32) (harg5 : arg5.IsWhole) (arg6 : Memref sig .tc .vmem S8x512 .i32) (harg6 : arg6.IsWhole) (arg7 : Memref sig .tc .vmem S64x128 .f32) (harg7 : arg7.IsWhole) (arg8 : Memref sig .tc .vmem S64x128 .f32) (harg8 : arg8.IsWhole)
  (x0 : Vec Ideal S512x2048 .f32) (x1 : Vec Ideal S64x2048 .f32) (x2 : Vec Ideal S64x1 .f32) (xs0 : Vec Ideal S64x128 .f32)

/-- A whole block, read back. -/
def whole {n0 n1 : ℕ} {w : Memref sig .tc .vmem ⟨2, ![n0, n1]⟩ .f32} (hw : w.IsWhole) (x : Vec Ideal ⟨2, ![n0, n1]⟩ .f32)
    (hb : ∀ a, (![0, 0] : Fin 2 → ℕ) a + (⟨2, ![n0, n1]⟩ : Shape).size a ≤ (⟨2, ![n0, n1]⟩ : Shape).size a) : Vec Ideal ⟨2, ![n0, n1]⟩ .f32 :=
  View.readAt (Elt Ideal) w.view (Rect.unit (s := ⟨2, ![n0, n1]⟩) ![0, 0] (⟨2, ![n0, n1]⟩ : Shape).size hb).toLoadRect (hw.unread x)

theorem hz2 : (![0, 0] : Fin 2 → ℕ) = fun _ => 0 := by decide

theorem whole_eq {n0 n1 : ℕ} {w : Memref sig .tc .vmem ⟨2, ![n0, n1]⟩ .f32} (hw : w.IsWhole) (x : Vec Ideal ⟨2, ![n0, n1]⟩ .f32)
    (hb : ∀ a, (![0, 0] : Fin 2 → ℕ) a + (⟨2, ![n0, n1]⟩ : Shape).size a ≤ (⟨2, ![n0, n1]⟩ : Shape).size a) : whole hw x hb = x := by
  unfold whole
  rw [View.readAt_eq_ld, hw.read_unread]
  exact View.ld_unit_zero hz2 _ x

/-- The choices, as the body computes them from its blocks read back. -/
def blockChoice : FVec Ideal S64x512 .f32 := k0_pay4 (F := Ideal) (whole harg2 x1 inb_S64x2048_S64x2048_0_0)
  (whole harg1 x0 inb_S512x2048_S512x2048_0_0) (whole harg3 x2 inb_S64x1_S64x1_0_0)

/-- The scores, likewise. -/
def blockScore : FVec Ideal S64x512 .f32 := k0_pay3 (F := Ideal) (whole harg2 x1 inb_S64x2048_S64x2048_0_0)
  (whole harg1 x0 inb_S512x2048_S512x2048_0_0)

theorem out3A_eq (hc0 : cond0_0 i) : out0_A_3 (F := Ideal) c i arg1 harg1 arg2 harg2 arg3 harg3 arg4 harg4 arg5 harg5 arg6 harg6 arg7 harg7 arg8 harg8 hc0 x0 x1 x2
    = rows8 (masked (k0_pay4 (F := Ideal) x1 x0 x2)) := by
  have h : out0_A_3 (F := Ideal) c i arg1 harg1 arg2 harg2 arg3 harg3 arg4 harg4 arg5 harg5 arg6 harg6 arg7 harg7 arg8 harg8 hc0 x0 x1 x2
      = View.canon [⟨Rect.unit (s := S8x512) ![0, 0] S8x512.size inb_S8x512_S8x512_0_0, rows8 (masked (blockChoice arg1 harg1 arg2 harg2 arg3 harg3 x0 x1 x2))⟩] := by
    unfold out0_A_3
    rw [View.read_writes_eq_canon _ _ _ (cover0_A_3 c i arg1 harg1 arg2 harg2 arg3 harg3 arg4 harg4 arg5 harg5 arg6 harg6 arg7 harg7 arg8 harg8 hc0 x0 x1 x2)]
    refine congrArg View.canon ?_
    sl_kernel_rfl
  rw [h, View.canon_unit_zero hz2]
  unfold blockChoice
  simp only [whole_eq]

theorem out3B_eq (hc0 : ¬cond0_0 i) : out0_B_3 (F := Ideal) c i arg1 harg1 arg2 harg2 arg3 harg3 arg4 harg4 arg5 harg5 arg6 harg6 arg7 harg7 arg8 harg8 hc0 x0 x1 x2 xs0
    = rows8 (masked (k0_pay4 (F := Ideal) x1 x0 x2)) := by
  have h : out0_B_3 (F := Ideal) c i arg1 harg1 arg2 harg2 arg3 harg3 arg4 harg4 arg5 harg5 arg6 harg6 arg7 harg7 arg8 harg8 hc0 x0 x1 x2 xs0
      = View.canon [⟨Rect.unit (s := S8x512) ![0, 0] S8x512.size inb_S8x512_S8x512_0_0, rows8 (masked (blockChoice arg1 harg1 arg2 harg2 arg3 harg3 x0 x1 x2))⟩] := by
    unfold out0_B_3
    rw [View.read_writes_eq_canon _ _ _ (cover0_B_3 c i arg1 harg1 arg2 harg2 arg3 harg3 arg4 harg4 arg5 harg5 arg6 harg6 arg7 harg7 arg8 harg8 hc0 x0 x1 x2 xs0)]
    refine congrArg View.canon ?_
    sl_kernel_rfl
  rw [h, View.canon_unit_zero hz2]
  unfold blockChoice
  simp only [whole_eq]

theorem out4A_eq (hc0 : cond0_0 i) : out0_A_4 (F := Ideal) c i arg1 harg1 arg2 harg2 arg3 harg3 arg4 harg4 arg5 harg5 arg6 harg6 arg7 harg7 arg8 harg8 hc0 x0 x1 x2
    = shares (masked (k0_pay4 (F := Ideal) x1 x0 x2)) (k0_pay3 (F := Ideal) x1 x0) := by
  have h : out0_A_4 (F := Ideal) c i arg1 harg1 arg2 harg2 arg3 harg3 arg4 harg4 arg5 harg5 arg6 harg6 arg7 harg7 arg8 harg8 hc0 x0 x1 x2
      = View.canon [⟨Rect.unit (s := S8x512) ![0, 0] S8x512.size inb_S8x512_S8x512_0_0, shares (masked (blockChoice arg1 harg1 arg2 harg2 arg3 harg3 x0 x1 x2)) (blockScore arg1 harg1 arg2 harg2 x0 x1)⟩] := by
    unfold out0_A_4
    rw [View.read_writes_eq_canon _ _ _ (cover0_A_4 c i arg1 harg1 arg2 harg2 arg3 harg3 arg4 harg4 arg5 harg5 arg6 harg6 arg7 harg7 arg8 harg8 hc0 x0 x1 x2)]
    refine congrArg View.canon ?_
    sl_kernel_rfl
  rw [h, View.canon_unit_zero hz2]
  unfold blockChoice blockScore
  simp only [whole_eq]

theorem out4B_eq (hc0 : ¬cond0_0 i) : out0_B_4 (F := Ideal) c i arg1 harg1 arg2 harg2 arg3 harg3 arg4 harg4 arg5 harg5 arg6 harg6 arg7 harg7 arg8 harg8 hc0 x0 x1 x2 xs0
    = shares (masked (k0_pay4 (F := Ideal) x1 x0 x2)) (k0_pay3 (F := Ideal) x1 x0) := by
  have h : out0_B_4 (F := Ideal) c i arg1 harg1 arg2 harg2 arg3 harg3 arg4 harg4 arg5 harg5 arg6 harg6 arg7 harg7 arg8 harg8 hc0 x0 x1 x2 xs0
      = View.canon [⟨Rect.unit (s := S8x512) ![0, 0] S8x512.size inb_S8x512_S8x512_0_0, shares (masked (blockChoice arg1 harg1 arg2 harg2 arg3 harg3 x0 x1 x2)) (blockScore arg1 harg1 arg2 harg2 x0 x1)⟩] := by
    unfold out0_B_4
    rw [View.read_writes_eq_canon _ _ _ (cover0_B_4 c i arg1 harg1 arg2 harg2 arg3 harg3 arg4 harg4 arg5 harg5 arg6 harg6 arg7 harg7 arg8 harg8 hc0 x0 x1 x2 xs0)]
    refine congrArg View.canon ?_
    sl_kernel_rfl
  rw [h, View.canon_unit_zero hz2]
  unfold blockChoice blockScore
  simp only [whole_eq]

end

/-! ### The choices -/

/-- The logistic function. -/
def prob (l : EReal) : EReal := Ideal.div 1 (1 + Ideal.exp (-l))

/-- Neither infinite. -/
abbrev IsReal (x : EReal) : Prop := ∃ r : ℝ, x = r

theorem sub_zero_of_real {x : EReal} (h : IsReal x) : x - x = 0 := by
  obtain ⟨r, rfl⟩ := h
  rw [← EReal.coe_sub, sub_self]
  rfl

section
variable (x0 : Vec Ideal S512x2048 .f32) (x1 : Vec Ideal S64x2048 .f32) (x2 : Vec Ideal S64x1 .f32)
  (h0 : ∀ j k, IsReal (x0 (ix2 j k))) (h1 : ∀ e k, IsReal (x1 (ix2 e k)))
include h0 h1

/-- On reals the parts of the split add nothing: a score is the logistic function of the plain product. -/
theorem score_eq (e : Fin 64) (j : Fin 512) :
    (k0_pay3 (F := Ideal) x1 x0 (ix2 e j) : EReal) = prob (∑ k : Fin 2048, x0 (ix2 j k) * x1 (ix2 e k)) := by
  unfold k0_pay3 prob
  simp only [pointwise, shapeCast_self, zero_add, zero_sub, sub_zero_of_real (h0 _ _), sub_zero_of_real (h1 _ _), mul_zero, zero_mul,
    Finset.sum_const_zero, add_zero]
  exact congrArg (fun l => Ideal.div 1 (1 + Ideal.exp (-l))) (Finset.sum_congr rfl fun k _ => mul_comm _ _)

theorem choice_eq (e : Fin 64) (j : Fin 512) :
    (k0_pay4 (F := Ideal) x1 x0 x2 (ix2 e j) : EReal) = prob (∑ k : Fin 2048, x0 (ix2 j k) * x1 (ix2 e k)) + x2 (ix2 e 0) := by
  unfold k0_pay4
  rw [← score_eq x0 x1 h0 h1]
  simp only [pointwise, shapeCast_self]
  rfl

end

end Cert.Route

end
-- ==== Proof.RouteKernel.lean ====
/- The experts and the weights the router writes for all tokens: 64 blocks of 512. -/
module

public import proofs.«01_k».proof.Proof.RouteBlock
public import proofs.«01_k».proof.Proof.Gen.Kernel6Ideal.Value

@[expose] public section

noncomputable section

namespace Cert.Route

open Idealize.ShloMosaic Idealize.ShloMosaic.TcCoe Idealize.SL.Sem
open Idealize.ShloMosaic.Pipeline (Dat)
open Cert.Kernel6Ideal Cert.Kernel6Ideal.Gen
open scoped BigOperators

section
variable (X : S32768x2048.Idx → EReal) (W : S4x2048x64.Idx → EReal) (B : S4x64.Idx → EReal)

/-- A token's score of an expert, by the first layer's weights. -/
def tokenScore (T : Fin 32768) (e : Fin 64) : EReal := prob (∑ k : Fin 2048, X (ix2 T k) * W (ix3 0 k e))

/-- A token's choices: the scores plus the first layer's bias. -/
def tokenChoice (T : Fin 32768) (e : Fin 64) : EReal := tokenScore X W T e + B (ix2 0 e)

/-- The experts of all tokens. -/
def experts : S8x32768.Idx → BitVec 32 := fun i => BitVec.ofNat 32 (sel (maskedCol (tokenChoice X W B (i 1))) (i 0).1).1

/-- The weights of all tokens' experts. -/
def weights : S8x32768.Idx → EReal := fun i =>
  share (fun q => tokenScore X W (i 1) (sel (maskedCol (tokenChoice X W B (i 1))) q.1)) (i 0)
end

variable (m : (ℓ : Loc nD τ sig) → Buf (Elt Ideal) ℓ) (c : Dev nD)

/-! ### The operands -/

theorem V_weights (e : Fin 64) (k : Fin 2048) :
    (V m c main_v4 : S64x2048.Idx → EReal) (ix2 e k) = (m (c, main_arg1) : S4x2048x64.Idx → EReal) (ix3 0 k e) := by
  have h : (V m c main_v4 : S64x2048.Idx → EReal) = transpose S64x2048 [1, 0] (shapeCast S2048x64
      (extractStridedSlice S1x2048x64 ![0, 0, 0] (m (c, main_arg1) : S4x2048x64.Idx → EReal) slices_S4x2048x64_S1x2048x64_0_0_0)
      shapeCasts_S1x2048x64_S2048x64) transposes_S2048x64_S64x2048_1_0 := by
    show StableHlo.after hostOps0 (fun b => m (c, b)) _ = _
    after_results <;> rfl
  rw [h]
  have ht : ∀ y : S2048x64.Idx → EReal, transpose S64x2048 [1, 0] y transposes_S2048x64_S64x2048_1_0 (ix2 e k) = y (ix2 k e) := fun y =>
    congrArg y (funext fun a => Fin.ext (match a with
      | ⟨0, _⟩ => rfl
      | ⟨1, _⟩ => rfl))
  rw [ht, shapeCast_apply _ shapeCasts_S1x2048x64_S2048x64 (ix2 k e) (ix3 0 k e) (by
    rewrite [Shape.rowMajor_val_three, Shape.rowMajor_val_two]
    show (0 * 2048 + k.1) * 64 + e.1 = k.1 * 64 + e.1
    omega)]
  exact extractStridedSlice_apply ![0, 0, 0] _ slices_S4x2048x64_S1x2048x64_0_0_0 (ix3 0 k e) (ix3 0 k e) (fun a => match a with
    | ⟨0, _⟩ => rfl
    | ⟨1, _⟩ => (Nat.zero_add _).symm
    | ⟨2, _⟩ => (Nat.zero_add _).symm)

theorem V_bias (e : Fin 64) : (V m c main_v5 : S64x1.Idx → EReal) (ix2 e 0) = (m (c, main_arg2) : S4x64.Idx → EReal) (ix2 0 e) := by
  have h : (V m c main_v5 : S64x1.Idx → EReal) = shapeCast S64x1 (shapeCast S64
      (extractStridedSlice S1x64 ![0, 0] (m (c, main_arg2) : S4x64.Idx → EReal) slices_S4x64_S1x64_0_0) shapeCasts_S1x64_S64) shapeCasts_S64_S64x1 := by
    show StableHlo.after hostOps0 (fun b => m (c, b)) _ = _
    after_results <;> rfl
  rw [h, shapeCast_apply _ shapeCasts_S64_S64x1 (ix2 e 0) (ix1 e) (by
      rewrite [Shape.rowMajor_val_one, Shape.rowMajor_val_two]; show e.val = e.val * 1 + 0; omega),
    shapeCast_apply _ shapeCasts_S1x64_S64 (ix1 e) (ix2 0 e) (by
      rewrite [Shape.rowMajor_val_one, Shape.rowMajor_val_two]; show 0 * 64 + e.val = e.val; omega)]
  exact extractStridedSlice_apply ![0, 0] _ slices_S4x64_S1x64_0_0 (ix2 0 e) (ix2 0 e) (fun a => match a with
    | ⟨0, _⟩ => rfl
    | ⟨1, _⟩ => (Nat.zero_add _).symm)

/-! ### The blocks -/

theorem index0 : ∀ t : Fin grid0.N, win0_0.index t = ![t.val, 0] ∧ win0_1.index t = ![0, 0] ∧ win0_2.index t = ![0, 0]
    ∧ win0_3.index t = ![0, t.val] := by decide +kernel

variable (t : Fin cfg0.N)

/-- Token `j` of block `t`. -/
def tok (j : Fin 512) : Fin 32768 := ⟨512 * t.1 + j.1, by have := t.isLt.trans_eq N_0; omega⟩

theorem win0 (j : Fin 512) (k : Fin 2048) :
    (iblk m c 0 t : S512x2048.Idx → EReal) (ix2 j k) = (m (c, main_arg0) : S32768x2048.Idx → EReal) (ix2 (tok t j) k) := by
  show V m c main_arg0 (((cfg0.win 0).blk t).view.emb _) = _
  rw [V_main_arg0]
  have hi := (index0 t).1
  refine congrArg (m (c, main_arg0)) (funext fun a => Fin.ext ?_)
  match a with
  | ⟨0, _⟩ =>
    show win0_0.index t 0 * 512 + 1 * j.1 = 512 * t.1 + j.1
    rw [hi]
    show t.1 * 512 + 1 * j.1 = 512 * t.1 + j.1
    omega
  | ⟨1, _⟩ =>
    show win0_0.index t 1 * 2048 + 1 * k.1 = k.1
    rw [hi]
    show 0 * 2048 + 1 * k.1 = k.1
    omega

theorem win1 (e : Fin 64) (k : Fin 2048) :
    (iblk m c 1 t : S64x2048.Idx → EReal) (ix2 e k) = (m (c, main_arg1) : S4x2048x64.Idx → EReal) (ix3 0 k e) := by
  refine Eq.trans ?_ (V_weights m c e k)
  show V m c main_v4 (((cfg0.win 1).blk t).view.emb _) = _
  have hi := (index0 t).2.1
  refine congrArg (V m c main_v4) (funext fun a => Fin.ext ?_)
  match a with
  | ⟨0, _⟩ =>
    show win0_1.index t 0 * 64 + 1 * e.1 = e.1
    rw [hi]
    show 0 * 64 + 1 * e.1 = e.1
    omega
  | ⟨1, _⟩ =>
    show win0_1.index t 1 * 2048 + 1 * k.1 = k.1
    rw [hi]
    show 0 * 2048 + 1 * k.1 = k.1
    omega

theorem win2 (e : Fin 64) : (iblk m c 2 t : S64x1.Idx → EReal) (ix2 e 0) = (m (c, main_arg2) : S4x64.Idx → EReal) (ix2 0 e) := by
  refine Eq.trans ?_ (V_bias m c e)
  show V m c main_v5 (((cfg0.win 2).blk t).view.emb _) = _
  have hi := (index0 t).2.2.1
  refine congrArg (V m c main_v5) (funext fun a => Fin.ext ?_)
  match a with
  | ⟨0, _⟩ =>
    show win0_2.index t 0 * 64 + 1 * e.1 = e.1
    rw [hi]
    show 0 * 64 + 1 * e.1 = e.1
    omega
  | ⟨1, _⟩ =>
    show win0_2.index t 1 * 1 + 1 * 0 = 0
    rw [hi]
    rfl

theorem out_at (y : S8x512.Idx) : ((cfg0.win 3).blk t).view.emb y = (ix2 (y 0) (tok t (y 1)) : S8x32768.Idx) := by
  have hi := (index0 t).2.2.2
  refine funext fun a => Fin.ext ?_
  match a with
  | ⟨0, _⟩ =>
    show win0_3.index t 0 * 8 + 1 * (y 0).1 = (y 0).1
    rw [hi]
    show 0 * 8 + 1 * (y 0).1 = (y 0).1
    omega
  | ⟨1, _⟩ =>
    show win0_3.index t 1 * 512 + 1 * (y 1).1 = 512 * t.1 + (y 1).1
    rw [hi]
    show t.1 * 512 + 1 * (y 1).1 = 512 * t.1 + (y 1).1
    omega

theorem out_at4 (y : S8x512.Idx) : ((cfg0.win 4).blk t).view.emb y = (ix2 (y 0) (tok t (y 1)) : S8x32768.Idx) := out_at t y

section
variable (hX : ∀ T k, IsReal ((m (c, main_arg0) : S32768x2048.Idx → EReal) (ix2 T k)))
  (hW : ∀ k e, IsReal ((m (c, main_arg1) : S4x2048x64.Idx → EReal) (ix3 0 k e)))
include hX hW

theorem block_score (e : Fin 64) (j : Fin 512) : (k0_pay3 (F := Ideal) (iblk m c 1 t) (iblk m c 0 t) (ix2 e j) : EReal)
    = tokenScore (m (c, main_arg0)) (m (c, main_arg1)) (tok t j) e := by
  refine (score_eq (iblk m c 0 t) (iblk m c 1 t) (fun j k => ?_) (fun e k => ?_) e j).trans ?_
  · rw [win0]
    exact hX _ _
  · rw [win1]
    exact hW _ _
  · simp only [win0, win1]
    rfl

theorem block_choice (j : Fin 512) : colOf (k0_pay4 (F := Ideal) (iblk m c 1 t) (iblk m c 0 t) (iblk m c 2 t)) j
    = tokenChoice (m (c, main_arg0)) (m (c, main_arg1)) (m (c, main_arg2)) (tok t j) := by
  funext e
  refine (choice_eq (iblk m c 0 t) (iblk m c 1 t) (iblk m c 2 t) (fun j k => ?_) (fun e k => ?_) e j).trans ?_
  · rw [win0]
    exact hX _ _
  · rw [win1]
    exact hW _ _
  · simp only [win0, win1, win2]
    rfl

theorem block_experts (y : S8x512.Idx) : rows8 (masked (k0_pay4 (F := Ideal) (iblk m c 1 t) (iblk m c 0 t) (iblk m c 2 t))) y
    = experts (m (c, main_arg0)) (m (c, main_arg1)) (m (c, main_arg2)) (((cfg0.win 3).blk t).view.emb y) := by
  obtain ⟨r, j, rfl⟩ : ∃ (r : Fin 8) (j : Fin 512), y = ix2 r j := ⟨y 0, y 1, eq_ix2 (n0 := 8) (n1 := 512) y⟩
  rw [out_at, rows8_apply, masked_apply, block_choice m c t hX hW]
  rfl

theorem block_weights (y : S8x512.Idx) :
    shares (masked (k0_pay4 (F := Ideal) (iblk m c 1 t) (iblk m c 0 t) (iblk m c 2 t))) (k0_pay3 (F := Ideal) (iblk m c 1 t) (iblk m c 0 t)) y
    = weights (m (c, main_arg0)) (m (c, main_arg1)) (m (c, main_arg2)) (((cfg0.win 4).blk t).view.emb y) := by
  obtain ⟨r, j, rfl⟩ : ∃ (r : Fin 8) (j : Fin 512), y = ix2 r j := ⟨y 0, y 1, eq_ix2 (n0 := 8) (n1 := 512) y⟩
  rw [out_at4]
  refine (shares_apply _ _ r j).trans ?_
  rw [masked_apply, block_choice m c t hX hW]
  simp only [block_score m c t hX hW]
  rfl

end

variable (hX : ∀ T k, IsReal ((m (c, main_arg0) : S32768x2048.Idx → EReal) (ix2 T k)))
  (hW : ∀ k e, IsReal ((m (c, main_arg1) : S4x2048x64.Idx → EReal) (ix3 0 k e)))
include hX hW

theorem final_experts :
    (dats m 0 c).arrAt 3 cfg0.N = experts (m (c, main_arg0)) (m (c, main_arg1)) (m (c, main_arg2)) := by
  refine (dats m 0 c).arrAt_eq_of_cover 3 _ (fun t _ => ?_) (fun i => (Value.covered_iff3 i).2 ⟨Nat.zero_le _, (i 0).isLt, Nat.zero_le _, (i 1).isLt⟩)
  by_cases h0 : t.val % 64 = 0
  · rw [Value.flushed3_A m c t h0, out3A_eq]
    exact funext fun y => block_experts m c t hX hW y
  · rw [Value.flushed3_B m c t h0, out3B_eq]
    exact funext fun y => block_experts m c t hX hW y

theorem final_weights :
    (dats m 0 c).arrAt 4 cfg0.N = weights (m (c, main_arg0)) (m (c, main_arg1)) (m (c, main_arg2)) := by
  refine (dats m 0 c).arrAt_eq_of_cover 4 _ (fun t _ => ?_) (fun i => (Value.covered_iff4 i).2 ⟨Nat.zero_le _, (i 0).isLt, Nat.zero_le _, (i 1).isLt⟩)
  by_cases h0 : t.val % 64 = 0
  · rw [Value.flushed4_A m c t h0, out4A_eq]
    exact funext fun y => block_weights m c t hX hW y
  · rw [Value.flushed4_B m c t h0, out4B_eq]
    exact funext fun y => block_weights m c t hX hW y

end Cert.Route

end
-- ==== Proof.RouteCount.lean ====
/- How many tokens choose each expert: the counts the router carries from block to block. -/
module

public import proofs.«01_k».proof.Proof.RouteKernel
public import Idealize.ShloMosaic.Lib.IdealHost

@[expose] public section

noncomputable section

namespace Cert.Route

open Idealize.ShloMosaic Idealize.ShloMosaic.TcCoe Idealize.SL.Sem
open Idealize.ShloMosaic.Tactic
open Idealize.ShloMosaic.Pipeline (Dat)
open Cert.Kernel6Ideal Cert.Kernel6Ideal.Gen
open scoped BigOperators

/-! ### The marks of a block -/

/-- The marks of the choices up to number `r`. -/
def marks (v : FVec Ideal S64x512 .f32) : ℕ → IVec S64x512 1
  | 0 => hit64 (drops64 v 0)
  | r + 1 => ori (marks v r) (hit64 (drops64 v (r + 1)))

theorem marks_apply (v : FVec Ideal S64x512 .f32) (r : ℕ) (e : Fin 64) (j : Fin 512) :
    marks v r (ix2 e j) = 1#1 ↔ ∃ i ≤ r, sel (colOf v j) i = e := by
  have h : ∀ i, hit64 (drops64 v i) (ix2 e j) = 1#1 ↔ sel (colOf v j) i = e := fun i => by
    refine (Eq.congr_left (hit_drops iota_S64x512_d0_w32 reduces_S64x512_S512 broadcasts_S1x512_S64x512 (by decide) v i e j)).trans ?_
    rw [WordCmp.ofBool_decide_eq_one_iff, eq_comm]
  have ho : ∀ a b : BitVec 1, IntOp.ori a b = 1#1 ↔ a = 1#1 ∨ b = 1#1 := by decide
  induction r with
  | zero => exact (h 0).trans ⟨fun e => ⟨0, le_rfl, e⟩, fun ⟨i, hi, e⟩ => Nat.le_zero.1 hi ▸ e⟩
  | succ r ih =>
    refine (ho _ _).trans ((or_congr ih (h (r + 1))).trans ⟨?_, ?_⟩)
    · rintro (⟨i, hi, e⟩ | e)
      · exact ⟨i, by omega, e⟩
      · exact ⟨r + 1, le_rfl, e⟩
    · rintro ⟨i, hi, e⟩
      rcases Nat.lt_or_ge r i with h1 | h1
      · exact .inr ((show i = r + 1 by omega) ▸ e)
      · exact .inl ⟨i, h1, e⟩

/-- One where an expert is among the eight choices. -/
def chosen (v : FVec Ideal S64x512 .f32) : FVec Ideal S64x512 .f32 :=
  select (marks v 7) (broadcast S64x512 (Scalar.ofBits (F := Ideal) .f32 0x3F800000#32)) (broadcast S64x512 (Scalar.ofBits (F := Ideal) .f32 0x00000000#32))

theorem chosen_apply (v : FVec Ideal S64x512 .f32) (e : Fin 64) (j : Fin 512) :
    (chosen v (ix2 e j) : EReal) = if ∃ r : Fin 8, sel (colOf v j) r.1 = e then 1 else 0 := by
  show (if marks v 7 (ix2 e j) = 1#1 then Ideal.ofBits .f32 0x3F800000#32 else Ideal.ofBits .f32 0x00000000#32 : EReal) = _
  rw [Ideal.ofBits_one_f32, Ideal.ofBits_zero_f32]
  exact if_congr ((marks_apply v 7 e j).trans ⟨fun ⟨i, hi, h⟩ => ⟨⟨i, by omega⟩, h⟩, fun ⟨r, h⟩ => ⟨r.1, by omega, h⟩⟩) rfl rfl

theorem tally_apply (w : FVec Ideal S64x512 .f32) (xs : Vec Ideal S64x128 .f32) (e : Fin 64) (l : Fin 128) :
    (k0_pay1 (F := Ideal) w xs (ix2 e l) : EReal) = xs (ix2 e l) + ∑ j : Fin 512, (w (ix2 e j) : EReal) := by
  unfold k0_pay1
  rw [shapeCast_self]
  refine congrArg (fun a : EReal => (xs (ix2 e l) : EReal) + a) ?_
  have hb : ∀ x : S64x1.Idx → EReal, broadcastTo S64x128 x broadcasts_S64x1_S64x128 (ix2 e l) = x (ix2 e 0) := fun x => by
    unfold broadcastTo
    refine congrArg x (funext fun a => Fin.ext ?_)
    match a with
    | ⟨0, _⟩ => rfl
    | ⟨1, _⟩ => rfl
  refine (hb _).trans ((shapeCast_apply _ shapeCasts_S64_S64x1 (ix2 e 0) (ix1 e) (by
    rewrite [Shape.rowMajor_val_one, Shape.rowMajor_val_two]; show e.val = e.val * 1 + 0; omega)).trans ?_)
  refine (Ideal.multiReduction_add_single _ _ reduces_S64x512_S64 _ _ (ix1 e)).trans (Finset.sum_congr rfl fun j _ => congrArg w (funext fun a => ?_))
  match a with
  | ⟨0, _⟩ => rfl
  | ⟨1, _⟩ => rfl

section
variable (c : Dev nD) (i : grid0.Coords) (arg1 : Memref sig .tc .vmem S512x2048 .f32) (harg1 : arg1.IsWhole) (arg2 : Memref sig .tc .vmem S64x2048 .f32) (harg2 : arg2.IsWhole) (arg3 : Memref sig .tc .vmem S64x1 .f32) (harg3 : arg3.IsWhole) (arg4 : Memref sig .tc .vmem S8x512 .i32) (harg4 : arg4.IsWhole) (arg5 : Memref sig .tc .vmem S8x512 .f32) (harg5 : arg5.IsWhole) (arg6 : Memref sig .tc .vmem S8x512 .i32) (harg6 : arg6.IsWhole) (arg7 : Memref sig .tc .vmem S64x128 .f32) (harg7 : arg7.IsWhole) (arg8 : Memref sig .tc .vmem S64x128 .f32) (harg8 : arg8.IsWhole)
  (x0 : Vec Ideal S512x2048 .f32) (x1 : Vec Ideal S64x2048 .f32) (x2 : Vec Ideal S64x1 .f32) (xs0 : Vec Ideal S64x128 .f32)

/-- The whole of the carried block. -/
abbrev allCounts : Rect S64x128 := Rect.unit (s := S64x128) ![0, 0] S64x128.size inb_S64x128_S64x128_0_0

theorem carryA_eq (hc0 : cond0_0 i) : sout0_A_0 (F := Ideal) c i arg1 harg1 arg2 harg2 arg3 harg3 arg4 harg4 arg5 harg5 arg6 harg6 arg7 harg7 arg8 harg8 hc0 x0 x1 x2
    = k0_pay1 (F := Ideal) (chosen (masked (k0_pay4 (F := Ideal) x1 x0 x2))) (k0_pay2 (F := Ideal)) := by
  have h : sout0_A_0 (F := Ideal) c i arg1 harg1 arg2 harg2 arg3 harg3 arg4 harg4 arg5 harg5 arg6 harg6 arg7 harg7 arg8 harg8 hc0 x0 x1 x2
      = View.canon [⟨allCounts, k0_pay1 (F := Ideal) (chosen (masked (blockChoice arg1 harg1 arg2 harg2 arg3 harg3 x0 x1 x2)))
          (View.readCov arg8.view [⟨allCounts, k0_pay2 (F := Ideal)⟩] allCounts.toLoadRect)⟩, ⟨allCounts, k0_pay2 (F := Ideal)⟩] := by
    unfold sout0_A_0
    rw [View.read_writes_junk_eq_canon]
    refine congrArg View.canon ?_
    sl_kernel_rfl
  rw [h, View.canon_cons_unit_zero hz2, View.readCov_unit_zero _ hz2]
  unfold blockChoice
  simp only [whole_eq]

theorem carryB_eq (hc0 : ¬cond0_0 i) : sout0_B_0 (F := Ideal) c i arg1 harg1 arg2 harg2 arg3 harg3 arg4 harg4 arg5 harg5 arg6 harg6 arg7 harg7 arg8 harg8 hc0 x0 x1 x2 xs0
    = k0_pay1 (F := Ideal) (chosen (masked (k0_pay4 (F := Ideal) x1 x0 x2))) xs0 := by
  have h : sout0_B_0 (F := Ideal) c i arg1 harg1 arg2 harg2 arg3 harg3 arg4 harg4 arg5 harg5 arg6 harg6 arg7 harg7 arg8 harg8 hc0 x0 x1 x2 xs0
      = View.canon [⟨allCounts, k0_pay1 (F := Ideal) (chosen (masked (blockChoice arg1 harg1 arg2 harg2 arg3 harg3 x0 x1 x2)))
          (whole harg8 xs0 inb_S64x128_S64x128_0_0)⟩] := by
    unfold sout0_B_0
    rw [View.read_writes_junk_eq_canon]
    refine congrArg View.canon ?_
    sl_kernel_rfl
  rw [h, View.canon_unit_zero hz2]
  unfold blockChoice
  simp only [whole_eq]

theorem out6B_eq (hc0 : ¬cond0_0 i) : out0_B_6 (F := Ideal) c i arg1 harg1 arg2 harg2 arg3 harg3 arg4 harg4 arg5 harg5 arg6 harg6 arg7 harg7 arg8 harg8 hc0 x0 x1 x2 xs0
    = k0_pay1 (F := Ideal) (chosen (masked (k0_pay4 (F := Ideal) x1 x0 x2))) xs0 := by
  have h : out0_B_6 (F := Ideal) c i arg1 harg1 arg2 harg2 arg3 harg3 arg4 harg4 arg5 harg5 arg6 harg6 arg7 harg7 arg8 harg8 hc0 x0 x1 x2 xs0
      = View.canon [⟨allCounts, View.readCov arg8.view [⟨allCounts, k0_pay1 (F := Ideal)
          (chosen (masked (blockChoice arg1 harg1 arg2 harg2 arg3 harg3 x0 x1 x2))) (whole harg8 xs0 inb_S64x128_S64x128_0_0)⟩] allCounts.toLoadRect⟩] := by
    unfold out0_B_6
    rw [View.read_writes_eq_canon _ _ _ (cover0_B_6 c i arg1 harg1 arg2 harg2 arg3 harg3 arg4 harg4 arg5 harg5 arg6 harg6 arg7 harg7 arg8 harg8 hc0 x0 x1 x2 xs0)]
    refine congrArg View.canon ?_
    sl_kernel_rfl
  rw [h, View.canon_unit_zero hz2, View.readCov_unit_zero _ hz2]
  unfold blockChoice
  simp only [whole_eq]

end

/-! ### The counts of all blocks -/

section
variable (X : S32768x2048.Idx → EReal) (W : S4x2048x64.Idx → EReal) (B : S4x64.Idx → EReal)

/-- One if a token chooses an expert. -/
def picks (T : Fin 32768) (e : Fin 64) : EReal := if ∃ r : Fin 8, sel (maskedCol (tokenChoice X W B T)) r.1 = e then 1 else 0

/-- How many tokens choose each expert, the same in every lane. -/
def counts : S64x128.Idx → EReal := fun i => ∑ T : Fin 32768, picks X W B T (i 0)

theorem counts_apply (e : Fin 64) (l : Fin 128) : counts X W B (ix2 e l) = ∑ T : Fin 32768, picks X W B T e := rfl

/-- How many of the first `n` tokens choose an expert. -/
def upTo (n : ℕ) (e : Fin 64) : EReal := ∑ T ∈ Finset.range n, if h : T < 32768 then picks X W B ⟨T, h⟩ e else 0

theorem upTo_all (n : ℕ) (hn : n = 32768) (e : Fin 64) : upTo X W B n e = ∑ T : Fin 32768, picks X W B T e := by
  subst hn
  exact (Finset.sum_range _).trans (Finset.sum_congr rfl fun T _ => dif_pos T.2)

theorem upTo_block (t : Fin cfg0.N) (e : Fin 64) :
    upTo X W B (512 * t.1 + 512) e = upTo X W B (512 * t.1) e + ∑ j : Fin 512, picks X W B (tok t j) e := by
  unfold upTo
  rw [Finset.sum_range_add]
  exact congrArg _ ((Finset.sum_range _).trans (Finset.sum_congr rfl fun j _ => dif_pos (tok t j).2))
end

variable (m : (ℓ : Loc nD τ sig) → Buf (Elt Ideal) ℓ) (c : Dev nD)
  (hX : ∀ T k, IsReal ((m (c, main_arg0) : S32768x2048.Idx → EReal) (ix2 T k)))
  (hW : ∀ k e, IsReal ((m (c, main_arg1) : S4x2048x64.Idx → EReal) (ix3 0 k e)))
include hX hW

theorem tally_block (t : Fin cfg0.N) (xs : Vec Ideal S64x128 .f32) (e : Fin 64) (l : Fin 128)
    (h : (xs (ix2 e l) : EReal) = upTo (m (c, main_arg0)) (m (c, main_arg1)) (m (c, main_arg2)) (512 * t.1) e) :
    (k0_pay1 (F := Ideal) (chosen (masked (k0_pay4 (F := Ideal) (iblk m c 1 t) (iblk m c 0 t) (iblk m c 2 t)))) xs (ix2 e l) : EReal)
      = upTo (m (c, main_arg0)) (m (c, main_arg1)) (m (c, main_arg2)) (512 * t.1 + 512) e := by
  rw [tally_apply, h, upTo_block]
  refine congrArg _ (Finset.sum_congr rfl fun j _ => ?_)
  rw [chosen_apply, masked_apply, block_choice m c t hX hW]
  rfl

theorem carried (n : ℕ) (hn : n < cfg0.N) (e : Fin 64) (l : Fin 128) : ((outsAt0 m c n hn).2.2.2.2 (ix2 e l) : EReal)
    = upTo (m (c, main_arg0)) (m (c, main_arg1)) (m (c, main_arg2)) (512 * n + 512) e := by
  induction n with
  | zero =>
    rw [outsAt0_A m c ⟨0, hn⟩ (Nat.zero_mod _)]
    dsimp only
    rw [carryA_eq]
    refine tally_block m c hX hW ⟨0, hn⟩ _ e l ?_
    unfold k0_pay2
    rw [shapeCast_self]
    exact Ideal.ofBits_zero_f32
  | succ n ih =>
    have hN := hn.trans_eq N_0
    rw [outsAt0_B m c ⟨n + 1, hn⟩ (by show ¬(n + 1) % 64 = 0; omega)]
    dsimp only
    rw [carryB_eq]
    exact tally_block m c hX hW ⟨n + 1, hn⟩ _ e l (ih _)

theorem final_counts : (dats m 0 c).arrAt 6 cfg0.N = counts (m (c, main_arg0)) (m (c, main_arg1)) (m (c, main_arg2)) := by
  refine (dats m 0 c).arrAt_eq_of_cover 6 _ (fun t hf => ?_) (fun i => (Value.covered_iff6 i).2 ⟨Nat.zero_le _, (i 0).isLt, Nat.zero_le _, (i 1).isLt⟩)
  have hN := t.isLt.trans_eq N_0
  have ht : t.val % 64 = 63 := (flush0_6 t).mp hf
  have h0 : ¬t.val % 64 = 0 := by omega
  rw [Value.flushed6_B m c t h0, out6B_eq]
  refine funext fun y => ?_
  obtain ⟨e, l, rfl⟩ : ∃ (e : Fin 64) (l : Fin 128), y = ix2 e l := ⟨y 0, y 1, eq_ix2 (n0 := 64) (n1 := 128) y⟩
  refine (tally_block m c hX hW t _ e l ((carried m c hX hW _ _ e l).trans ?_)).trans ?_
  · rw [show 512 * (t.val - 1) + 512 = 512 * t.val by omega]
  · have he : ((cfg0.win 6).blk t).view.emb (ix2 e l) = (ix2 e l : S64x128.Idx) := funext fun a => Fin.ext (by
      obtain ⟨-, e1, -, e3, -⟩ := Value.idx_facts6 t
      match a with
      | ⟨0, _⟩ => show win0_6.index t 0 * 64 + 1 * e.1 = e.1; rw [Nat.le_zero.1 e1]; omega
      | ⟨1, _⟩ => show win0_6.index t 1 * 128 + 1 * l.1 = l.1; rw [Nat.le_zero.1 e3]; omega)
    have hn : 512 * t.val + 512 = 32768 := by omega
    have hr : ∀ G : S64x128.Idx → EReal, G (ix2 e l) = View.read (Elt Ideal) ((cfg0.win 6).blk t).view G (ix2 e l) := fun G => (congrArg G he).symm
    exact ((upTo_all _ _ _ _ hn e).trans (counts_apply _ _ _ e l).symm).trans (hr _)

end Cert.Route

end
-- ==== Proof.RouteRank.lean ====
/- The rank of a token among those of its expert: how many earlier tokens choose the expert. -/
module

public import proofs.«01_k».proof.Proof.RouteCount
public import Idealize.ShloMosaic.Lib.MatmulPlain

@[expose] public section

noncomputable section

namespace Cert.Route

open Idealize.ShloMosaic Idealize.ShloMosaic.TcCoe Idealize.SL.Sem
open Idealize.ShloMosaic.Tactic
open Idealize.ShloMosaic.Pipeline (Dat)
open Cert.Kernel6Ideal Cert.Kernel6Ideal.Gen
open scoped BigOperators

/-- A sum of which the first `n` terms are kept. -/
theorem sum_first (N n : ℕ) (h : n ≤ N) (g : ℕ → EReal) :
    (∑ k : Fin N, g k.1 * (if k.1 < n then 1 else 0)) = ∑ k ∈ Finset.range n, g k := by
  refine (Finset.sum_range fun k => g k * (if k < n then 1 else 0)).symm.trans (Eq.symm ?_)
  refine (Finset.sum_congr rfl fun k hk => ?_).trans (Finset.sum_subset (Finset.range_mono h) fun k _ hk => ?_)
  · rw [if_pos (Finset.mem_range.1 hk), mul_one]
  · rw [if_neg fun h => hk (Finset.mem_range.2 h), mul_zero]

/-! ### The ranks within a block -/

/-- One where the row's token comes before the column's. -/
def sooner : FVec Ideal S512x512 .f32 :=
  select (cmpi .slt (iota .tc S512x512 32 [0] iota_S512x512_d0_w32) (iota .tc S512x512 32 [1] iota_S512x512_d1_w32))
    (broadcast S512x512 (Scalar.ofBits (F := Ideal) .f32 0x3F800000#32)) (broadcast S512x512 (Scalar.ofBits (F := Ideal) .f32 0x00000000#32))

theorem sooner_apply (k j : Fin 512) : (sooner (ix2 k j) : EReal) = if k.1 < j.1 then 1 else 0 := by
  have h : IntOp.cmpi .slt (iota .tc S512x512 32 [0] iota_S512x512_d0_w32 (ix2 k j)) (iota .tc S512x512 32 [1] iota_S512x512_d1_w32 (ix2 k j))
      = BitVec.ofBool (decide (k.1 < j.1)) := by
    refine (congrArg₂ (IntOp.cmpi .slt) (show _ = BitVec.ofNat 32 k.1 from ?_) (show _ = BitVec.ofNat 32 j.1 from ?_)).trans
      (WordCmp.cmpi_slt_ofNat (by omega) (by omega))
    · show BitVec.ofNat 32 (0 * 512 + k.1) = _
      rw [Nat.zero_mul, Nat.zero_add]
    · show BitVec.ofNat 32 (0 * 512 + j.1) = _
      rw [Nat.zero_mul, Nat.zero_add]
  refine (congrArg (fun w => Scalar.select w (Ideal.ofBits .f32 0x3F800000#32) (Ideal.ofBits .f32 0x00000000#32)) h).trans ?_
  rw [select_bool, Ideal.ofBits_one_f32, Ideal.ofBits_zero_f32]

/-- What was carried, plus the marks of the block's earlier tokens. -/
def before (w : FVec Ideal S64x512 .f32) (b : Vec Ideal S64x1 .f32) : FVec Ideal S64x512 .f32 :=
  addf (broadcastTo S64x512 b broadcasts_S64x1_S64x512) (matmul dot_S64x512_S512x512_S64x512_1_0_0_1_n_n none
    (truncf .bf16 w bitsLt_bf16_f32) (truncf .bf16 sooner bitsLt_bf16_f32) (constant S64x512 .f32 0x00000000#32))

theorem before_apply (w : FVec Ideal S64x512 .f32) (b : Vec Ideal S64x1 .f32) (e : Fin 64) (j : Fin 512) :
    (before w b (ix2 e j) : EReal) = b (ix2 e 0) + ∑ k : Fin 512, (w (ix2 e k) : EReal) * (if k.1 < j.1 then 1 else 0) := by
  unfold before
  simp only [pointwise, zero_add, sooner_apply]
  rfl

/-- The ranks of a block's choices. -/
def ranks8 (v : FVec Ideal S64x512 .f32) (b : Vec Ideal S64x1 .f32) : IVec S8x512 32 := fptosi 32 (pickedRows v (before (chosen v) b))

section
variable (c : Dev nD) (i : grid0.Coords) (arg1 : Memref sig .tc .vmem S512x2048 .f32) (harg1 : arg1.IsWhole) (arg2 : Memref sig .tc .vmem S64x2048 .f32) (harg2 : arg2.IsWhole) (arg3 : Memref sig .tc .vmem S64x1 .f32) (harg3 : arg3.IsWhole) (arg4 : Memref sig .tc .vmem S8x512 .i32) (harg4 : arg4.IsWhole) (arg5 : Memref sig .tc .vmem S8x512 .f32) (harg5 : arg5.IsWhole) (arg6 : Memref sig .tc .vmem S8x512 .i32) (harg6 : arg6.IsWhole) (arg7 : Memref sig .tc .vmem S64x128 .f32) (harg7 : arg7.IsWhole) (arg8 : Memref sig .tc .vmem S64x128 .f32) (harg8 : arg8.IsWhole)
  (x0 : Vec Ideal S512x2048 .f32) (x1 : Vec Ideal S64x2048 .f32) (x2 : Vec Ideal S64x1 .f32) (xs0 : Vec Ideal S64x128 .f32)

/-- The first lane of the carried block. -/
abbrev firstLane : Rect S64x128 := Rect.unit (s := S64x128) ![0, 0] S64x1.size inb_S64x128_S64x1_0_0

theorem firstLane_apply (xs : Vec Ideal S64x128 .f32) (e : Fin 64) : (View.ld xs firstLane : Vec Ideal S64x1 .f32) (ix2 e 0) = xs (ix2 e 0) :=
  congrArg xs (funext fun a => Fin.ext (match a with
    | ⟨0, _⟩ => show 0 + 1 * e.1 = e.1 by omega
    | ⟨1, _⟩ => rfl))

theorem out5A_eq (hc0 : cond0_0 i) : out0_A_5 (F := Ideal) c i arg1 harg1 arg2 harg2 arg3 harg3 arg4 harg4 arg5 harg5 arg6 harg6 arg7 harg7 arg8 harg8 hc0 x0 x1 x2
    = ranks8 (masked (k0_pay4 (F := Ideal) x1 x0 x2)) (View.ld (k0_pay2 (F := Ideal)) firstLane) := by
  have h : out0_A_5 (F := Ideal) c i arg1 harg1 arg2 harg2 arg3 harg3 arg4 harg4 arg5 harg5 arg6 harg6 arg7 harg7 arg8 harg8 hc0 x0 x1 x2
      = View.canon [⟨Rect.unit (s := S8x512) ![0, 0] S8x512.size inb_S8x512_S8x512_0_0, ranks8 (masked (blockChoice arg1 harg1 arg2 harg2 arg3 harg3 x0 x1 x2))
          (View.readCov arg8.view [⟨allCounts, k0_pay2 (F := Ideal)⟩] firstLane.toLoadRect)⟩] := by
    unfold out0_A_5
    rw [View.read_writes_eq_canon _ _ _ (cover0_A_5 c i arg1 harg1 arg2 harg2 arg3 harg3 arg4 harg4 arg5 harg5 arg6 harg6 arg7 harg7 arg8 harg8 hc0 x0 x1 x2)]
    refine congrArg View.canon ?_
    sl_kernel_rfl
  rw [h, View.canon_unit_zero hz2, View.readCov_eq_canon', View.canon_unit_zero hz2]
  unfold blockChoice
  simp only [whole_eq]

theorem out5B_eq (hc0 : ¬cond0_0 i) : out0_B_5 (F := Ideal) c i arg1 harg1 arg2 harg2 arg3 harg3 arg4 harg4 arg5 harg5 arg6 harg6 arg7 harg7 arg8 harg8 hc0 x0 x1 x2 xs0
    = ranks8 (masked (k0_pay4 (F := Ideal) x1 x0 x2)) (View.ld xs0 firstLane) := by
  have h : out0_B_5 (F := Ideal) c i arg1 harg1 arg2 harg2 arg3 harg3 arg4 harg4 arg5 harg5 arg6 harg6 arg7 harg7 arg8 harg8 hc0 x0 x1 x2 xs0
      = View.canon [⟨Rect.unit (s := S8x512) ![0, 0] S8x512.size inb_S8x512_S8x512_0_0, ranks8 (masked (blockChoice arg1 harg1 arg2 harg2 arg3 harg3 x0 x1 x2))
          (View.readAt (Elt Ideal) arg8.view firstLane.toLoadRect (harg8.unread xs0))⟩] := by
    unfold out0_B_5
    rw [View.read_writes_eq_canon _ _ _ (cover0_B_5 c i arg1 harg1 arg2 harg2 arg3 harg3 arg4 harg4 arg5 harg5 arg6 harg6 arg7 harg7 arg8 harg8 hc0 x0 x1 x2 xs0)]
    refine congrArg View.canon ?_
    sl_kernel_rfl
  rw [h, View.canon_unit_zero hz2, View.readAt_eq_ld, harg8.read_unread]
  unfold blockChoice
  simp only [whole_eq]

end

/-! ### The ranks of all blocks -/

section
variable (X : S32768x2048.Idx → EReal) (W : S4x2048x64.Idx → EReal) (B : S4x64.Idx → EReal)

/-- How many earlier tokens choose the expert that a token chooses in place `r`, as a word. -/
def rank (r : Fin 8) (T : Fin 32768) : BitVec 32 :=
  FloatOps.fptosi (F := Ideal) (φ := .f32) 32 (upTo X W B T.1 (sel (maskedCol (tokenChoice X W B T)) r.1))

/-- The ranks of all tokens' choices. -/
def ranks : S8x32768.Idx → BitVec 32 := fun i => rank X W B (i 0) (i 1)

theorem upTo_within (t : Fin cfg0.N) (j : Fin 512) (e : Fin 64) :
    upTo X W B (tok t j).1 e = upTo X W B (512 * t.1) e + ∑ k : Fin 512, picks X W B (tok t k) e * (if k.1 < j.1 then 1 else 0) := by
  unfold upTo
  show (∑ T ∈ Finset.range (512 * t.1 + j.1), _) = _
  rw [Finset.sum_range_add]
  refine congrArg _ ((sum_first 512 j.1 j.2.le (fun k => if h : 512 * t.1 + k < 32768 then picks X W B ⟨512 * t.1 + k, h⟩ e else 0)).symm.trans
    (Finset.sum_congr rfl fun k _ => ?_))
  rw [dif_pos (show 512 * t.1 + k.1 < 32768 from (tok t k).2)]
  rfl
end

variable (m : (ℓ : Loc nD τ sig) → Buf (Elt Ideal) ℓ) (c : Dev nD)

theorem out_at5 (t : Fin cfg0.N) (y : S8x512.Idx) : ((cfg0.win 5).blk t).view.emb y = (ix2 (y 0) (tok t (y 1)) : S8x32768.Idx) := out_at t y

variable (hX : ∀ T k, IsReal ((m (c, main_arg0) : S32768x2048.Idx → EReal) (ix2 T k)))
  (hW : ∀ k e, IsReal ((m (c, main_arg1) : S4x2048x64.Idx → EReal) (ix3 0 k e)))
include hX hW

theorem block_ranks (t : Fin cfg0.N) (b : Vec Ideal S64x1 .f32)
    (hb : ∀ e, (b (ix2 e 0) : EReal) = upTo (m (c, main_arg0)) (m (c, main_arg1)) (m (c, main_arg2)) (512 * t.1) e) (y : S8x512.Idx) :
    ranks8 (masked (k0_pay4 (F := Ideal) (iblk m c 1 t) (iblk m c 0 t) (iblk m c 2 t))) b y
      = ranks (m (c, main_arg0)) (m (c, main_arg1)) (m (c, main_arg2)) (((cfg0.win 5).blk t).view.emb y) := by
  obtain ⟨r, j, rfl⟩ : ∃ (r : Fin 8) (j : Fin 512), y = ix2 r j := ⟨y 0, y 1, eq_ix2 (n0 := 8) (n1 := 512) y⟩
  rw [out_at5]
  show FloatOps.fptosi (F := Ideal) (φ := .f32) 32 _ = rank _ _ _ r (tok t j)
  unfold rank
  refine congrArg (FloatOps.fptosi (F := Ideal) (φ := .f32) 32) ?_
  refine (pickedRows_apply _ _ r j).trans ?_
  rw [masked_apply, block_choice m c t hX hW, before_apply, hb, upTo_within]
  refine congrArg _ (Finset.sum_congr rfl fun k _ => congrArg (fun a : EReal => a * _) ?_)
  rw [chosen_apply, masked_apply, block_choice m c t hX hW]
  rfl

theorem final_ranks : (dats m 0 c).arrAt 5 cfg0.N = ranks (m (c, main_arg0)) (m (c, main_arg1)) (m (c, main_arg2)) := by
  refine (dats m 0 c).arrAt_eq_of_cover 5 _ (fun t _ => ?_) (fun i => (Value.covered_iff5 i).2 ⟨Nat.zero_le _, (i 0).isLt, Nat.zero_le _, (i 1).isLt⟩)
  have hN := t.isLt.trans_eq N_0
  by_cases h0 : t.val % 64 = 0
  · rw [Value.flushed5_A m c t h0, out5A_eq]
    refine funext fun y => block_ranks m c hX hW t _ (fun e => (firstLane_apply _ e).trans ?_) y
    rw [show 512 * t.val = 0 by omega]
    unfold k0_pay2
    rw [shapeCast_self]
    exact Ideal.ofBits_zero_f32
  · rw [Value.flushed5_B m c t h0, out5B_eq]
    refine funext fun y => block_ranks m c hX hW t _ (fun e => (firstLane_apply _ e).trans ((carried m c hX hW _ _ e 0).trans ?_)) y
    rw [show 512 * (t.val - 1) + 512 = 512 * t.val by omega]

end Cert.Route

end
-- ==== Proof.RouteRef.lean ====
/- The reference's choice of experts: its three sorts read as repeated choices. -/
module

public import proofs.«01_k».proof.Defs
public import proofs.«01_k».proof.Proof.RoutePieces
public import proofs.«01_k».proof.Proof.Gen.Reference6Ideal.Read
public import Idealize.ShloMosaic.Lib.TotalOrder
public import Idealize.ShloMosaic.Lib.ReduceAll

@[expose] public section

noncomputable section

namespace Cert.Route

open Idealize.ShloMosaic Idealize.ShloMosaic.TcCoe
open Cert.Reference6Ideal Cert.Reference6Ideal.Gen Cert.Reference6Ideal.Read
open scoped BigOperators

theorem before_eq (a b : EReal) : (FloatOps.cmpfTotal (F := Ideal) (φ := .f32) .gt a b == 1#1) = decide (b < a) := by
  show (BitVec.ofBool (decide (b < a)) == 1#1) = _
  by_cases h : b < a <;> simp [h]

/-- The positions a selection along the last axis of a matrix takes. -/
theorem topK_matrix {N n k : ℕ} [NeZero n] (x : FVec Ideal ⟨2, ![N, n]⟩ .f32)
    (h : (⟨2, ![N, n]⟩ : Shape).Slices (fun _ => 0) ⟨2, ![N, k]⟩) (hk : k ≤ n) (T : Fin N) (r : Fin k)
    (hf : ∀ e, ⊥ < (x (ix2 T e) : EReal)) :
    (Host.topK (s := ⟨2, ![N, n]⟩) ⟨2, ![N, k]⟩ 1 (FloatOps.cmpfTotal (F := Ideal) (φ := .f32) .gt) x h).2 (ix2 T r)
      = BitVec.ofNat 32 (sel (fun e => (x (ix2 T e) : EReal)) r.1).1 := by
  unfold Host.topK
  dsimp only
  refine (extractStridedSlice_apply (fun _ => 0) _ h (ix2 T r) (ix2 T (r.castLE hk)) (fun a => match a with
    | ⟨0, _⟩ => (Nat.zero_add _).symm
    | ⟨1, _⟩ => (Nat.zero_add _).symm)).trans ?_
  refine congrArg (fun e : Fin n => BitVec.ofNat 32 e.1) (sortedFrom_sel (fun e => (x (ix2 T e) : EReal)) hf _ (fun a b => ?_) (r.castLE hk))
  refine (before_eq _ _).trans ?_
  have e : ∀ c : Fin n, (ix2 T (r.castLE hk) : (⟨2, ![N, n]⟩ : Shape).Idx).along 1 c = ix2 T c := fun c => funext fun a => by
    match a with
    | ⟨0, _⟩ => rfl
    | ⟨1, _⟩ => rfl
  exact decide_eq_decide.mpr (by rw [← e a, ← e b]; rfl)

/-- The entries a selection along the last axis of a stack of matrices takes. -/
theorem topK_stack {N m n k : ℕ} [NeZero n] (x : FVec Ideal ⟨3, ![N, m, n]⟩ .f32)
    (h : (⟨3, ![N, m, n]⟩ : Shape).Slices (fun _ => 0) ⟨3, ![N, m, k]⟩) (hk : k ≤ n) (T : Fin N) (g : Fin m) (r : Fin k)
    (hf : ∀ e, ⊥ < (x (ix3 T g e) : EReal)) :
    ((Host.topK (s := ⟨3, ![N, m, n]⟩) ⟨3, ![N, m, k]⟩ 2 (FloatOps.cmpfTotal (F := Ideal) (φ := .f32) .gt) x h).1 (ix3 T g r) : EReal)
      = x (ix3 T g (sel (fun e => (x (ix3 T g e) : EReal)) r.1)) := by
  unfold Host.topK
  dsimp only
  refine (extractStridedSlice_apply (fun _ => 0) _ h (ix3 T g r) (ix3 T g (r.castLE hk)) (fun a => match a with
    | ⟨0, _⟩ => (Nat.zero_add _).symm
    | ⟨1, _⟩ => (Nat.zero_add _).symm
    | ⟨2, _⟩ => (Nat.zero_add _).symm)).trans ?_
  have e : ∀ c : Fin n, (ix3 T g (r.castLE hk) : (⟨3, ![N, m, n]⟩ : Shape).Idx).along 2 c = ix3 T g c := fun c => funext fun a => by
    match a with
    | ⟨0, _⟩ => rfl
    | ⟨1, _⟩ => rfl
    | ⟨2, _⟩ => rfl
  show x ((ix3 T g (r.castLE hk) : (⟨3, ![N, m, n]⟩ : Shape).Idx).along 2 (sortedFrom _ (r.castLE hk))) = _
  refine (congrArg x (e _)).trans ?_
  refine congrArg (fun c : Fin n => x (ix3 T g c)) (sortedFrom_sel (fun e => (x (ix3 T g e) : EReal)) hf _ (fun a b => ?_) (r.castLE hk))
  refine (before_eq _ _).trans ?_
  exact decide_eq_decide.mpr (by rw [← e a, ← e b]; rfl)

theorem fold_or {ι : Type} [DecidableEq ι] (s : Finset ι) (p : ι → Prop) [DecidablePred p] :
    s.fold IntOp.ori 0#1 (fun k => BitVec.ofBool (decide (p k))) = BitVec.ofBool (decide (∃ k ∈ s, p k)) := by
  induction s using Finset.induction_on with
  | empty => simp
  | insert a s ha ih =>
    rw [Finset.fold_insert ha, ih]
    have ho : ∀ p q : Bool, IntOp.ori (BitVec.ofBool p) (BitVec.ofBool q) = BitVec.ofBool (p || q) := by decide
    rw [ho]
    refine congrArg BitVec.ofBool ?_
    rw [Bool.eq_iff_iff]
    simp

theorem mark_low : (⊥ : EReal) < Ideal.ofBits .f32 0xF149F2CA#32 := by
  simp only [Ideal.ofBits, Ideal.ieee]
  norm_num [-EReal.coe_neg, -EReal.coe_mul]
  exact EReal.bot_lt_coe _

section
variable {f : Fin 64 → EReal} (hf : ∀ e, ⊥ < f e)
include hf

theorem scores_low (g : Fin 8) : ⊥ < scores f g := by
  unfold scores
  rw [show nexts (fun k => f (mem g k)) 1 (sel (fun k => f (mem g k)) 1) = f (mem g (sel (fun k => f (mem g k)) 1)) from
    nexts_sel (fun k => f (mem g k)) (fun k => hf _) 1 (by decide)]
  exact EReal.bot_lt_add_iff.mpr ⟨hf _, hf _⟩

theorem maskedCol_low (e : Fin 64) : ⊥ < maskedCol f e := by
  unfold maskedCol
  split
  · exact hf e
  · exact mark_low
end

section
variable (x0 : FVec Ideal S32768x2048 .f32) (x1 : FVec Ideal S4x2048x64 .f32) (x2 : FVec Ideal S4x64 .f32)

/-- The reference's choices for one token. -/
def choice (T : Fin 32768) : Fin 64 → EReal := fun e => val_main_v13 (F := Ideal) x0 x1 x2 (ix2 T e)

variable (T : Fin 32768) (hf : ∀ e, ⊥ < choice x0 x1 x2 T e)

theorem v14_eq (g k : Fin 8) : (val_main_v14 (F := Ideal) x0 x1 x2 (ix3 T g k) : EReal) = choice x0 x1 x2 T (mem g k) := by
  rw [val_main_v14_apply]
  refine congrArg (val_main_v13 (F := Ideal) x0 x1 x2) (funext fun a => Fin.ext ?_)
  match a with
  | ⟨0, _⟩ => show ((T.1 * 8 + g.1) * 8 + k.1) / 64 = T.1; omega
  | ⟨1, _⟩ => show ((T.1 * 8 + g.1) * 8 + k.1) % 64 = 8 * g.1 + k.1; omega

include hf

theorem v15_eq (g : Fin 8) : (val_main_v15 (F := Ideal) x0 x1 x2 (ix2 T g) : EReal) = scores (choice x0 x1 x2 T) g := by
  have e : ∀ r : Fin 2, (val_main_values (F := Ideal) x0 x1 x2 (ix3 T g r) : EReal)
      = choice x0 x1 x2 T (mem g (sel (fun k => choice x0 x1 x2 T (mem g k)) r.1)) := fun r => by
    refine (topK_stack (val_main_v14 (F := Ideal) x0 x1 x2) _ (by decide) T g r (fun k => ?_)).trans ?_
    · rw [v14_eq]
      exact hf _
    · simp only [v14_eq]
  rw [val_main_v15_apply]
  refine (congrArg₂ (fun a b : EReal => a + b) Ideal.ofBits_zero_f32 (Fin.sum_univ_two _)).trans ?_
  rw [zero_add]
  unfold scores
  rw [show nexts (fun k => choice x0 x1 x2 T (mem g k)) 1 (sel (fun k => choice x0 x1 x2 T (mem g k)) 1)
      = choice x0 x1 x2 T (mem g (sel (fun k => choice x0 x1 x2 T (mem g k)) 1)) from
    nexts_sel (fun k => choice x0 x1 x2 T (mem g k)) (fun k => hf _) 1 (by decide)]
  refine congrArg₂ (fun a b : EReal => a + b) ?_ ?_
  · exact (congrArg _ (eq_ix3 (n0 := 32768) (n1 := 8) (n2 := 2) _)).trans (e 0)
  · exact (congrArg _ (eq_ix3 (n0 := 32768) (n1 := 8) (n2 := 2) _)).trans (e 1)

theorem v22_eq (g : Fin 8) : val_main_v22 (F := Ideal) x0 x1 x2 (ix2 T g)
    = BitVec.ofBool (decide (∃ r : Fin 4, sel (scores (choice x0 x1 x2 T)) r.1 = g)) := by
  have hs : (fun g => (val_main_v15 (F := Ideal) x0 x1 x2 (ix2 T g) : EReal)) = scores (choice x0 x1 x2 T) := funext (v15_eq x0 x1 x2 T hf)
  have h3 : ∀ r : Fin 4, val_main_indices_3 (F := Ideal) x0 x1 x2 (ix2 T r) = BitVec.ofNat 32 (sel (scores (choice x0 x1 x2 T)) r.1).1 := fun r => by
    refine (topK_matrix (val_main_v15 (F := Ideal) x0 x1 x2) _ (by decide) T r (fun g => ?_)).trans (by rw [hs])
    rw [v15_eq x0 x1 x2 T hf]
    exact scores_low hf g
  have h21 : ∀ r : Fin 4, val_main_v21 (F := Ideal) x0 x1 x2 (ix3 T r g) = BitVec.ofBool (decide (sel (scores (choice x0 x1 x2 T)) r.1 = g)) := fun r => by
    rw [val_main_v21_apply, val_main_v19_apply, val_main_v16_apply, val_main_v20_apply, val_main_v18_apply, val_main_v17_apply]
    refine (congrArg₂ (IntOp.cmpi .eq) ((congrArg _ (eq_ix2 (n0 := 32768) (n1 := 4) _)).trans (h3 r)) rfl).trans ?_
    refine (word_eq _ g.1 (by omega) (by omega)).trans ?_
    simp only [Fin.ext_iff]
  unfold val_main_v22
  have hr : S32768x4x8.Reduces [1] S32768x8 := by decide
  have hl : ∀ r : Fin 4, hr.lift (ix2 T g) r = (ix3 T r g : S32768x4x8.Idx) := fun r => funext fun a => by
    match a with
    | ⟨0, _⟩ => rfl
    | ⟨1, _⟩ => rfl
    | ⟨2, _⟩ => rfl
  have hf : (val_main_v21 (F := Ideal) x0 x1 x2 ∘ hr.lift (ix2 T g)) = fun r : Fin 4 => BitVec.ofBool (decide (sel (scores (choice x0 x1 x2 T)) r.1 = g)) :=
    funext fun r => by
      rw [Function.comp_apply, hl r]
      exact h21 r
  rw [Host.reduce_eq_fold_single IntOp.ori _ _ reducesTo_S32768x4x8_S32768x8_d1 hr h_S_, hf]
  exact (fold_or (Finset.univ : Finset (Fin 4)) (fun r => sel (scores (choice x0 x1 x2 T)) r.1 = g)).trans (by simp)

theorem v25_eq (e : Fin 64) : (val_main_v25 (F := Ideal) x0 x1 x2 (ix2 T e) : EReal) = maskedCol (choice x0 x1 x2 T) e := by
  have h : val_main_v24 (F := Ideal) x0 x1 x2 (ix2 T e)
      = BitVec.ofBool (decide (∃ r : Fin 4, sel (scores (choice x0 x1 x2 T)) r.1 = grp e)) := by
    rw [val_main_v24_apply, val_main_v23_apply, ← v22_eq x0 x1 x2 T hf]
    refine congrArg _ (funext fun a => Fin.ext ?_)
    match a with
    | ⟨0, _⟩ => show (T.1 * 64 + e.1) / 64 = T.1; omega
    | ⟨1, _⟩ => show (T.1 * 64 + e.1) / 8 % 8 = e.1 / 8; omega
  rw [val_main_v25_apply, h, val_main_call0_v1_apply, val_main_call0_v0_apply, val_main_cst_4_apply]
  exact select_bool _ _ _

/-- The experts the reference chooses. -/
theorem indices_eq (r : Fin 8) : val_main_indices_6 (F := Ideal) x0 x1 x2 (ix2 T r) = BitVec.ofNat 32 (sel (maskedCol (choice x0 x1 x2 T)) r.1).1 := by
  have hs : (fun e => (val_main_v25 (F := Ideal) x0 x1 x2 (ix2 T e) : EReal)) = maskedCol (choice x0 x1 x2 T) := funext (v25_eq x0 x1 x2 T hf)
  refine (topK_matrix (val_main_v25 (F := Ideal) x0 x1 x2) _ (by decide) T r (fun e => ?_)).trans (by rw [hs])
  rw [v25_eq x0 x1 x2 T hf]
  exact maskedCol_low hf e

theorem v49_eq (r : Fin 8) : val_main_v49 (F := Ideal) x0 x1 x2 (ix2 r T) = BitVec.ofNat 32 (sel (maskedCol (choice x0 x1 x2 T)) r.1).1 := by
  rw [val_main_v49_apply]
  exact (congrArg _ (eq_ix2 (n0 := 32768) (n1 := 8) _)).trans (indices_eq x0 x1 x2 T hf r)

end

/-! ### The entries at given positions of each row -/

/-- One entry of each row for each position. -/
abbrev rowDims := gather_S32768x64_S32768x8x1_S32768x8_n_1_0_0_1_2_11

/-- A start index in range is the position itself. -/
theorem gather_row {α : Type} (x : S32768x64.Idx → α) (idx : IVec S32768x8x1 32) (T : Fin 32768) (r : Fin 8) (e : Fin 64)
    (h : idx (ix3 T r 0) = BitVec.ofNat 32 e.1) :
    Host.gather rowDims x idx (ix2 T r) = x (ix2 T e) := by
  have h1 : (1 : Fin 2) ∈ rowDims.startIndexMap := by decide
  have hs : rowDims.siIdx (ix2 T r) ⟨_, List.idxOf_lt_length_iff.2 h1⟩ = ix3 T r 0 :=
    funext fun b => Fin.ext (match b with
      | ⟨0, _⟩ => rfl
      | ⟨1, _⟩ => rfl
      | ⟨2, _⟩ => rfl)
  have he : (BitVec.ofNat 32 e.1).toInt.toNat = e.1 := by
    have : ∀ e : Fin 64, (BitVec.ofNat 32 e.1).toInt.toNat = e.1 := by decide
    exact this e
  refine congrArg x (funext fun a => Fin.ext ?_)
  match a with
  | ⟨0, _⟩ =>
    show rowDims.start (ix2 T r) idx 0 + rowDims.batchCoord (ix2 T r) 0 + rowDims.offCoord (ix2 T r) 0 = T.1
    rw [GatherDims.start_batching _ _ _ _ (by decide), GatherDims.offCoord_eq_zero _ _ _ (by decide), Nat.zero_add, Nat.add_zero,
      GatherDims.batchCoord, dif_pos (by decide)]
    rfl
  | ⟨1, _⟩ =>
    show rowDims.start (ix2 T r) idx 1 + rowDims.batchCoord (ix2 T r) 1 + rowDims.offCoord (ix2 T r) 1 = e.1
    rw [GatherDims.batchCoord_eq_zero _ _ _ (by decide), GatherDims.offCoord_eq_zero _ _ _ (by decide), Nat.add_zero,
      GatherDims.start, dif_pos h1, hs, h, he]
    exact Nat.min_eq_left (Nat.le_of_lt_succ e.2)

/-- A position is neither negative nor past the end. -/
theorem place (e : Fin 64) :
    Scalar.select (IntOp.cmpi .slt (BitVec.ofNat 32 e.1) 0#32) (IntOp.addi (BitVec.ofNat 32 e.1) 64#32) (BitVec.ofNat 32 e.1) = BitVec.ofNat 32 e.1
    ∧ IntOp.andi (IntOp.cmpi .sge (BitVec.ofNat 32 e.1) 0#32) (IntOp.cmpi .sle (BitVec.ofNat 32 e.1) 63#32) = 1#1 := by
  revert e
  decide

section
variable (x0 : FVec Ideal S32768x2048 .f32) (x1 : FVec Ideal S4x2048x64 .f32) (x2 : FVec Ideal S4x64 .f32)
  (hf : ∀ T e, ⊥ < choice x0 x1 x2 T e)
include hf

theorem starts_eq (T : Fin 32768) (r : Fin 8) :
    val_main_call1_v5 (F := Ideal) x0 x1 x2 (ix3 T r 0) = BitVec.ofNat 32 (sel (maskedCol (choice x0 x1 x2 T)) r.1).1 := by
  rw [val_main_call1_v5_apply]
  have hi : idx_main_call1_v5 (ix3 T r 0) = ix2 T r := funext fun a => Fin.ext (by
    match a with
    | ⟨0, _⟩ => show ((T.1 * 8 + r.1) * 1 + 0) / 8 = T.1; omega
    | ⟨1, _⟩ => show ((T.1 * 8 + r.1) * 1 + 0) % 8 = r.1; omega)
  rw [hi, val_main_call1_v4_apply, val_main_call1_v1_apply, val_main_call1_v3_apply, val_main_call1_v0_apply, val_main_call1_v2_apply,
    val_main_call1_c_apply, val_main_call1_c_0_apply, indices_eq x0 x1 x2 T (hf T) r]
  exact (place _).1

/-- The scores the reference takes. -/
theorem v26_eq (T : Fin 32768) (r : Fin 8) : (val_main_v26 (F := Ideal) x0 x1 x2 (ix2 T r) : EReal)
    = val_main_v8 (F := Ideal) x0 x1 (ix2 T (sel (maskedCol (choice x0 x1 x2 T)) r.1)) := by
  have h12 : val_main_call1_v12 (F := Ideal) x0 x1 x2 (ix2 T r) = 1#1 := by
    unfold val_main_call1_v12
    refine Host.reduce_andi_one _ _ _ _ _ rfl fun i => ?_
    obtain ⟨T, r, rfl⟩ : ∃ (T : Fin 32768) (r : Fin 8), i = ix3 T r 0 := ⟨i 0, i 1, (eq_ix3 (n0 := 32768) (n1 := 8) (n2 := 1) i).trans
      (congrArg (ix3 _ _) (Fin.ext (Nat.lt_one_iff.1 (i 2).isLt)))⟩
    rw [val_main_call1_v11_apply, val_main_call1_v7_apply, val_main_call1_v10_apply, starts_eq x0 x1 x2 hf, val_main_call1_v6_apply,
      val_main_call1_v9_apply, val_main_call1_v8_apply, val_main_call1_c_1_apply, val_main_call1_c_2_apply]
    exact (place _).2
  rw [val_main_v26_apply, h12]
  exact gather_row (val_main_v8 (F := Ideal) x0 x1) _ T r _ (starts_eq x0 x1 x2 hf T r)

end

end Cert.Route

end
-- ==== Proof.Route.lean ====
/- The router's four results against the reference's. -/
module

public import proofs.«01_k».proof.Proof.RouteKernel
public import proofs.«01_k».proof.Proof.RouteRank
public import proofs.«01_k».proof.Proof.RouteRef
public import Idealize.ShloMosaic.Lib.ReduceAll

@[expose] public section

noncomputable section

namespace Cert.Route

open Idealize.ShloMosaic Idealize.ShloMosaic.TcCoe Idealize.SL.Sem
open Idealize.ShloMosaic.Pipeline (Dat)
open Cert.Kernel6Ideal Cert.Kernel6Ideal.Gen
open scoped BigOperators

/-- The side conditions of the precondition. -/
instance routableFacts : Cert.Pre_routable.Facts where
  bcast_S_S32768x2048 := by decide
  reducesTo_S32768x2048_S_d0_1 := by decide
  h_S_ := by decide
  slices_S4x2048x64_S1x2048x64_0_0_0 := by decide
  shapeCasts_S1x2048x64_S2048x64 := by decide
  bcast_S_S2048x64 := by decide
  reducesTo_S2048x64_S_d0_1 := by decide
  slices_S4x64_S1x64_0_0 := by decide
  shapeCasts_S1x64_S64 := by decide
  bcast_S_S64 := by decide
  reducesTo_S64_S_d0 := by decide

theorem pinf : Ideal.ofBits .f32 0x7F800000#32 = ⊤ := by simp [Ideal.ofBits, Ideal.ieee]

theorem and_one {a b : BitVec 1} (h : IntOp.andi a b = 1#1) : a = 1#1 ∧ b = 1#1 := by
  revert a b
  decide

theorem real_of_marks {x : EReal} (h : IntOp.andi (BitVec.ofBool (decide (x < Ideal.ofBits .f32 0x7F800000#32)))
    (BitVec.ofBool (decide (Ideal.ofBits .f32 0xFF800000#32 < x))) = 1#1) : IsReal x := by
  obtain ⟨ha, hb⟩ := and_one h
  rw [WordCmp.ofBool_decide_eq_one_iff, pinf] at ha
  rw [WordCmp.ofBool_decide_eq_one_iff, ninf] at hb
  exact ⟨x.toReal, (EReal.coe_toReal ha.ne hb.ne').symm⟩

/-- A mark, as a number. -/
theorem real_mark (p : Prop) [Decidable p] : (FloatOps.uitofp (F := Ideal) .f32 (BitVec.ofBool (decide p)) : EReal) = if p then 1 else 0 := by
  by_cases h : p
  · rw [if_pos h, decide_eq_true h]
    show (((BitVec.ofBool true).toNat : ℝ) : EReal) = 1
    simp
  · rw [if_neg h, decide_eq_false h]
    show (((BitVec.ofBool false).toNat : ℝ) : EReal) = 0
    simp

theorem ref_sooner (T k : Fin 32768) : (Cert.Reference6Ideal.Read.val_main_v43 (F := Ideal) (ix2 T k) : EReal) = if k.1 < T.1 then 1 else 0 := by
  have h : Cert.Reference6Ideal.Read.val_main_v42 (F := Ideal) (ix2 T k) = BitVec.ofBool (decide (k.1 < T.1)) := by
    rw [Cert.Reference6Ideal.Read.val_main_v42_apply, Cert.Reference6Ideal.Read.val_main_v40_apply, Cert.Reference6Ideal.Read.val_main_v37_apply,
      Cert.Reference6Ideal.Read.val_main_v36_apply, Cert.Reference6Ideal.Read.val_main_v41_apply, Cert.Reference6Ideal.Read.val_main_v39_apply,
      Cert.Reference6Ideal.Read.val_main_v38_apply]
    exact WordCmp.cmpi_slt_ofNat (w := 32) (a := k.1) (b := T.1) (by omega) (by omega)
  rw [Cert.Reference6Ideal.Read.val_main_v43_apply, h]
  exact real_mark _

/-- One choice out of eight different ones marks an expert at most once. -/
theorem sum_marks (f : Fin 64 → EReal) (hf : ∀ e, ⊥ < f e) (e : Fin 64) :
    (∑ r : Fin 8, if sel f r.1 = e then (1 : EReal) else 0) = if ∃ r : Fin 8, sel f r.1 = e then 1 else 0 := by
  by_cases h : ∃ r : Fin 8, sel f r.1 = e
  · rw [if_pos h]
    obtain ⟨r, hr⟩ := h
    refine (Finset.sum_eq_single r (fun q _ hq => if_neg fun h => hq ?_) (fun h => absurd (Finset.mem_univ r) h)).trans (if_pos hr)
    exact Fin.ext (sel_inj f hf q.1 r.1 (by omega) (by omega) (h.trans hr.symm))
  · rw [if_neg h]
    exact Finset.sum_eq_zero fun r _ => if_neg fun hr => h ⟨r, hr⟩

section
variable (X : FVec Ideal S32768x2048 .f32) (W : FVec Ideal S4x2048x64 .f32) (B : FVec Ideal S4x64 .f32)

theorem slice_weights (k : Fin 2048) (e : Fin 64) :
    shapeCast S2048x64 (extractStridedSlice S1x2048x64 ![0, 0, 0] W routableFacts.slices_S4x2048x64_S1x2048x64_0_0_0)
      routableFacts.shapeCasts_S1x2048x64_S2048x64 (ix2 k e) = W (ix3 0 k e) := by
  rw [shapeCast_apply _ routableFacts.shapeCasts_S1x2048x64_S2048x64 (ix2 k e) (ix3 0 k e) (by
    rewrite [Shape.rowMajor_val_three, Shape.rowMajor_val_two]
    show (0 * 2048 + k.1) * 64 + e.1 = k.1 * 64 + e.1
    omega)]
  exact extractStridedSlice_apply ![0, 0, 0] W routableFacts.slices_S4x2048x64_S1x2048x64_0_0_0 (ix3 0 k e) (ix3 0 k e) (fun a => match a with
    | ⟨0, _⟩ => rfl
    | ⟨1, _⟩ => (Nat.zero_add _).symm
    | ⟨2, _⟩ => (Nat.zero_add _).symm)

theorem slice_bias (e : Fin 64) :
    shapeCast S64 (extractStridedSlice S1x64 ![0, 0] B routableFacts.slices_S4x64_S1x64_0_0) routableFacts.shapeCasts_S1x64_S64 (ix1 e) = B (ix2 0 e) := by
  rw [shapeCast_apply _ routableFacts.shapeCasts_S1x64_S64 (ix1 e) (ix2 0 e) (by
    rewrite [Shape.rowMajor_val_one, Shape.rowMajor_val_two]; show 0 * 64 + e.val = e.val; omega)]
  exact extractStridedSlice_apply ![0, 0] B routableFacts.slices_S4x64_S1x64_0_0 (ix2 0 e) (ix2 0 e) (fun a => match a with
    | ⟨0, _⟩ => rfl
    | ⟨1, _⟩ => (Nat.zero_add _).symm)

/-- What the precondition says: rows and weights are reals, and no bias is −∞. -/
theorem of_routable (h : Cert.Pre_routable.fn (F := Ideal) X W B = fun _ => 1#1) :
    (∀ T k, IsReal (X (ix2 T k))) ∧ (∀ k e, IsReal (W (ix3 0 k e))) ∧ ∀ e, ⊥ < (B (ix2 0 e) : EReal) := by
  have : Subsingleton Cert.Pre_routable.S_.Idx := ⟨fun a b => funext fun q => q.elim0⟩
  obtain ⟨h12, h3⟩ := and_one (congrFun h ix0)
  obtain ⟨h1, h2⟩ := and_one h12
  refine ⟨fun T k => ?_, fun k e => ?_, fun e => ?_⟩
  · exact real_of_marks (Host.reduce_andi_all _ _ _ _ _ h1 (ix2 T k))
  · rw [← slice_weights W k e]
    exact real_of_marks (Host.reduce_andi_all _ _ _ _ _ h2 (ix2 k e))
  · rw [← slice_bias B e]
    have := Host.reduce_andi_all _ _ _ _ _ h3 (ix1 e)
    exact ninf ▸ (WordCmp.ofBool_decide_eq_one_iff _).mp this

theorem ref_score (T : Fin 32768) (e : Fin 64) :
    (Cert.Reference6Ideal.Read.val_main_v8 (F := Ideal) X W (ix2 T e) : EReal) = tokenScore X W T e := by
  unfold tokenScore prob
  have hd : (Cert.Reference6Ideal.Read.val_main_v2 (F := Ideal) X W (ix2 T e) : EReal) = ∑ k : Fin 2048, X (ix2 T k) * W (ix3 0 k e) := by
    rw [Cert.Reference6Ideal.Read.val_main_v2_apply]
    refine Finset.sum_congr rfl fun k _ => congrArg₂ (fun a b : EReal => a * b) (congrArg X (funext fun a => ?_)) ?_
    · match a with
      | ⟨0, _⟩ => rfl
      | ⟨1, _⟩ => rfl
    · rw [Cert.Reference6Ideal.Read.val_main_v1_apply, Cert.Reference6Ideal.Read.val_main_v0_apply]
      refine congrArg W (funext fun a => Fin.ext ?_)
      match a with
      | ⟨0, _⟩ => rfl
      | ⟨1, _⟩ => show (k.1 * 64 + e.1) / 64 % 2048 = k.1; omega
      | ⟨2, _⟩ => show (k.1 * 64 + e.1) % 64 = e.1; omega
  simp only [Cert.Reference6Ideal.Read.val_main_v8_apply, Cert.Reference6Ideal.Read.val_main_v7_apply, Cert.Reference6Ideal.Read.val_main_v6_apply,
    Cert.Reference6Ideal.Read.val_main_v5_apply, Cert.Reference6Ideal.Read.val_main_v4_apply, Cert.Reference6Ideal.Read.val_main_v3_apply,
    Cert.Reference6Ideal.Read.val_main_cst_apply, Cert.Reference6Ideal.Read.val_main_cst_0_apply, pointwise, hd]

theorem ref_choice (T : Fin 32768) : choice X W B T = tokenChoice X W B T := by
  funext e
  unfold choice tokenChoice
  rw [Cert.Reference6Ideal.Read.val_main_v13_apply]
  refine congrArg₂ (fun a b : EReal => a + b) (ref_score X W T e) ?_
  rw [Cert.Reference6Ideal.Read.val_main_v12_apply, Cert.Reference6Ideal.Read.val_main_v11_apply, Cert.Reference6Ideal.Read.val_main_v10_apply,
    Cert.Reference6Ideal.Read.val_main_v9_apply]
  refine congrArg B (funext fun a => Fin.ext ?_)
  match a with
  | ⟨0, _⟩ => rfl
  | ⟨1, _⟩ => show e.1 % 64 = e.1; omega

/-- The logistic function of a real. -/
theorem prob_real {l : EReal} (h : IsReal l) : ∃ r : ℝ, 0 < r ∧ prob l = r := by
  obtain ⟨l, rfl⟩ := h
  have hp : 0 < 1 + Real.exp (-l) := by positivity
  refine ⟨1 / (1 + Real.exp (-l)), by positivity, ?_⟩
  unfold prob
  rw [← EReal.coe_neg, show Ideal.exp ((-l : ℝ) : EReal) = ((Real.exp (-l) : ℝ) : EReal) from rfl, ← EReal.coe_one, ← EReal.coe_add,
    Ideal.div_coe hp.ne', ← EReal.coe_mul]
  exact congrArg _ (by ring)

theorem sum_real {ι : Type} (s : Finset ι) (f : ι → EReal) (h : ∀ i, IsReal (f i)) : IsReal (∑ i ∈ s, f i) := by
  classical
  induction s using Finset.induction_on with
  | empty => exact ⟨0, rfl⟩
  | insert a s ha ih =>
    rw [Finset.sum_insert ha]
    obtain ⟨p, hp⟩ := h a
    obtain ⟨q, hq⟩ := ih
    exact ⟨p + q, by rw [hp, hq, EReal.coe_add]⟩

variable (hX : ∀ T k, IsReal (X (ix2 T k))) (hW : ∀ k e, IsReal (W (ix3 0 k e)))
include hX hW

theorem tokenScore_real (T : Fin 32768) (e : Fin 64) : ∃ r : ℝ, 0 < r ∧ tokenScore X W T e = r :=
  prob_real (sum_real _ _ fun k => by
    obtain ⟨p, hp⟩ := hX T k
    obtain ⟨q, hq⟩ := hW k e
    exact ⟨p * q, by rw [hp, hq, EReal.coe_mul]⟩)

theorem tokenChoice_low (hB : ∀ e, ⊥ < (B (ix2 0 e) : EReal)) (T : Fin 32768) (e : Fin 64) : ⊥ < tokenChoice X W B T e := by
  unfold tokenChoice
  obtain ⟨r, _, hr⟩ := tokenScore_real X W hX hW T e
  rw [hr]
  exact EReal.bot_lt_add_iff.mpr ⟨EReal.bot_lt_coe r, hB e⟩

theorem ref_experts (hB : ∀ e, ⊥ < (B (ix2 0 e) : EReal)) : Cert.Reference6Ideal.Read.val_main_v49 (F := Ideal) X W B = experts X W B := by
  funext i
  obtain ⟨r, T, rfl⟩ : ∃ (r : Fin 8) (T : Fin 32768), i = ix2 r T := ⟨i 0, i 1, eq_ix2 (n0 := 8) (n1 := 32768) i⟩
  rw [v49_eq X W B T (fun e => by rw [ref_choice]; exact tokenChoice_low X W B hX hW hB T e) r, ref_choice]
  rfl

theorem ref_weights (hB : ∀ e, ⊥ < (B (ix2 0 e) : EReal)) : Cert.Reference6Ideal.Read.val_main_v50 (F := Ideal) X W B = weights X W B := by
  have hf : ∀ T e, ⊥ < choice X W B T e := fun T e => by rw [ref_choice]; exact tokenChoice_low X W B hX hW hB T e
  funext i
  obtain ⟨r, T, rfl⟩ : ∃ (r : Fin 8) (T : Fin 32768), i = ix2 r T := ⟨i 0, i 1, eq_ix2 (n0 := 8) (n1 := 32768) i⟩
  have hq : ∀ q : Fin 8, (Cert.Reference6Ideal.Read.val_main_v26 (F := Ideal) X W B (ix2 T q) : EReal)
      = tokenScore X W T (sel (maskedCol (tokenChoice X W B T)) q.1) := fun q => by
    rw [v26_eq X W B hf T q, ref_score, ref_choice]
  have hs : (Cert.Reference6Ideal.Read.val_main_v29 (F := Ideal) X W B (ix2 T r) : EReal)
      = ∑ q : Fin 8, tokenScore X W T (sel (maskedCol (tokenChoice X W B T)) q.1) := by
    rw [Cert.Reference6Ideal.Read.val_main_v29_apply, Cert.Reference6Ideal.Read.val_main_v28_apply, Cert.Reference6Ideal.Read.val_main_v27_apply]
    refine (congrArg₂ (fun a b : EReal => a + b) Ideal.ofBits_zero_f32 (Finset.sum_congr rfl fun q _ => ?_)).trans (zero_add _)
    exact (congrArg _ (eq_ix2 (n0 := 32768) (n1 := 8) _)).trans (hq q)
  have hi : Cert.Reference6Ideal.Read.idx_main_v50 (ix2 r T) = ix2 T r := eq_ix2 (n0 := 32768) (n1 := 8) _
  rw [Cert.Reference6Ideal.Read.val_main_v50_apply, hi, Cert.Reference6Ideal.Read.val_main_v32_apply, Cert.Reference6Ideal.Read.val_main_v30_apply,
    Cert.Reference6Ideal.Read.val_main_v31_apply, Cert.Reference6Ideal.Read.val_main_cst_8_apply, hq r, hs]
  rfl

theorem ref_mark (hB : ∀ e, ⊥ < (B (ix2 0 e) : EReal)) (T : Fin 32768) (r : Fin 8) (e : Fin 64) :
    (Cert.Reference6Ideal.Read.val_main_v33 (F := Ideal) X W B (ix3 T r e) : EReal)
      = if sel (maskedCol (tokenChoice X W B T)) r.1 = e then 1 else 0 := by
  have hf : ∀ e, ⊥ < choice X W B T e := fun e => by rw [ref_choice]; exact tokenChoice_low X W B hX hW hB T e
  have hw : Cert.Reference6Ideal.Read.val_main_call2_v4 (F := Ideal) X W B (ix3 T r e)
      = BitVec.ofBool (decide (sel (maskedCol (tokenChoice X W B T)) r.1 = e)) := by
    rw [Cert.Reference6Ideal.Read.val_main_call2_v4_apply, Cert.Reference6Ideal.Read.val_main_call2_v2_apply,
      Cert.Reference6Ideal.Read.val_main_call2_v0_apply, Cert.Reference6Ideal.Read.val_main_call2_v3_apply,
      Cert.Reference6Ideal.Read.val_main_call2_v1_apply]
    refine (congrArg₂ (IntOp.cmpi .eq) ((congrArg _ (eq_ix2 (n0 := 32768) (n1 := 8) _)).trans (indices_eq X W B T hf r)) rfl).trans ?_
    rw [ref_choice]
    refine (word_eq _ e.1 (by omega) (by omega)).trans ?_
    simp only [Fin.ext_iff]
  rw [Cert.Reference6Ideal.Read.val_main_v33_apply, hw]
  exact real_mark _

theorem ref_picks (hB : ∀ e, ⊥ < (B (ix2 0 e) : EReal)) (T : Fin 32768) (e : Fin 64) :
    (Cert.Reference6Ideal.Read.val_main_v34 (F := Ideal) X W B (ix2 T e) : EReal) = picks X W B T e := by
  rw [Cert.Reference6Ideal.Read.val_main_v34_apply]
  have hi : ∀ r : Fin 8, Cert.Reference6Ideal.Read.idx_main_v34 (ix2 T e) r = ix3 T r e := fun r => eq_ix3 (n0 := 32768) (n1 := 8) (n2 := 64) _
  simp only [hi, ref_mark X W B hX hW hB]
  refine (congrArg (fun a : EReal => a + _) Ideal.ofBits_zero_f32).trans ((zero_add _).trans ?_)
  exact sum_marks _ (maskedCol_low (tokenChoice_low X W B hX hW hB T)) e

theorem ref_counts (hB : ∀ e, ⊥ < (B (ix2 0 e) : EReal)) : Cert.Reference6Ideal.Read.val_main_v54 (F := Ideal) X W B = counts X W B := by
  funext i
  obtain ⟨e, l, rfl⟩ : ∃ (e : Fin 64) (l : Fin 128), i = ix2 e l := ⟨i 0, i 1, eq_ix2 (n0 := 64) (n1 := 128) i⟩
  rw [Cert.Reference6Ideal.Read.val_main_v54_apply, Cert.Reference6Ideal.Read.val_main_v53_apply, Cert.Reference6Ideal.Read.val_main_v35_apply, counts_apply]
  have hi : ∀ T : Fin 32768, Cert.Reference6Ideal.Read.idx_main_v35 (Cert.Reference6Ideal.Read.idx_main_v53 (Cert.Reference6Ideal.Read.idx_main_v54 (ix2 e l))) T
      = ix2 T e := fun T => eq_ix2 (n0 := 32768) (n1 := 64) _
  simp only [hi, ref_picks X W B hX hW hB]
  exact (congrArg (fun a : EReal => a + ∑ T : Fin 32768, picks X W B T e) Ideal.ofBits_zero_f32).trans (zero_add _)

theorem ref_upTo (hB : ∀ e, ⊥ < (B (ix2 0 e) : EReal)) (T : Fin 32768) (e : Fin 64) :
    (Cert.Reference6Ideal.Read.val_main_v44 (F := Ideal) X W B (ix2 T e) : EReal) = upTo X W B T.1 e := by
  rw [Cert.Reference6Ideal.Read.val_main_v44_apply]
  have hl : ∀ k : Fin 32768, Cert.Reference6Ideal.Read.lidx_main_v44 (ix2 T e) k = ix2 T k := fun k => eq_ix2 (n0 := 32768) (n1 := 32768) _
  have hr : ∀ k : Fin 32768, Cert.Reference6Ideal.Read.ridx_main_v44 (ix2 T e) k = ix2 k e := fun k => eq_ix2 (n0 := 32768) (n1 := 64) _
  simp only [hl, hr, ref_sooner, ref_picks X W B hX hW hB]
  unfold upTo
  refine Eq.trans (Finset.sum_congr rfl fun k _ => ?_) (sum_first 32768 T.1 T.2.le fun k => if h : k < 32768 then picks X W B ⟨k, h⟩ e else 0)
  have hd : (if h : k.1 < 32768 then picks X W B ⟨k.1, h⟩ e else 0) = picks X W B k e := dif_pos k.2
  exact (mul_comm _ _).trans (congrArg (fun a : EReal => a * (if k.1 < T.1 then 1 else 0)) hd.symm)

theorem ref_ranks (hB : ∀ e, ⊥ < (B (ix2 0 e) : EReal)) : Cert.Reference6Ideal.Read.val_main_v52 (F := Ideal) X W B = ranks X W B := by
  funext i
  obtain ⟨r, T, rfl⟩ : ∃ (r : Fin 8) (T : Fin 32768), i = ix2 r T := ⟨i 0, i 1, eq_ix2 (n0 := 8) (n1 := 32768) i⟩
  have hi : Cert.Reference6Ideal.Read.idx_main_v52 (ix2 r T) = ix2 T r := eq_ix2 (n0 := 32768) (n1 := 8) _
  rw [Cert.Reference6Ideal.Read.val_main_v52_apply, hi, Cert.Reference6Ideal.Read.val_main_v51_apply]
  show _ = rank X W B r T
  unfold rank
  refine congrArg (FloatOps.fptosi (F := Ideal) (φ := .f32) 32) ?_
  rw [Cert.Reference6Ideal.Read.val_main_v48_apply]
  have hk : ∀ e : Fin 64, (Cert.Reference6Ideal.Read.val_main_v47 (F := Ideal) X W B (Cert.Reference6Ideal.Read.idx_main_v48 (ix2 T r) e) : EReal)
      = if sel (maskedCol (tokenChoice X W B T)) r.1 = e then upTo X W B T.1 e else 0 := fun e => by
    have h3 : Cert.Reference6Ideal.Read.idx_main_v48 (ix2 T r) e = ix3 T r e := eq_ix3 (n0 := 32768) (n1 := 8) (n2 := 64) _
    have h2 : Cert.Reference6Ideal.Read.idx_main_v45 (Cert.Reference6Ideal.Read.idx_main_v46 (ix3 T r e)) = ix2 T e := eq_ix2 (n0 := 32768) (n1 := 64) _
    rw [h3, Cert.Reference6Ideal.Read.val_main_v47_apply, Cert.Reference6Ideal.Read.val_main_v46_apply, Cert.Reference6Ideal.Read.val_main_v45_apply, h2,
      ref_upTo X W B hX hW hB, ref_mark X W B hX hW hB]
    show (if _ then (1 : EReal) else 0) * _ = _
    rw [ite_mul, one_mul, zero_mul]
  simp only [hk]
  refine (congrArg (fun a : EReal => a + _) Ideal.ofBits_zero_f32).trans ((zero_add _).trans ?_)
  exact (Finset.sum_ite_eq Finset.univ (sel (maskedCol (tokenChoice X W B T)) r.1) fun e => upTo X W B T.1 e).trans (if_pos (Finset.mem_univ _))

end

theorem algebraic : Cert.algebraic_Kernel6Ideal_Reference6Ideal_pre_routable := by
  intro m ρ m' ρ' hpre hagree
  refine ⟨fun c => (dats m 0 c).arrAt 3 cfg0.N, fun c => (dats m 0 c).arrAt 4 cfg0.N, fun c => (dats m 0 c).arrAt 5 cfg0.N, fun c => (dats m 0 c).arrAt 6 cfg0.N, ?_, ?_⟩
  · exact (θ_run _ _ _).mono (fun _ h c => ⟨(h c).1, (h c).2.1, (h c).2.2.1, (h c).2.2.2.1, (h c).2.2.2.2⟩) (Value.run_blocks (F := Ideal) m ρ)
  refine (θ_run Cert.Reference6Ideal.defs _ _).mono (fun _ h c => ⟨(h c).1.trans ?_, (h c).2.1.trans ?_, (h c).2.2.1.trans ?_, (h c).2.2.2.1.trans ?_, (h c).2.2.2.2⟩)
    (Cert.Reference6Ideal.Value.run (F := Ideal) m' ρ') <;> obtain ⟨hX, hW, hB⟩ := of_routable _ _ _ (hpre c)
  · refine (Cert.Reference6Ideal.Read.val_main_v49_eq (F := Ideal) _ _ _).trans ?_
    rw [(hagree c).1, (hagree c).2.1, (hagree c).2.2]
    show _ = (dats m 0 c).arrAt 3 cfg0.N
    rw [final_experts m c hX hW]
    exact ref_experts _ _ _ hX hW hB
  · refine (Cert.Reference6Ideal.Read.val_main_v50_eq (F := Ideal) m' c).trans ?_
    rw [(hagree c).1, (hagree c).2.1, (hagree c).2.2]
    show _ = (dats m 0 c).arrAt 4 cfg0.N
    rw [final_weights m c hX hW]
    exact ref_weights _ _ _ hX hW hB
  · refine (Cert.Reference6Ideal.Read.val_main_v52_eq (F := Ideal) m' c).trans ?_
    rw [(hagree c).1, (hagree c).2.1, (hagree c).2.2]
    show _ = (dats m 0 c).arrAt 5 cfg0.N
    rw [final_ranks m c hX hW]
    exact ref_ranks _ _ _ hX hW hB
  · refine (Cert.Reference6Ideal.Read.val_main_v54_eq (F := Ideal) _ _ _).trans ?_
    rw [(hagree c).1, (hagree c).2.1, (hagree c).2.2]
    show _ = (dats m 0 c).arrAt 6 cfg0.N
    rw [final_counts m c hX hW]
    exact ref_counts _ _ _ hX hW hB

end Cert.Route

end
-- ==== Proof.lean ====
/- The certificate. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.InProj
public import proofs.«01_k».proof.Proof.OutRun
public import proofs.«01_k».proof.Proof.OutRunIdeal
public import proofs.«01_k».proof.Proof.Out
public import proofs.«01_k».proof.Proof.Merge
public import proofs.«01_k».proof.Proof.Attn
public import proofs.«01_k».proof.Proof.ConvRef
public import proofs.«01_k».proof.Proof.Route
public import Idealize.ShloMosaic.Lib.Quiescent
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal := fun m ρ _ =>
  (θ_run Cert.ReferenceIdeal.defs _ _).mono
    (fun r h => ⟨fun c => (h c).2, sem_eq_zero_of_no_sems rfl r.2⟩) (Cert.ReferenceIdeal.Value.run (F := Ideal) m ρ)

theorem frame_reference2 : Cert.quiescent_Reference2Ideal := fun m ρ _ =>
  (θ_run Cert.Reference2Ideal.defs _ _).mono
    (fun r h => ⟨fun c => (h c).2, sem_eq_zero_of_no_sems rfl r.2⟩) (Cert.Reference2Ideal.Value.run (F := Ideal) m ρ)

theorem frame_reference3 : Cert.quiescent_Reference3Ideal := fun m ρ _ =>
  (θ_run Cert.Reference3Ideal.defs _ _).mono
    (fun r h => ⟨fun c => (h c).2, sem_eq_zero_of_no_sems rfl r.2⟩) (Cert.Reference3Ideal.Value.run (F := Ideal) m ρ)

theorem frame_reference4 : Cert.quiescent_Reference4Ideal := fun m ρ _ =>
  (θ_run Cert.Reference4Ideal.defs _ _).mono
    (fun r h => ⟨fun c => (h c).2, sem_eq_zero_of_no_sems rfl r.2⟩) (Cert.Reference4Ideal.Value.run (F := Ideal) m ρ)

theorem frame_reference5 : Cert.quiescent_Reference5Ideal := fun m ρ _ =>
  (θ_run Cert.Reference5Ideal.defs _ _).mono
    (fun r h => ⟨fun c => (h c).2.2, sem_eq_zero_of_no_sems rfl r.2⟩) (Cert.Reference5Ideal.Value.run (F := Ideal) m ρ)

theorem frame_reference6 : Cert.quiescent_Reference6Ideal := fun m ρ _ =>
  (θ_run Cert.Reference6Ideal.defs _ _).mono
    (fun r h => ⟨fun c => (h c).2.2.2.2, sem_eq_zero_of_no_sems rfl r.2⟩) (Cert.Reference6Ideal.Value.run (F := Ideal) m ρ)

/-- The attention, the input projection, the branch merge, the output projection with its norm, the convolution branches and the
    router, each against its own reference. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Attn.finiteFacts, Cert.Route.routableFacts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Out.quiet m ρ, fun m ρ _ => Cert.Kernel4Ideal.Out.quiet m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ,
    fun m ρ _ => Cert.Kernel6Ideal.Gen.frame m ρ, frame_reference6, fun m ρ _ => frame_reference6 m ρ trivial,
    IdealRules.named_const.statement Cert.KernelIdeal.κ "mask" .f32 0xF149F2CA#32 ⊥ rfl, Cert.Attn.algebraic,
    trivial, Cert.InProj.algebraic, trivial, Cert.Merge.algebraic,
    ⟨IdealRules.bf16_pair.bufferStatement _ _, IdealRules.bf16_pair.bufferStatement _ _, IdealRules.bf16_pair.packStatement _,
      IdealRules.bf16_pair.statement _ _⟩, Cert.OutProj.algebraic,
    trivial, Cert.Conv.algebraic,
    trivial, Cert.Route.algebraic⟩

end Cert.Proof

end
